-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "inv_norm" .f32 0x3F68B4C4#32 ((2097152 / 2307077 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v534)) (v1 : (c : Dev Cert.KernelIdeal.nD) → Buf (Elt Ideal) ((c.tc : Thread Cert.KernelIdeal.nD Cert.KernelIdeal.τ).loc Cert.KernelIdeal.main_v535)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v534) = v0 c
          ∧ r.2.mem ((c.tc : Thread Cert.KernelIdeal.nD Cert.KernelIdeal.τ).loc Cert.KernelIdeal.main_v535) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v934) = v0 c
          ∧ r.2.mem ((c.tc : Thread Cert.ReferenceIdeal.nD Cert.ReferenceIdeal.τ).loc Cert.ReferenceIdeal.main_v810) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x100000x3 : Shape := ⟨3, ![4, 100000, 3]⟩
abbrev S3x32 : Shape := ⟨2, ![3, 32]⟩
abbrev S5x64x32 : Shape := ⟨3, ![5, 64, 32]⟩
abbrev S5x32 : Shape := ⟨2, ![5, 32]⟩
abbrev S5x32x32 : Shape := ⟨3, ![5, 32, 32]⟩
abbrev S32x32 : Shape := ⟨2, ![32, 32]⟩
abbrev S32 : Shape := ⟨1, ![32]⟩
abbrev S400000x3 : Shape := ⟨2, ![400000, 3]⟩
abbrev S1x64x32 : Shape := ⟨3, ![1, 64, 32]⟩
abbrev S64x32 : Shape := ⟨2, ![64, 32]⟩
abbrev S_ : Shape := ⟨0, ![]⟩
abbrev S128x64 : Shape := ⟨2, ![128, 64]⟩
abbrev S1 : Shape := ⟨1, ![1]⟩
abbrev S2 : Shape := ⟨1, ![2]⟩
abbrev S1x32 : Shape := ⟨2, ![1, 32]⟩
abbrev S1x32x32 : Shape := ⟨3, ![1, 32, 32]⟩
abbrev S400000x32 : Shape := ⟨2, ![400000, 32]⟩
abbrev S2000x3 : Shape := ⟨2, ![2000, 3]⟩
abbrev S2000x32 : Shape := ⟨2, ![2000, 32]⟩
abbrev S2000x1 : Shape := ⟨2, ![2000, 1]⟩
abbrev S2000x64 : Shape := ⟨2, ![2000, 64]⟩
abbrev S2000x128 : Shape := ⟨2, ![2000, 128]⟩
abbrev S49152x32 : Shape := ⟨2, ![49152, 32]⟩
abbrev S49152 : Shape := ⟨1, ![49152]⟩
abbrev S400000x1 : Shape := ⟨2, ![400000, 1]⟩
abbrev S400000 : Shape := ⟨1, ![400000]⟩
abbrev S49152x1 : Shape := ⟨2, ![49152, 1]⟩
abbrev S12x4096x32 : Shape := ⟨3, ![12, 4096, 32]⟩
abbrev S12x32x4096 : Shape := ⟨3, ![12, 32, 4096]⟩
abbrev S12x32x64x64 : Shape := ⟨4, ![12, 32, 64, 64]⟩
abbrev S4x100000x32 : Shape := ⟨3, ![4, 100000, 32]⟩

abbrev nBuf : Space → Nat
  | .hbm => 695
  | .vmem => 53
  | .smem => 0
  | _ => 0

abbrev hbmTy0_0 (i : Nat) : BufTy := match i % 128 with
  | 0 => ⟨S4x100000x3, .f32⟩
  | 1 => ⟨S3x32, .f32⟩
  | 2 => ⟨S5x64x32, .f32⟩
  | 3 => ⟨S5x32, .f32⟩
  | 4 => ⟨S5x32x32, .f32⟩
  | 5 => ⟨S5x32, .f32⟩
  | 6 => ⟨S5x64x32, .f32⟩
  | 7 => ⟨S32x32, .f32⟩
  | 8 => ⟨S32, .f32⟩
  | 9 => ⟨S400000x3, .f32⟩
  | 10 => ⟨S1x64x32, .f32⟩
  | 11 => ⟨S64x32, .f32⟩
  | 12 => ⟨S1x64x32, .f32⟩
  | 13 => ⟨S64x32, .f32⟩
  | 14 => ⟨S_, .f32⟩
  | 15 => ⟨S128x64, .f32⟩
  | 16 => ⟨S_, .i32⟩
  | 17 => ⟨S1, .i32⟩
  | 18 => ⟨S_, .i32⟩
  | 19 => ⟨S1, .i32⟩
  | 20 => ⟨S2, .i32⟩
  | 21 => ⟨S128x64, .f32⟩
  | 22 => ⟨S_, .i32⟩
  | 23 => ⟨S1, .i32⟩
  | 24 => ⟨S_, .i32⟩
  | 25 => ⟨S1, .i32⟩
  | 26 => ⟨S2, .i32⟩
  | 27 => ⟨S128x64, .f32⟩
  | 28 => ⟨S1x32, .f32⟩
  | 29 => ⟨S32, .f32⟩
  | 30 => ⟨S1x32x32, .f32⟩
  | 31 => ⟨S32x32, .f32⟩
  | 32 => ⟨S1x32, .f32⟩
  | 33 => ⟨S32, .f32⟩
  | 34 => ⟨S400000x32, .f32⟩
  | 35 => ⟨S400000x3, .i32⟩
  | 36 => ⟨S_, .f32⟩
  | 37 => ⟨S49152x32, .f32⟩
  | 38 => ⟨S_, .f32⟩
  | 39 => ⟨S49152, .f32⟩
  | 40 => ⟨S400000x1, .i32⟩
  | 41 => ⟨S400000, .i32⟩
  | 42 => ⟨S_, .i32⟩
  | 43 => ⟨S400000, .i32⟩
  | 44 => ⟨S400000, .i1⟩
  | 45 => ⟨S_, .i32⟩
  | 46 => ⟨S400000, .i32⟩
  | 47 => ⟨S400000, .i32⟩
  | 48 => ⟨S400000, .i32⟩
  | 49 => ⟨S400000x1, .i32⟩
  | 50 => ⟨S49152x32, .f32⟩
  | 51 => ⟨S400000x1, .i32⟩
  | 52 => ⟨S400000, .i32⟩
  | 53 => ⟨S_, .i32⟩
  | 54 => ⟨S400000, .i32⟩
  | 55 => ⟨S400000, .i1⟩
  | 56 => ⟨S_, .i32⟩
  | 57 => ⟨S400000, .i32⟩
  | 58 => ⟨S400000, .i32⟩
  | 59 => ⟨S400000, .i32⟩
  | 60 => ⟨S400000x1, .i32⟩
  | 61 => ⟨S_, .f32⟩
  | 62 => ⟨S400000, .f32⟩
  | 63 => ⟨S49152, .f32⟩
  | 64 => ⟨S400000x1, .i32⟩
  | 65 => ⟨S400000, .i32⟩
  | 66 => ⟨S_, .i32⟩
  | 67 => ⟨S400000, .i32⟩
  | 68 => ⟨S400000, .i1⟩
  | 69 => ⟨S_, .i32⟩
  | 70 => ⟨S400000, .i32⟩
  | 71 => ⟨S400000, .i32⟩
  | 72 => ⟨S400000, .i32⟩
  | 73 => ⟨S400000x1, .i32⟩
  | 74 => ⟨S49152x32, .f32⟩
  | 75 => ⟨S400000x1, .i32⟩
  | 76 => ⟨S400000, .i32⟩
  | 77 => ⟨S_, .i32⟩
  | 78 => ⟨S400000, .i32⟩
  | 79 => ⟨S400000, .i1⟩
  | 80 => ⟨S_, .i32⟩
  | 81 => ⟨S400000, .i32⟩
  | 82 => ⟨S400000, .i32⟩
  | 83 => ⟨S400000, .i32⟩
  | 84 => ⟨S400000x1, .i32⟩
  | 85 => ⟨S_, .f32⟩
  | 86 => ⟨S400000, .f32⟩
  | 87 => ⟨S49152, .f32⟩
  | 88 => ⟨S400000x1, .i32⟩
  | 89 => ⟨S400000, .i32⟩
  | 90 => ⟨S_, .i32⟩
  | 91 => ⟨S400000, .i32⟩
  | 92 => ⟨S400000, .i1⟩
  | 93 => ⟨S_, .i32⟩
  | 94 => ⟨S400000, .i32⟩
  | 95 => ⟨S400000, .i32⟩
  | 96 => ⟨S400000, .i32⟩
  | 97 => ⟨S400000x1, .i32⟩
  | 98 => ⟨S49152x32, .f32⟩
  | 99 => ⟨S400000x1, .i32⟩
  | 100 => ⟨S400000, .i32⟩
  | 101 => ⟨S_, .i32⟩
  | 102 => ⟨S400000, .i32⟩
  | 103 => ⟨S400000, .i1⟩
  | 104 => ⟨S_, .i32⟩
  | 105 => ⟨S400000, .i32⟩
  | 106 => ⟨S400000, .i32⟩
  | 107 => ⟨S400000, .i32⟩
  | 108 => ⟨S400000x1, .i32⟩
  | 109 => ⟨S_, .f32⟩
  | 110 => ⟨S400000, .f32⟩
  | 111 => ⟨S49152, .f32⟩
  | 112 => ⟨S_, .f32⟩
  | 113 => ⟨S_, .f32⟩
  | 114 => ⟨S49152, .f32⟩
  | 115 => ⟨S49152, .f32⟩
  | 116 => ⟨S49152x1, .f32⟩
  | 117 => ⟨S49152x32, .f32⟩
  | 118 => ⟨S49152x32, .f32⟩
  | 119 => ⟨S400000x1, .i32⟩
  | 120 => ⟨S400000, .i32⟩
  | 121 => ⟨S_, .i32⟩
  | 122 => ⟨S400000, .i32⟩
  | 123 => ⟨S400000, .i1⟩
  | 124 => ⟨S_, .i32⟩
  | 125 => ⟨S400000, .i32⟩
  | 126 => ⟨S400000, .i32⟩
  | 127 => ⟨S400000, .i32⟩
  | _ => ⟨S4x100000x3, .f32⟩

abbrev hbmTy0_1 (i : Nat) : BufTy := match i % 128 with
  | 0 => ⟨S400000x1, .i32⟩
  | 1 => ⟨S400000x32, .f32⟩
  | 2 => ⟨S400000x1, .i32⟩
  | 3 => ⟨S400000, .i32⟩
  | 4 => ⟨S_, .i32⟩
  | 5 => ⟨S400000, .i32⟩
  | 6 => ⟨S400000, .i1⟩
  | 7 => ⟨S_, .i32⟩
  | 8 => ⟨S400000, .i32⟩
  | 9 => ⟨S400000, .i32⟩
  | 10 => ⟨S400000, .i32⟩
  | 11 => ⟨S400000x1, .i32⟩
  | 12 => ⟨S400000x32, .f32⟩
  | 13 => ⟨S400000x32, .f32⟩
  | 14 => ⟨S400000x1, .i32⟩
  | 15 => ⟨S400000, .i32⟩
  | 16 => ⟨S_, .i32⟩
  | 17 => ⟨S400000, .i32⟩
  | 18 => ⟨S400000, .i1⟩
  | 19 => ⟨S_, .i32⟩
  | 20 => ⟨S400000, .i32⟩
  | 21 => ⟨S400000, .i32⟩
  | 22 => ⟨S400000, .i32⟩
  | 23 => ⟨S400000x1, .i32⟩
  | 24 => ⟨S400000x32, .f32⟩
  | 25 => ⟨S400000x32, .f32⟩
  | 26 => ⟨S1x64x32, .f32⟩
  | 27 => ⟨S64x32, .f32⟩
  | 28 => ⟨S1x64x32, .f32⟩
  | 29 => ⟨S64x32, .f32⟩
  | 30 => ⟨S_, .f32⟩
  | 31 => ⟨S128x64, .f32⟩
  | 32 => ⟨S_, .i32⟩
  | 33 => ⟨S1, .i32⟩
  | 34 => ⟨S_, .i32⟩
  | 35 => ⟨S1, .i32⟩
  | 36 => ⟨S2, .i32⟩
  | 37 => ⟨S128x64, .f32⟩
  | 38 => ⟨S_, .i32⟩
  | 39 => ⟨S1, .i32⟩
  | 40 => ⟨S_, .i32⟩
  | 41 => ⟨S1, .i32⟩
  | 42 => ⟨S2, .i32⟩
  | 43 => ⟨S128x64, .f32⟩
  | 44 => ⟨S1x32, .f32⟩
  | 45 => ⟨S32, .f32⟩
  | 46 => ⟨S1x32x32, .f32⟩
  | 47 => ⟨S32x32, .f32⟩
  | 48 => ⟨S1x32, .f32⟩
  | 49 => ⟨S32, .f32⟩
  | 50 => ⟨S400000x32, .f32⟩
  | 51 => ⟨S_, .f32⟩
  | 52 => ⟨S49152x32, .f32⟩
  | 53 => ⟨S_, .f32⟩
  | 54 => ⟨S49152, .f32⟩
  | 55 => ⟨S400000x1, .i32⟩
  | 56 => ⟨S400000, .i32⟩
  | 57 => ⟨S_, .i32⟩
  | 58 => ⟨S400000, .i32⟩
  | 59 => ⟨S400000, .i1⟩
  | 60 => ⟨S_, .i32⟩
  | 61 => ⟨S400000, .i32⟩
  | 62 => ⟨S400000, .i32⟩
  | 63 => ⟨S400000, .i32⟩
  | 64 => ⟨S400000x1, .i32⟩
  | 65 => ⟨S49152x32, .f32⟩
  | 66 => ⟨S400000x1, .i32⟩
  | 67 => ⟨S400000, .i32⟩
  | 68 => ⟨S_, .i32⟩
  | 69 => ⟨S400000, .i32⟩
  | 70 => ⟨S400000, .i1⟩
  | 71 => ⟨S_, .i32⟩
  | 72 => ⟨S400000, .i32⟩
  | 73 => ⟨S400000, .i32⟩
  | 74 => ⟨S400000, .i32⟩
  | 75 => ⟨S400000x1, .i32⟩
  | 76 => ⟨S_, .f32⟩
  | 77 => ⟨S400000, .f32⟩
  | 78 => ⟨S49152, .f32⟩
  | 79 => ⟨S400000x1, .i32⟩
  | 80 => ⟨S400000, .i32⟩
  | 81 => ⟨S_, .i32⟩
  | 82 => ⟨S400000, .i32⟩
  | 83 => ⟨S400000, .i1⟩
  | 84 => ⟨S_, .i32⟩
  | 85 => ⟨S400000, .i32⟩
  | 86 => ⟨S400000, .i32⟩
  | 87 => ⟨S400000, .i32⟩
  | 88 => ⟨S400000x1, .i32⟩
  | 89 => ⟨S49152x32, .f32⟩
  | 90 => ⟨S400000x1, .i32⟩
  | 91 => ⟨S400000, .i32⟩
  | 92 => ⟨S_, .i32⟩
  | 93 => ⟨S400000, .i32⟩
  | 94 => ⟨S400000, .i1⟩
  | 95 => ⟨S_, .i32⟩
  | 96 => ⟨S400000, .i32⟩
  | 97 => ⟨S400000, .i32⟩
  | 98 => ⟨S400000, .i32⟩
  | 99 => ⟨S400000x1, .i32⟩
  | 100 => ⟨S_, .f32⟩
  | 101 => ⟨S400000, .f32⟩
  | 102 => ⟨S49152, .f32⟩
  | 103 => ⟨S400000x1, .i32⟩
  | 104 => ⟨S400000, .i32⟩
  | 105 => ⟨S_, .i32⟩
  | 106 => ⟨S400000, .i32⟩
  | 107 => ⟨S400000, .i1⟩
  | 108 => ⟨S_, .i32⟩
  | 109 => ⟨S400000, .i32⟩
  | 110 => ⟨S400000, .i32⟩
  | 111 => ⟨S400000, .i32⟩
  | 112 => ⟨S400000x1, .i32⟩
  | 113 => ⟨S49152x32, .f32⟩
  | 114 => ⟨S400000x1, .i32⟩
  | 115 => ⟨S400000, .i32⟩
  | 116 => ⟨S_, .i32⟩
  | 117 => ⟨S400000, .i32⟩
  | 118 => ⟨S400000, .i1⟩
  | 119 => ⟨S_, .i32⟩
  | 120 => ⟨S400000, .i32⟩
  | 121 => ⟨S400000, .i32⟩
  | 122 => ⟨S400000, .i32⟩
  | 123 => ⟨S400000x1, .i32⟩
  | 124 => ⟨S_, .f32⟩
  | 125 => ⟨S400000, .f32⟩
  | 126 => ⟨S49152, .f32⟩
  | 127 => ⟨S_, .f32⟩
  | _ => ⟨S4x100000x3, .f32⟩

abbrev hbmTy0_2 (i : Nat) : BufTy := match i % 128 with
  | 0 => ⟨S_, .f32⟩
  | 1 => ⟨S49152, .f32⟩
  | 2 => ⟨S49152, .f32⟩
  | 3 => ⟨S49152x1, .f32⟩
  | 4 => ⟨S49152x32, .f32⟩
  | 5 => ⟨S49152x32, .f32⟩
  | 6 => ⟨S400000x1, .i32⟩
  | 7 => ⟨S400000, .i32⟩
  | 8 => ⟨S_, .i32⟩
  | 9 => ⟨S400000, .i32⟩
  | 10 => ⟨S400000, .i1⟩
  | 11 => ⟨S_, .i32⟩
  | 12 => ⟨S400000, .i32⟩
  | 13 => ⟨S400000, .i32⟩
  | 14 => ⟨S400000, .i32⟩
  | 15 => ⟨S400000x1, .i32⟩
  | 16 => ⟨S400000x32, .f32⟩
  | 17 => ⟨S400000x1, .i32⟩
  | 18 => ⟨S400000, .i32⟩
  | 19 => ⟨S_, .i32⟩
  | 20 => ⟨S400000, .i32⟩
  | 21 => ⟨S400000, .i1⟩
  | 22 => ⟨S_, .i32⟩
  | 23 => ⟨S400000, .i32⟩
  | 24 => ⟨S400000, .i32⟩
  | 25 => ⟨S400000, .i32⟩
  | 26 => ⟨S400000x1, .i32⟩
  | 27 => ⟨S400000x32, .f32⟩
  | 28 => ⟨S400000x32, .f32⟩
  | 29 => ⟨S400000x1, .i32⟩
  | 30 => ⟨S400000, .i32⟩
  | 31 => ⟨S_, .i32⟩
  | 32 => ⟨S400000, .i32⟩
  | 33 => ⟨S400000, .i1⟩
  | 34 => ⟨S_, .i32⟩
  | 35 => ⟨S400000, .i32⟩
  | 36 => ⟨S400000, .i32⟩
  | 37 => ⟨S400000, .i32⟩
  | 38 => ⟨S400000x1, .i32⟩
  | 39 => ⟨S400000x32, .f32⟩
  | 40 => ⟨S400000x32, .f32⟩
  | 41 => ⟨S1x64x32, .f32⟩
  | 42 => ⟨S64x32, .f32⟩
  | 43 => ⟨S1x64x32, .f32⟩
  | 44 => ⟨S64x32, .f32⟩
  | 45 => ⟨S_, .f32⟩
  | 46 => ⟨S128x64, .f32⟩
  | 47 => ⟨S_, .i32⟩
  | 48 => ⟨S1, .i32⟩
  | 49 => ⟨S_, .i32⟩
  | 50 => ⟨S1, .i32⟩
  | 51 => ⟨S2, .i32⟩
  | 52 => ⟨S128x64, .f32⟩
  | 53 => ⟨S_, .i32⟩
  | 54 => ⟨S1, .i32⟩
  | 55 => ⟨S_, .i32⟩
  | 56 => ⟨S1, .i32⟩
  | 57 => ⟨S2, .i32⟩
  | 58 => ⟨S128x64, .f32⟩
  | 59 => ⟨S1x32, .f32⟩
  | 60 => ⟨S32, .f32⟩
  | 61 => ⟨S1x32x32, .f32⟩
  | 62 => ⟨S32x32, .f32⟩
  | 63 => ⟨S1x32, .f32⟩
  | 64 => ⟨S32, .f32⟩
  | 65 => ⟨S400000x32, .f32⟩
  | 66 => ⟨S_, .f32⟩
  | 67 => ⟨S49152x32, .f32⟩
  | 68 => ⟨S_, .f32⟩
  | 69 => ⟨S49152, .f32⟩
  | 70 => ⟨S400000x1, .i32⟩
  | 71 => ⟨S400000, .i32⟩
  | 72 => ⟨S_, .i32⟩
  | 73 => ⟨S400000, .i32⟩
  | 74 => ⟨S400000, .i1⟩
  | 75 => ⟨S_, .i32⟩
  | 76 => ⟨S400000, .i32⟩
  | 77 => ⟨S400000, .i32⟩
  | 78 => ⟨S400000, .i32⟩
  | 79 => ⟨S400000x1, .i32⟩
  | 80 => ⟨S49152x32, .f32⟩
  | 81 => ⟨S400000x1, .i32⟩
  | 82 => ⟨S400000, .i32⟩
  | 83 => ⟨S_, .i32⟩
  | 84 => ⟨S400000, .i32⟩
  | 85 => ⟨S400000, .i1⟩
  | 86 => ⟨S_, .i32⟩
  | 87 => ⟨S400000, .i32⟩
  | 88 => ⟨S400000, .i32⟩
  | 89 => ⟨S400000, .i32⟩
  | 90 => ⟨S400000x1, .i32⟩
  | 91 => ⟨S_, .f32⟩
  | 92 => ⟨S400000, .f32⟩
  | 93 => ⟨S49152, .f32⟩
  | 94 => ⟨S400000x1, .i32⟩
  | 95 => ⟨S400000, .i32⟩
  | 96 => ⟨S_, .i32⟩
  | 97 => ⟨S400000, .i32⟩
  | 98 => ⟨S400000, .i1⟩
  | 99 => ⟨S_, .i32⟩
  | 100 => ⟨S400000, .i32⟩
  | 101 => ⟨S400000, .i32⟩
  | 102 => ⟨S400000, .i32⟩
  | 103 => ⟨S400000x1, .i32⟩
  | 104 => ⟨S49152x32, .f32⟩
  | 105 => ⟨S400000x1, .i32⟩
  | 106 => ⟨S400000, .i32⟩
  | 107 => ⟨S_, .i32⟩
  | 108 => ⟨S400000, .i32⟩
  | 109 => ⟨S400000, .i1⟩
  | 110 => ⟨S_, .i32⟩
  | 111 => ⟨S400000, .i32⟩
  | 112 => ⟨S400000, .i32⟩
  | 113 => ⟨S400000, .i32⟩
  | 114 => ⟨S400000x1, .i32⟩
  | 115 => ⟨S_, .f32⟩
  | 116 => ⟨S400000, .f32⟩
  | 117 => ⟨S49152, .f32⟩
  | 118 => ⟨S400000x1, .i32⟩
  | 119 => ⟨S400000, .i32⟩
  | 120 => ⟨S_, .i32⟩
  | 121 => ⟨S400000, .i32⟩
  | 122 => ⟨S400000, .i1⟩
  | 123 => ⟨S_, .i32⟩
  | 124 => ⟨S400000, .i32⟩
  | 125 => ⟨S400000, .i32⟩
  | 126 => ⟨S400000, .i32⟩
  | 127 => ⟨S400000x1, .i32⟩
  | _ => ⟨S4x100000x3, .f32⟩

abbrev hbmTy0_3 (i : Nat) : BufTy := match i % 128 with
  | 0 => ⟨S49152x32, .f32⟩
  | 1 => ⟨S400000x1, .i32⟩
  | 2 => ⟨S400000, .i32⟩
  | 3 => ⟨S_, .i32⟩
  | 4 => ⟨S400000, .i32⟩
  | 5 => ⟨S400000, .i1⟩
  | 6 => ⟨S_, .i32⟩
  | 7 => ⟨S400000, .i32⟩
  | 8 => ⟨S400000, .i32⟩
  | 9 => ⟨S400000, .i32⟩
  | 10 => ⟨S400000x1, .i32⟩
  | 11 => ⟨S_, .f32⟩
  | 12 => ⟨S400000, .f32⟩
  | 13 => ⟨S49152, .f32⟩
  | 14 => ⟨S_, .f32⟩
  | 15 => ⟨S_, .f32⟩
  | 16 => ⟨S49152, .f32⟩
  | 17 => ⟨S49152, .f32⟩
  | 18 => ⟨S49152x1, .f32⟩
  | 19 => ⟨S49152x32, .f32⟩
  | 20 => ⟨S49152x32, .f32⟩
  | 21 => ⟨S400000x1, .i32⟩
  | 22 => ⟨S400000, .i32⟩
  | 23 => ⟨S_, .i32⟩
  | 24 => ⟨S400000, .i32⟩
  | 25 => ⟨S400000, .i1⟩
  | 26 => ⟨S_, .i32⟩
  | 27 => ⟨S400000, .i32⟩
  | 28 => ⟨S400000, .i32⟩
  | 29 => ⟨S400000, .i32⟩
  | 30 => ⟨S400000x1, .i32⟩
  | 31 => ⟨S400000x32, .f32⟩
  | 32 => ⟨S400000x1, .i32⟩
  | 33 => ⟨S400000, .i32⟩
  | 34 => ⟨S_, .i32⟩
  | 35 => ⟨S400000, .i32⟩
  | 36 => ⟨S400000, .i1⟩
  | 37 => ⟨S_, .i32⟩
  | 38 => ⟨S400000, .i32⟩
  | 39 => ⟨S400000, .i32⟩
  | 40 => ⟨S400000, .i32⟩
  | 41 => ⟨S400000x1, .i32⟩
  | 42 => ⟨S400000x32, .f32⟩
  | 43 => ⟨S400000x32, .f32⟩
  | 44 => ⟨S400000x1, .i32⟩
  | 45 => ⟨S400000, .i32⟩
  | 46 => ⟨S_, .i32⟩
  | 47 => ⟨S400000, .i32⟩
  | 48 => ⟨S400000, .i1⟩
  | 49 => ⟨S_, .i32⟩
  | 50 => ⟨S400000, .i32⟩
  | 51 => ⟨S400000, .i32⟩
  | 52 => ⟨S400000, .i32⟩
  | 53 => ⟨S400000x1, .i32⟩
  | 54 => ⟨S400000x32, .f32⟩
  | 55 => ⟨S400000x32, .f32⟩
  | 56 => ⟨S1x64x32, .f32⟩
  | 57 => ⟨S64x32, .f32⟩
  | 58 => ⟨S1x64x32, .f32⟩
  | 59 => ⟨S64x32, .f32⟩
  | 60 => ⟨S_, .f32⟩
  | 61 => ⟨S128x64, .f32⟩
  | 62 => ⟨S_, .i32⟩
  | 63 => ⟨S1, .i32⟩
  | 64 => ⟨S_, .i32⟩
  | 65 => ⟨S1, .i32⟩
  | 66 => ⟨S2, .i32⟩
  | 67 => ⟨S128x64, .f32⟩
  | 68 => ⟨S_, .i32⟩
  | 69 => ⟨S1, .i32⟩
  | 70 => ⟨S_, .i32⟩
  | 71 => ⟨S1, .i32⟩
  | 72 => ⟨S2, .i32⟩
  | 73 => ⟨S128x64, .f32⟩
  | 74 => ⟨S1x32, .f32⟩
  | 75 => ⟨S32, .f32⟩
  | 76 => ⟨S1x32x32, .f32⟩
  | 77 => ⟨S32x32, .f32⟩
  | 78 => ⟨S1x32, .f32⟩
  | 79 => ⟨S32, .f32⟩
  | 80 => ⟨S400000x32, .f32⟩
  | 81 => ⟨S_, .f32⟩
  | 82 => ⟨S49152x32, .f32⟩
  | 83 => ⟨S_, .f32⟩
  | 84 => ⟨S49152, .f32⟩
  | 85 => ⟨S400000x1, .i32⟩
  | 86 => ⟨S400000, .i32⟩
  | 87 => ⟨S_, .i32⟩
  | 88 => ⟨S400000, .i32⟩
  | 89 => ⟨S400000, .i1⟩
  | 90 => ⟨S_, .i32⟩
  | 91 => ⟨S400000, .i32⟩
  | 92 => ⟨S400000, .i32⟩
  | 93 => ⟨S400000, .i32⟩
  | 94 => ⟨S400000x1, .i32⟩
  | 95 => ⟨S49152x32, .f32⟩
  | 96 => ⟨S400000x1, .i32⟩
  | 97 => ⟨S400000, .i32⟩
  | 98 => ⟨S_, .i32⟩
  | 99 => ⟨S400000, .i32⟩
  | 100 => ⟨S400000, .i1⟩
  | 101 => ⟨S_, .i32⟩
  | 102 => ⟨S400000, .i32⟩
  | 103 => ⟨S400000, .i32⟩
  | 104 => ⟨S400000, .i32⟩
  | 105 => ⟨S400000x1, .i32⟩
  | 106 => ⟨S_, .f32⟩
  | 107 => ⟨S400000, .f32⟩
  | 108 => ⟨S49152, .f32⟩
  | 109 => ⟨S400000x1, .i32⟩
  | 110 => ⟨S400000, .i32⟩
  | 111 => ⟨S_, .i32⟩
  | 112 => ⟨S400000, .i32⟩
  | 113 => ⟨S400000, .i1⟩
  | 114 => ⟨S_, .i32⟩
  | 115 => ⟨S400000, .i32⟩
  | 116 => ⟨S400000, .i32⟩
  | 117 => ⟨S400000, .i32⟩
  | 118 => ⟨S400000x1, .i32⟩
  | 119 => ⟨S49152x32, .f32⟩
  | 120 => ⟨S400000x1, .i32⟩
  | 121 => ⟨S400000, .i32⟩
  | 122 => ⟨S_, .i32⟩
  | 123 => ⟨S400000, .i32⟩
  | 124 => ⟨S400000, .i1⟩
  | 125 => ⟨S_, .i32⟩
  | 126 => ⟨S400000, .i32⟩
  | 127 => ⟨S400000, .i32⟩
  | _ => ⟨S4x100000x3, .f32⟩

abbrev hbmTy0_4 (i : Nat) : BufTy := match i % 128 with
  | 0 => ⟨S400000, .i32⟩
  | 1 => ⟨S400000x1, .i32⟩
  | 2 => ⟨S_, .f32⟩
  | 3 => ⟨S400000, .f32⟩
  | 4 => ⟨S49152, .f32⟩
  | 5 => ⟨S400000x1, .i32⟩
  | 6 => ⟨S400000, .i32⟩
  | 7 => ⟨S_, .i32⟩
  | 8 => ⟨S400000, .i32⟩
  | 9 => ⟨S400000, .i1⟩
  | 10 => ⟨S_, .i32⟩
  | 11 => ⟨S400000, .i32⟩
  | 12 => ⟨S400000, .i32⟩
  | 13 => ⟨S400000, .i32⟩
  | 14 => ⟨S400000x1, .i32⟩
  | 15 => ⟨S49152x32, .f32⟩
  | 16 => ⟨S400000x1, .i32⟩
  | 17 => ⟨S400000, .i32⟩
  | 18 => ⟨S_, .i32⟩
  | 19 => ⟨S400000, .i32⟩
  | 20 => ⟨S400000, .i1⟩
  | 21 => ⟨S_, .i32⟩
  | 22 => ⟨S400000, .i32⟩
  | 23 => ⟨S400000, .i32⟩
  | 24 => ⟨S400000, .i32⟩
  | 25 => ⟨S400000x1, .i32⟩
  | 26 => ⟨S_, .f32⟩
  | 27 => ⟨S400000, .f32⟩
  | 28 => ⟨S49152, .f32⟩
  | 29 => ⟨S_, .f32⟩
  | 30 => ⟨S_, .f32⟩
  | 31 => ⟨S49152, .f32⟩
  | 32 => ⟨S49152, .f32⟩
  | 33 => ⟨S49152x1, .f32⟩
  | 34 => ⟨S49152x32, .f32⟩
  | 35 => ⟨S49152x32, .f32⟩
  | 36 => ⟨S400000x1, .i32⟩
  | 37 => ⟨S400000, .i32⟩
  | 38 => ⟨S_, .i32⟩
  | 39 => ⟨S400000, .i32⟩
  | 40 => ⟨S400000, .i1⟩
  | 41 => ⟨S_, .i32⟩
  | 42 => ⟨S400000, .i32⟩
  | 43 => ⟨S400000, .i32⟩
  | 44 => ⟨S400000, .i32⟩
  | 45 => ⟨S400000x1, .i32⟩
  | 46 => ⟨S400000x32, .f32⟩
  | 47 => ⟨S400000x1, .i32⟩
  | 48 => ⟨S400000, .i32⟩
  | 49 => ⟨S_, .i32⟩
  | 50 => ⟨S400000, .i32⟩
  | 51 => ⟨S400000, .i1⟩
  | 52 => ⟨S_, .i32⟩
  | 53 => ⟨S400000, .i32⟩
  | 54 => ⟨S400000, .i32⟩
  | 55 => ⟨S400000, .i32⟩
  | 56 => ⟨S400000x1, .i32⟩
  | 57 => ⟨S400000x32, .f32⟩
  | 58 => ⟨S400000x32, .f32⟩
  | 59 => ⟨S400000x1, .i32⟩
  | 60 => ⟨S400000, .i32⟩
  | 61 => ⟨S_, .i32⟩
  | 62 => ⟨S400000, .i32⟩
  | 63 => ⟨S400000, .i1⟩
  | 64 => ⟨S_, .i32⟩
  | 65 => ⟨S400000, .i32⟩
  | 66 => ⟨S400000, .i32⟩
  | 67 => ⟨S400000, .i32⟩
  | 68 => ⟨S400000x1, .i32⟩
  | 69 => ⟨S400000x32, .f32⟩
  | 70 => ⟨S400000x32, .f32⟩
  | 71 => ⟨S1x64x32, .f32⟩
  | 72 => ⟨S64x32, .f32⟩
  | 73 => ⟨S1x64x32, .f32⟩
  | 74 => ⟨S64x32, .f32⟩
  | 75 => ⟨S_, .f32⟩
  | 76 => ⟨S128x64, .f32⟩
  | 77 => ⟨S_, .i32⟩
  | 78 => ⟨S1, .i32⟩
  | 79 => ⟨S_, .i32⟩
  | 80 => ⟨S1, .i32⟩
  | 81 => ⟨S2, .i32⟩
  | 82 => ⟨S128x64, .f32⟩
  | 83 => ⟨S_, .i32⟩
  | 84 => ⟨S1, .i32⟩
  | 85 => ⟨S_, .i32⟩
  | 86 => ⟨S1, .i32⟩
  | 87 => ⟨S2, .i32⟩
  | 88 => ⟨S128x64, .f32⟩
  | 89 => ⟨S1x32, .f32⟩
  | 90 => ⟨S32, .f32⟩
  | 91 => ⟨S1x32x32, .f32⟩
  | 92 => ⟨S32x32, .f32⟩
  | 93 => ⟨S1x32, .f32⟩
  | 94 => ⟨S32, .f32⟩
  | 95 => ⟨S400000x32, .f32⟩
  | 96 => ⟨S_, .f32⟩
  | 97 => ⟨S49152x32, .f32⟩
  | 98 => ⟨S_, .f32⟩
  | 99 => ⟨S49152, .f32⟩
  | 100 => ⟨S400000x1, .i32⟩
  | 101 => ⟨S400000, .i32⟩
  | 102 => ⟨S_, .i32⟩
  | 103 => ⟨S400000, .i32⟩
  | 104 => ⟨S400000, .i1⟩
  | 105 => ⟨S_, .i32⟩
  | 106 => ⟨S400000, .i32⟩
  | 107 => ⟨S400000, .i32⟩
  | 108 => ⟨S400000, .i32⟩
  | 109 => ⟨S400000x1, .i32⟩
  | 110 => ⟨S49152x32, .f32⟩
  | 111 => ⟨S400000x1, .i32⟩
  | 112 => ⟨S400000, .i32⟩
  | 113 => ⟨S_, .i32⟩
  | 114 => ⟨S400000, .i32⟩
  | 115 => ⟨S400000, .i1⟩
  | 116 => ⟨S_, .i32⟩
  | 117 => ⟨S400000, .i32⟩
  | 118 => ⟨S400000, .i32⟩
  | 119 => ⟨S400000, .i32⟩
  | 120 => ⟨S400000x1, .i32⟩
  | 121 => ⟨S_, .f32⟩
  | 122 => ⟨S400000, .f32⟩
  | 123 => ⟨S49152, .f32⟩
  | 124 => ⟨S400000x1, .i32⟩
  | 125 => ⟨S400000, .i32⟩
  | 126 => ⟨S_, .i32⟩
  | 127 => ⟨S400000, .i32⟩
  | _ => ⟨S4x100000x3, .f32⟩

abbrev hbmTy0_5 (i : Nat) : BufTy := match i % 128 with
  | 0 => ⟨S400000, .i1⟩
  | 1 => ⟨S_, .i32⟩
  | 2 => ⟨S400000, .i32⟩
  | 3 => ⟨S400000, .i32⟩
  | 4 => ⟨S400000, .i32⟩
  | 5 => ⟨S400000x1, .i32⟩
  | 6 => ⟨S49152x32, .f32⟩
  | 7 => ⟨S400000x1, .i32⟩
  | 8 => ⟨S400000, .i32⟩
  | 9 => ⟨S_, .i32⟩
  | 10 => ⟨S400000, .i32⟩
  | 11 => ⟨S400000, .i1⟩
  | 12 => ⟨S_, .i32⟩
  | 13 => ⟨S400000, .i32⟩
  | 14 => ⟨S400000, .i32⟩
  | 15 => ⟨S400000, .i32⟩
  | 16 => ⟨S400000x1, .i32⟩
  | 17 => ⟨S_, .f32⟩
  | 18 => ⟨S400000, .f32⟩
  | 19 => ⟨S49152, .f32⟩
  | 20 => ⟨S400000x1, .i32⟩
  | 21 => ⟨S400000, .i32⟩
  | 22 => ⟨S_, .i32⟩
  | 23 => ⟨S400000, .i32⟩
  | 24 => ⟨S400000, .i1⟩
  | 25 => ⟨S_, .i32⟩
  | 26 => ⟨S400000, .i32⟩
  | 27 => ⟨S400000, .i32⟩
  | 28 => ⟨S400000, .i32⟩
  | 29 => ⟨S400000x1, .i32⟩
  | 30 => ⟨S49152x32, .f32⟩
  | 31 => ⟨S400000x1, .i32⟩
  | 32 => ⟨S400000, .i32⟩
  | 33 => ⟨S_, .i32⟩
  | 34 => ⟨S400000, .i32⟩
  | 35 => ⟨S400000, .i1⟩
  | 36 => ⟨S_, .i32⟩
  | 37 => ⟨S400000, .i32⟩
  | 38 => ⟨S400000, .i32⟩
  | 39 => ⟨S400000, .i32⟩
  | 40 => ⟨S400000x1, .i32⟩
  | 41 => ⟨S_, .f32⟩
  | 42 => ⟨S400000, .f32⟩
  | 43 => ⟨S49152, .f32⟩
  | 44 => ⟨S_, .f32⟩
  | 45 => ⟨S_, .f32⟩
  | 46 => ⟨S49152, .f32⟩
  | 47 => ⟨S49152, .f32⟩
  | 48 => ⟨S49152x1, .f32⟩
  | 49 => ⟨S49152x32, .f32⟩
  | 50 => ⟨S49152x32, .f32⟩
  | 51 => ⟨S12x4096x32, .f32⟩
  | 52 => ⟨S12x32x4096, .f32⟩
  | 53 => ⟨S12x32x64x64, .f32⟩
  | 54 => ⟨S4x100000x32, .f32⟩
  | _ => ⟨S4x100000x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4x100000x3, .f32⟩

abbrev bufTy : (tb : Table) → Fin (tcTables nBuf tb) → BufTy
  | .hbm, ⟨i, _⟩ => hbmTy i
  | .local _ .vmem, ⟨0, _⟩ => ⟨S2000x3, .f32⟩
  | .local _ .vmem, ⟨1, _⟩ => ⟨S2000x3, .f32⟩
  | .local _ .vmem, ⟨2, _⟩ => ⟨S3x32, .f32⟩
  | .local _ .vmem, ⟨3, _⟩ => ⟨S128x64, .f32⟩
  | .local _ .vmem, ⟨4, _⟩ => ⟨S32, .f32⟩
  | .local _ .vmem, ⟨5, _⟩ => ⟨S32x32, .f32⟩
  | .local _ .vmem, ⟨6, _⟩ => ⟨S32, .f32⟩
  | .local _ .vmem, ⟨7, _⟩ => ⟨S2000x32, .f32⟩
  | .local _ .vmem, ⟨8, _⟩ => ⟨S2000x32, .f32⟩
  | .local _ .vmem, ⟨9, _⟩ => ⟨S2000x3, .i32⟩
  | .local _ .vmem, ⟨10, _⟩ => ⟨S2000x3, .i32⟩
  | .local _ .vmem, ⟨11, _⟩ => ⟨S2000x32, .f32⟩
  | .local _ .vmem, ⟨12, _⟩ => ⟨S2000x32, .f32⟩
  | .local _ .vmem, ⟨13, _⟩ => ⟨S2000x32, .f32⟩
  | .local _ .vmem, ⟨14, _⟩ => ⟨S2000x32, .f32⟩
  | .local _ .vmem, ⟨15, _⟩ => ⟨S128x64, .f32⟩
  | .local _ .vmem, ⟨16, _⟩ => ⟨S32, .f32⟩
  | .local _ .vmem, ⟨17, _⟩ => ⟨S32x32, .f32⟩
  | .local _ .vmem, ⟨18, _⟩ => ⟨S32, .f32⟩
  | .local _ .vmem, ⟨19, _⟩ => ⟨S2000x32, .f32⟩
  | .local _ .vmem, ⟨20, _⟩ => ⟨S2000x32, .f32⟩
  | .local _ .vmem, ⟨21, _⟩ => ⟨S2000x32, .f32⟩
  | .local _ .vmem, ⟨22, _⟩ => ⟨S2000x32, .f32⟩
  | .local _ .vmem, ⟨23, _⟩ => ⟨S2000x32, .f32⟩
  | .local _ .vmem, ⟨24, _⟩ => ⟨S2000x32, .f32⟩
  | .local _ .vmem, ⟨25, _⟩ => ⟨S128x64, .f32⟩
  | .local _ .vmem, ⟨26, _⟩ => ⟨S32, .f32⟩
  | .local _ .vmem, ⟨27, _⟩ => ⟨S32x32, .f32⟩
  | .local _ .vmem, ⟨28, _⟩ => ⟨S32, .f32⟩
  | .local _ .vmem, ⟨29, _⟩ => ⟨S2000x32, .f32⟩
  | .local _ .vmem, ⟨30, _⟩ => ⟨S2000x32, .f32⟩
  | .local _ .vmem, ⟨31, _⟩ => ⟨S2000x32, .f32⟩
  | .local _ .vmem, ⟨32, _⟩ => ⟨S2000x32, .f32⟩
  | .local _ .vmem, ⟨33, _⟩ => ⟨S2000x32, .f32⟩
  | .local _ .vmem, ⟨34, _⟩ => ⟨S2000x32, .f32⟩
  | .local _ .vmem, ⟨35, _⟩ => ⟨S128x64, .f32⟩
  | .local _ .vmem, ⟨36, _⟩ => ⟨S32, .f32⟩
  | .local _ .vmem, ⟨37, _⟩ => ⟨S32x32, .f32⟩
  | .local _ .vmem, ⟨38, _⟩ => ⟨S32, .f32⟩
  | .local _ .vmem, ⟨39, _⟩ => ⟨S2000x32, .f32⟩
  | .local _ .vmem, ⟨40, _⟩ => ⟨S2000x32, .f32⟩
  | .local _ .vmem, ⟨41, _⟩ => ⟨S2000x32, .f32⟩
  | .local _ .vmem, ⟨42, _⟩ => ⟨S2000x32, .f32⟩
  | .local _ .vmem, ⟨43, _⟩ => ⟨S2000x32, .f32⟩
  | .local _ .vmem, ⟨44, _⟩ => ⟨S2000x32, .f32⟩
  | .local _ .vmem, ⟨45, _⟩ => ⟨S128x64, .f32⟩
  | .local _ .vmem, ⟨46, _⟩ => ⟨S32, .f32⟩
  | .local _ .vmem, ⟨47, _⟩ => ⟨S32x32, .f32⟩
  | .local _ .vmem, ⟨48, _⟩ => ⟨S32, .f32⟩
  | .local _ .vmem, ⟨49, _⟩ => ⟨S32x32, .f32⟩
  | .local _ .vmem, ⟨50, _⟩ => ⟨S32, .f32⟩
  | .local _ .vmem, ⟨51, _⟩ => ⟨S2000x32, .f32⟩
  | .local _ .vmem, ⟨52, _⟩ => ⟨S2000x32, .f32⟩
  | _, _ => ⟨S4x100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20_0 : Ref sig .tc := ⟨.hbm, 34, rfl⟩
abbrev main_v20_1 : Ref sig .tc := ⟨.hbm, 35, rfl⟩
abbrev main_cst_3 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_10 : Ref sig .tc := ⟨.hbm, 66, rfl⟩
abbrev main_v44 : Ref sig .tc := ⟨.hbm, 67, rfl⟩
abbrev main_v45 : Ref sig .tc := ⟨.hbm, 68, rfl⟩
abbrev main_c_11 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_12 : Ref sig .tc := ⟨.hbm, 77, rfl⟩
abbrev main_v53 : Ref sig .tc := ⟨.hbm, 78, rfl⟩
abbrev main_v54 : Ref sig .tc := ⟨.hbm, 79, rfl⟩
abbrev main_c_13 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_14 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_15 : Ref sig .tc := ⟨.hbm, 90, rfl⟩
abbrev main_v63 : Ref sig .tc := ⟨.hbm, 91, rfl⟩
abbrev main_v64 : Ref sig .tc := ⟨.hbm, 92, rfl⟩
abbrev main_c_16 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_17 : Ref sig .tc := ⟨.hbm, 101, rfl⟩
abbrev main_v72 : Ref sig .tc := ⟨.hbm, 102, rfl⟩
abbrev main_v73 : Ref sig .tc := ⟨.hbm, 103, rfl⟩
abbrev main_c_18 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_19 : Ref sig .tc := ⟨.hbm, 109, rfl⟩
abbrev main_v78 : Ref sig .tc := ⟨.hbm, 110, rfl⟩
abbrev main_v79 : Ref sig .tc := ⟨.hbm, 111, rfl⟩
abbrev main_cst_20 : Ref sig .tc := ⟨.hbm, 112, rfl⟩
abbrev main_call0_v0 : Ref sig .tc := ⟨.hbm, 113, rfl⟩
abbrev main_call0_v1 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_c_21 : Ref sig .tc := ⟨.hbm, 121, rfl⟩
abbrev main_v86 : Ref sig .tc := ⟨.hbm, 122, rfl⟩
abbrev main_v87 : Ref sig .tc := ⟨.hbm, 123, rfl⟩
abbrev main_c_22 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_c_23 : Ref sig .tc := ⟨.hbm, 132, rfl⟩
abbrev main_v95 : Ref sig .tc := ⟨.hbm, 133, rfl⟩
abbrev main_v96 : Ref sig .tc := ⟨.hbm, 134, rfl⟩
abbrev main_c_24 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_c_25 : Ref sig .tc := ⟨.hbm, 144, rfl⟩
abbrev main_v105 : Ref sig .tc := ⟨.hbm, 145, rfl⟩
abbrev main_v106 : Ref sig .tc := ⟨.hbm, 146, rfl⟩
abbrev main_c_26 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_cst_27 : Ref sig .tc := ⟨.hbm, 158, rfl⟩
abbrev main_v117 : Ref sig .tc := ⟨.hbm, 159, rfl⟩
abbrev main_c_28 : Ref sig .tc := ⟨.hbm, 160, rfl⟩
abbrev main_v118 : Ref sig .tc := ⟨.hbm, 161, rfl⟩
abbrev main_c_29 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_c_30 : Ref sig .tc := ⟨.hbm, 166, rfl⟩
abbrev main_v122 : Ref sig .tc := ⟨.hbm, 167, rfl⟩
abbrev main_c_31 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_cst_32 : Ref sig .tc := ⟨.hbm, 179, rfl⟩
abbrev main_v133 : Ref sig .tc := ⟨.hbm, 180, rfl⟩
abbrev main_cst_33 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_c_34 : Ref sig .tc := ⟨.hbm, 185, rfl⟩
abbrev main_v137 : Ref sig .tc := ⟨.hbm, 186, rfl⟩
abbrev main_v138 : Ref sig .tc := ⟨.hbm, 187, rfl⟩
abbrev main_c_35 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_c_36 : Ref sig .tc := ⟨.hbm, 196, rfl⟩
abbrev main_v146 : Ref sig .tc := ⟨.hbm, 197, rfl⟩
abbrev main_v147 : Ref sig .tc := ⟨.hbm, 198, rfl⟩
abbrev main_c_37 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_cst_38 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_c_39 : Ref sig .tc := ⟨.hbm, 209, rfl⟩
abbrev main_v156 : Ref sig .tc := ⟨.hbm, 210, rfl⟩
abbrev main_v157 : Ref sig .tc := ⟨.hbm, 211, rfl⟩
abbrev main_c_40 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_c_41 : Ref sig .tc := ⟨.hbm, 220, rfl⟩
abbrev main_v165 : Ref sig .tc := ⟨.hbm, 221, rfl⟩
abbrev main_v166 : Ref sig .tc := ⟨.hbm, 222, rfl⟩
abbrev main_c_42 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_cst_43 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_c_44 : Ref sig .tc := ⟨.hbm, 233, rfl⟩
abbrev main_v175 : Ref sig .tc := ⟨.hbm, 234, rfl⟩
abbrev main_v176 : Ref sig .tc := ⟨.hbm, 235, rfl⟩
abbrev main_c_45 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_c_46 : Ref sig .tc := ⟨.hbm, 244, rfl⟩
abbrev main_v184 : Ref sig .tc := ⟨.hbm, 245, rfl⟩
abbrev main_v185 : Ref sig .tc := ⟨.hbm, 246, rfl⟩
abbrev main_c_47 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_cst_48 : Ref sig .tc := ⟨.hbm, 252, rfl⟩
abbrev main_v190 : Ref sig .tc := ⟨.hbm, 253, rfl⟩
abbrev main_v191 : Ref sig .tc := ⟨.hbm, 254, rfl⟩
abbrev main_cst_49 : Ref sig .tc := ⟨.hbm, 255, rfl⟩
abbrev main_call1_v0 : Ref sig .tc := ⟨.hbm, 256, rfl⟩
abbrev main_call1_v1 : Ref sig .tc := ⟨.hbm, 257, rfl⟩
abbrev main_v192 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_v197 : Ref sig .tc := ⟨.hbm, 263, rfl⟩
abbrev main_c_50 : Ref sig .tc := ⟨.hbm, 264, rfl⟩
abbrev main_v198 : Ref sig .tc := ⟨.hbm, 265, rfl⟩
abbrev main_v199 : Ref sig .tc := ⟨.hbm, 266, rfl⟩
abbrev main_c_51 : Ref sig .tc := ⟨.hbm, 267, rfl⟩
abbrev main_v200 : Ref sig .tc := ⟨.hbm, 268, rfl⟩
abbrev main_v201 : Ref sig .tc := ⟨.hbm, 269, rfl⟩
abbrev main_v202 : Ref sig .tc := ⟨.hbm, 270, rfl⟩
abbrev main_v203 : Ref sig .tc := ⟨.hbm, 271, rfl⟩
abbrev main_v204 : Ref sig .tc := ⟨.hbm, 272, rfl⟩
abbrev main_v205 : Ref sig .tc := ⟨.hbm, 273, rfl⟩
abbrev main_v206 : Ref sig .tc := ⟨.hbm, 274, rfl⟩
abbrev main_c_52 : Ref sig .tc := ⟨.hbm, 275, rfl⟩
abbrev main_v207 : Ref sig .tc := ⟨.hbm, 276, rfl⟩
abbrev main_v208 : Ref sig .tc := ⟨.hbm, 277, rfl⟩
abbrev main_c_53 : Ref sig .tc := ⟨.hbm, 278, rfl⟩
abbrev main_v209 : Ref sig .tc := ⟨.hbm, 279, rfl⟩
abbrev main_v210 : Ref sig .tc := ⟨.hbm, 280, rfl⟩
abbrev main_v211 : Ref sig .tc := ⟨.hbm, 281, rfl⟩
abbrev main_v212 : Ref sig .tc := ⟨.hbm, 282, rfl⟩
abbrev main_v213 : Ref sig .tc := ⟨.hbm, 283, rfl⟩
abbrev main_v214 : Ref sig .tc := ⟨.hbm, 284, rfl⟩
abbrev main_v215 : Ref sig .tc := ⟨.hbm, 285, rfl⟩
abbrev main_v216 : Ref sig .tc := ⟨.hbm, 286, rfl⟩
abbrev main_c_54 : Ref sig .tc := ⟨.hbm, 287, rfl⟩
abbrev main_v217 : Ref sig .tc := ⟨.hbm, 288, rfl⟩
abbrev main_v218 : Ref sig .tc := ⟨.hbm, 289, rfl⟩
abbrev main_c_55 : Ref sig .tc := ⟨.hbm, 290, rfl⟩
abbrev main_v219 : Ref sig .tc := ⟨.hbm, 291, rfl⟩
abbrev main_v220 : Ref sig .tc := ⟨.hbm, 292, rfl⟩
abbrev main_v221 : Ref sig .tc := ⟨.hbm, 293, rfl⟩
abbrev main_v222 : Ref sig .tc := ⟨.hbm, 294, rfl⟩
abbrev main_v223 : Ref sig .tc := ⟨.hbm, 295, rfl⟩
abbrev main_v224 : Ref sig .tc := ⟨.hbm, 296, rfl⟩
abbrev main_v225 : Ref sig .tc := ⟨.hbm, 297, rfl⟩
abbrev main_v226 : Ref sig .tc := ⟨.hbm, 298, rfl⟩
abbrev main_v227 : Ref sig .tc := ⟨.hbm, 299, rfl⟩
abbrev main_v228 : Ref sig .tc := ⟨.hbm, 300, rfl⟩
abbrev main_cst_56 : Ref sig .tc := ⟨.hbm, 301, rfl⟩
abbrev main_v229 : Ref sig .tc := ⟨.hbm, 302, rfl⟩
abbrev main_c_57 : Ref sig .tc := ⟨.hbm, 303, rfl⟩
abbrev main_v230 : Ref sig .tc := ⟨.hbm, 304, rfl⟩
abbrev main_c_58 : Ref sig .tc := ⟨.hbm, 305, rfl⟩
abbrev main_v231 : Ref sig .tc := ⟨.hbm, 306, rfl⟩
abbrev main_v232 : Ref sig .tc := ⟨.hbm, 307, rfl⟩
abbrev main_v233 : Ref sig .tc := ⟨.hbm, 308, rfl⟩
abbrev main_c_59 : Ref sig .tc := ⟨.hbm, 309, rfl⟩
abbrev main_v234 : Ref sig .tc := ⟨.hbm, 310, rfl⟩
abbrev main_c_60 : Ref sig .tc := ⟨.hbm, 311, rfl⟩
abbrev main_v235 : Ref sig .tc := ⟨.hbm, 312, rfl⟩
abbrev main_v236 : Ref sig .tc := ⟨.hbm, 313, rfl⟩
abbrev main_v237 : Ref sig .tc := ⟨.hbm, 314, rfl⟩
abbrev main_v238 : Ref sig .tc := ⟨.hbm, 315, rfl⟩
abbrev main_v239 : Ref sig .tc := ⟨.hbm, 316, rfl⟩
abbrev main_v240 : Ref sig .tc := ⟨.hbm, 317, rfl⟩
abbrev main_v241 : Ref sig .tc := ⟨.hbm, 318, rfl⟩
abbrev main_v242 : Ref sig .tc := ⟨.hbm, 319, rfl⟩
abbrev main_v243 : Ref sig .tc := ⟨.hbm, 320, rfl⟩
abbrev main_v244 : Ref sig .tc := ⟨.hbm, 321, rfl⟩
abbrev main_cst_61 : Ref sig .tc := ⟨.hbm, 322, rfl⟩
abbrev main_v245 : Ref sig .tc := ⟨.hbm, 323, rfl⟩
abbrev main_cst_62 : Ref sig .tc := ⟨.hbm, 324, rfl⟩
abbrev main_v246 : Ref sig .tc := ⟨.hbm, 325, rfl⟩
abbrev main_v247 : Ref sig .tc := ⟨.hbm, 326, rfl⟩
abbrev main_v248 : Ref sig .tc := ⟨.hbm, 327, rfl⟩
abbrev main_c_63 : Ref sig .tc := ⟨.hbm, 328, rfl⟩
abbrev main_v249 : Ref sig .tc := ⟨.hbm, 329, rfl⟩
abbrev main_v250 : Ref sig .tc := ⟨.hbm, 330, rfl⟩
abbrev main_c_64 : Ref sig .tc := ⟨.hbm, 331, rfl⟩
abbrev main_v251 : Ref sig .tc := ⟨.hbm, 332, rfl⟩
abbrev main_v252 : Ref sig .tc := ⟨.hbm, 333, rfl⟩
abbrev main_v253 : Ref sig .tc := ⟨.hbm, 334, rfl⟩
abbrev main_v254 : Ref sig .tc := ⟨.hbm, 335, rfl⟩
abbrev main_v255 : Ref sig .tc := ⟨.hbm, 336, rfl⟩
abbrev main_v256 : Ref sig .tc := ⟨.hbm, 337, rfl⟩
abbrev main_v257 : Ref sig .tc := ⟨.hbm, 338, rfl⟩
abbrev main_c_65 : Ref sig .tc := ⟨.hbm, 339, rfl⟩
abbrev main_v258 : Ref sig .tc := ⟨.hbm, 340, rfl⟩
abbrev main_v259 : Ref sig .tc := ⟨.hbm, 341, rfl⟩
abbrev main_c_66 : Ref sig .tc := ⟨.hbm, 342, rfl⟩
abbrev main_v260 : Ref sig .tc := ⟨.hbm, 343, rfl⟩
abbrev main_v261 : Ref sig .tc := ⟨.hbm, 344, rfl⟩
abbrev main_v262 : Ref sig .tc := ⟨.hbm, 345, rfl⟩
abbrev main_v263 : Ref sig .tc := ⟨.hbm, 346, rfl⟩
abbrev main_cst_67 : Ref sig .tc := ⟨.hbm, 347, rfl⟩
abbrev main_v264 : Ref sig .tc := ⟨.hbm, 348, rfl⟩
abbrev main_v265 : Ref sig .tc := ⟨.hbm, 349, rfl⟩
abbrev main_v266 : Ref sig .tc := ⟨.hbm, 350, rfl⟩
abbrev main_v267 : Ref sig .tc := ⟨.hbm, 351, rfl⟩
abbrev main_c_68 : Ref sig .tc := ⟨.hbm, 352, rfl⟩
abbrev main_v268 : Ref sig .tc := ⟨.hbm, 353, rfl⟩
abbrev main_v269 : Ref sig .tc := ⟨.hbm, 354, rfl⟩
abbrev main_c_69 : Ref sig .tc := ⟨.hbm, 355, rfl⟩
abbrev main_v270 : Ref sig .tc := ⟨.hbm, 356, rfl⟩
abbrev main_v271 : Ref sig .tc := ⟨.hbm, 357, rfl⟩
abbrev main_v272 : Ref sig .tc := ⟨.hbm, 358, rfl⟩
abbrev main_v273 : Ref sig .tc := ⟨.hbm, 359, rfl⟩
abbrev main_v274 : Ref sig .tc := ⟨.hbm, 360, rfl⟩
abbrev main_v275 : Ref sig .tc := ⟨.hbm, 361, rfl⟩
abbrev main_v276 : Ref sig .tc := ⟨.hbm, 362, rfl⟩
abbrev main_c_70 : Ref sig .tc := ⟨.hbm, 363, rfl⟩
abbrev main_v277 : Ref sig .tc := ⟨.hbm, 364, rfl⟩
abbrev main_v278 : Ref sig .tc := ⟨.hbm, 365, rfl⟩
abbrev main_c_71 : Ref sig .tc := ⟨.hbm, 366, rfl⟩
abbrev main_v279 : Ref sig .tc := ⟨.hbm, 367, rfl⟩
abbrev main_v280 : Ref sig .tc := ⟨.hbm, 368, rfl⟩
abbrev main_v281 : Ref sig .tc := ⟨.hbm, 369, rfl⟩
abbrev main_v282 : Ref sig .tc := ⟨.hbm, 370, rfl⟩
abbrev main_cst_72 : Ref sig .tc := ⟨.hbm, 371, rfl⟩
abbrev main_v283 : Ref sig .tc := ⟨.hbm, 372, rfl⟩
abbrev main_v284 : Ref sig .tc := ⟨.hbm, 373, rfl⟩
abbrev main_v285 : Ref sig .tc := ⟨.hbm, 374, rfl⟩
abbrev main_v286 : Ref sig .tc := ⟨.hbm, 375, rfl⟩
abbrev main_c_73 : Ref sig .tc := ⟨.hbm, 376, rfl⟩
abbrev main_v287 : Ref sig .tc := ⟨.hbm, 377, rfl⟩
abbrev main_v288 : Ref sig .tc := ⟨.hbm, 378, rfl⟩
abbrev main_c_74 : Ref sig .tc := ⟨.hbm, 379, rfl⟩
abbrev main_v289 : Ref sig .tc := ⟨.hbm, 380, rfl⟩
abbrev main_v290 : Ref sig .tc := ⟨.hbm, 381, rfl⟩
abbrev main_v291 : Ref sig .tc := ⟨.hbm, 382, rfl⟩
abbrev main_v292 : Ref sig .tc := ⟨.hbm, 383, rfl⟩
abbrev main_v293 : Ref sig .tc := ⟨.hbm, 384, rfl⟩
abbrev main_v294 : Ref sig .tc := ⟨.hbm, 385, rfl⟩
abbrev main_v295 : Ref sig .tc := ⟨.hbm, 386, rfl⟩
abbrev main_c_75 : Ref sig .tc := ⟨.hbm, 387, rfl⟩
abbrev main_v296 : Ref sig .tc := ⟨.hbm, 388, rfl⟩
abbrev main_v297 : Ref sig .tc := ⟨.hbm, 389, rfl⟩
abbrev main_c_76 : Ref sig .tc := ⟨.hbm, 390, rfl⟩
abbrev main_v298 : Ref sig .tc := ⟨.hbm, 391, rfl⟩
abbrev main_v299 : Ref sig .tc := ⟨.hbm, 392, rfl⟩
abbrev main_v300 : Ref sig .tc := ⟨.hbm, 393, rfl⟩
abbrev main_v301 : Ref sig .tc := ⟨.hbm, 394, rfl⟩
abbrev main_cst_77 : Ref sig .tc := ⟨.hbm, 395, rfl⟩
abbrev main_v302 : Ref sig .tc := ⟨.hbm, 396, rfl⟩
abbrev main_v303 : Ref sig .tc := ⟨.hbm, 397, rfl⟩
abbrev main_cst_78 : Ref sig .tc := ⟨.hbm, 398, rfl⟩
abbrev main_call2_v0 : Ref sig .tc := ⟨.hbm, 399, rfl⟩
abbrev main_call2_v1 : Ref sig .tc := ⟨.hbm, 400, rfl⟩
abbrev main_v304 : Ref sig .tc := ⟨.hbm, 401, rfl⟩
abbrev main_v305 : Ref sig .tc := ⟨.hbm, 402, rfl⟩
abbrev main_v306 : Ref sig .tc := ⟨.hbm, 403, rfl⟩
abbrev main_v307 : Ref sig .tc := ⟨.hbm, 404, rfl⟩
abbrev main_v308 : Ref sig .tc := ⟨.hbm, 405, rfl⟩
abbrev main_v309 : Ref sig .tc := ⟨.hbm, 406, rfl⟩
abbrev main_c_79 : Ref sig .tc := ⟨.hbm, 407, rfl⟩
abbrev main_v310 : Ref sig .tc := ⟨.hbm, 408, rfl⟩
abbrev main_v311 : Ref sig .tc := ⟨.hbm, 409, rfl⟩
abbrev main_c_80 : Ref sig .tc := ⟨.hbm, 410, rfl⟩
abbrev main_v312 : Ref sig .tc := ⟨.hbm, 411, rfl⟩
abbrev main_v313 : Ref sig .tc := ⟨.hbm, 412, rfl⟩
abbrev main_v314 : Ref sig .tc := ⟨.hbm, 413, rfl⟩
abbrev main_v315 : Ref sig .tc := ⟨.hbm, 414, rfl⟩
abbrev main_v316 : Ref sig .tc := ⟨.hbm, 415, rfl⟩
abbrev main_v317 : Ref sig .tc := ⟨.hbm, 416, rfl⟩
abbrev main_v318 : Ref sig .tc := ⟨.hbm, 417, rfl⟩
abbrev main_c_81 : Ref sig .tc := ⟨.hbm, 418, rfl⟩
abbrev main_v319 : Ref sig .tc := ⟨.hbm, 419, rfl⟩
abbrev main_v320 : Ref sig .tc := ⟨.hbm, 420, rfl⟩
abbrev main_c_82 : Ref sig .tc := ⟨.hbm, 421, rfl⟩
abbrev main_v321 : Ref sig .tc := ⟨.hbm, 422, rfl⟩
abbrev main_v322 : Ref sig .tc := ⟨.hbm, 423, rfl⟩
abbrev main_v323 : Ref sig .tc := ⟨.hbm, 424, rfl⟩
abbrev main_v324 : Ref sig .tc := ⟨.hbm, 425, rfl⟩
abbrev main_v325 : Ref sig .tc := ⟨.hbm, 426, rfl⟩
abbrev main_v326 : Ref sig .tc := ⟨.hbm, 427, rfl⟩
abbrev main_v327 : Ref sig .tc := ⟨.hbm, 428, rfl⟩
abbrev main_v328 : Ref sig .tc := ⟨.hbm, 429, rfl⟩
abbrev main_c_83 : Ref sig .tc := ⟨.hbm, 430, rfl⟩
abbrev main_v329 : Ref sig .tc := ⟨.hbm, 431, rfl⟩
abbrev main_v330 : Ref sig .tc := ⟨.hbm, 432, rfl⟩
abbrev main_c_84 : Ref sig .tc := ⟨.hbm, 433, rfl⟩
abbrev main_v331 : Ref sig .tc := ⟨.hbm, 434, rfl⟩
abbrev main_v332 : Ref sig .tc := ⟨.hbm, 435, rfl⟩
abbrev main_v333 : Ref sig .tc := ⟨.hbm, 436, rfl⟩
abbrev main_v334 : Ref sig .tc := ⟨.hbm, 437, rfl⟩
abbrev main_v335 : Ref sig .tc := ⟨.hbm, 438, rfl⟩
abbrev main_v336 : Ref sig .tc := ⟨.hbm, 439, rfl⟩
abbrev main_v337 : Ref sig .tc := ⟨.hbm, 440, rfl⟩
abbrev main_v338 : Ref sig .tc := ⟨.hbm, 441, rfl⟩
abbrev main_v339 : Ref sig .tc := ⟨.hbm, 442, rfl⟩
abbrev main_v340 : Ref sig .tc := ⟨.hbm, 443, rfl⟩
abbrev main_cst_85 : Ref sig .tc := ⟨.hbm, 444, rfl⟩
abbrev main_v341 : Ref sig .tc := ⟨.hbm, 445, rfl⟩
abbrev main_c_86 : Ref sig .tc := ⟨.hbm, 446, rfl⟩
abbrev main_v342 : Ref sig .tc := ⟨.hbm, 447, rfl⟩
abbrev main_c_87 : Ref sig .tc := ⟨.hbm, 448, rfl⟩
abbrev main_v343 : Ref sig .tc := ⟨.hbm, 449, rfl⟩
abbrev main_v344 : Ref sig .tc := ⟨.hbm, 450, rfl⟩
abbrev main_v345 : Ref sig .tc := ⟨.hbm, 451, rfl⟩
abbrev main_c_88 : Ref sig .tc := ⟨.hbm, 452, rfl⟩
abbrev main_v346 : Ref sig .tc := ⟨.hbm, 453, rfl⟩
abbrev main_c_89 : Ref sig .tc := ⟨.hbm, 454, rfl⟩
abbrev main_v347 : Ref sig .tc := ⟨.hbm, 455, rfl⟩
abbrev main_v348 : Ref sig .tc := ⟨.hbm, 456, rfl⟩
abbrev main_v349 : Ref sig .tc := ⟨.hbm, 457, rfl⟩
abbrev main_v350 : Ref sig .tc := ⟨.hbm, 458, rfl⟩
abbrev main_v351 : Ref sig .tc := ⟨.hbm, 459, rfl⟩
abbrev main_v352 : Ref sig .tc := ⟨.hbm, 460, rfl⟩
abbrev main_v353 : Ref sig .tc := ⟨.hbm, 461, rfl⟩
abbrev main_v354 : Ref sig .tc := ⟨.hbm, 462, rfl⟩
abbrev main_v355 : Ref sig .tc := ⟨.hbm, 463, rfl⟩
abbrev main_v356 : Ref sig .tc := ⟨.hbm, 464, rfl⟩
abbrev main_cst_90 : Ref sig .tc := ⟨.hbm, 465, rfl⟩
abbrev main_v357 : Ref sig .tc := ⟨.hbm, 466, rfl⟩
abbrev main_cst_91 : Ref sig .tc := ⟨.hbm, 467, rfl⟩
abbrev main_v358 : Ref sig .tc := ⟨.hbm, 468, rfl⟩
abbrev main_v359 : Ref sig .tc := ⟨.hbm, 469, rfl⟩
abbrev main_v360 : Ref sig .tc := ⟨.hbm, 470, rfl⟩
abbrev main_c_92 : Ref sig .tc := ⟨.hbm, 471, rfl⟩
abbrev main_v361 : Ref sig .tc := ⟨.hbm, 472, rfl⟩
abbrev main_v362 : Ref sig .tc := ⟨.hbm, 473, rfl⟩
abbrev main_c_93 : Ref sig .tc := ⟨.hbm, 474, rfl⟩
abbrev main_v363 : Ref sig .tc := ⟨.hbm, 475, rfl⟩
abbrev main_v364 : Ref sig .tc := ⟨.hbm, 476, rfl⟩
abbrev main_v365 : Ref sig .tc := ⟨.hbm, 477, rfl⟩
abbrev main_v366 : Ref sig .tc := ⟨.hbm, 478, rfl⟩
abbrev main_v367 : Ref sig .tc := ⟨.hbm, 479, rfl⟩
abbrev main_v368 : Ref sig .tc := ⟨.hbm, 480, rfl⟩
abbrev main_v369 : Ref sig .tc := ⟨.hbm, 481, rfl⟩
abbrev main_c_94 : Ref sig .tc := ⟨.hbm, 482, rfl⟩
abbrev main_v370 : Ref sig .tc := ⟨.hbm, 483, rfl⟩
abbrev main_v371 : Ref sig .tc := ⟨.hbm, 484, rfl⟩
abbrev main_c_95 : Ref sig .tc := ⟨.hbm, 485, rfl⟩
abbrev main_v372 : Ref sig .tc := ⟨.hbm, 486, rfl⟩
abbrev main_v373 : Ref sig .tc := ⟨.hbm, 487, rfl⟩
abbrev main_v374 : Ref sig .tc := ⟨.hbm, 488, rfl⟩
abbrev main_v375 : Ref sig .tc := ⟨.hbm, 489, rfl⟩
abbrev main_cst_96 : Ref sig .tc := ⟨.hbm, 490, rfl⟩
abbrev main_v376 : Ref sig .tc := ⟨.hbm, 491, rfl⟩
abbrev main_v377 : Ref sig .tc := ⟨.hbm, 492, rfl⟩
abbrev main_v378 : Ref sig .tc := ⟨.hbm, 493, rfl⟩
abbrev main_v379 : Ref sig .tc := ⟨.hbm, 494, rfl⟩
abbrev main_c_97 : Ref sig .tc := ⟨.hbm, 495, rfl⟩
abbrev main_v380 : Ref sig .tc := ⟨.hbm, 496, rfl⟩
abbrev main_v381 : Ref sig .tc := ⟨.hbm, 497, rfl⟩
abbrev main_c_98 : Ref sig .tc := ⟨.hbm, 498, rfl⟩
abbrev main_v382 : Ref sig .tc := ⟨.hbm, 499, rfl⟩
abbrev main_v383 : Ref sig .tc := ⟨.hbm, 500, rfl⟩
abbrev main_v384 : Ref sig .tc := ⟨.hbm, 501, rfl⟩
abbrev main_v385 : Ref sig .tc := ⟨.hbm, 502, rfl⟩
abbrev main_v386 : Ref sig .tc := ⟨.hbm, 503, rfl⟩
abbrev main_v387 : Ref sig .tc := ⟨.hbm, 504, rfl⟩
abbrev main_v388 : Ref sig .tc := ⟨.hbm, 505, rfl⟩
abbrev main_c_99 : Ref sig .tc := ⟨.hbm, 506, rfl⟩
abbrev main_v389 : Ref sig .tc := ⟨.hbm, 507, rfl⟩
abbrev main_v390 : Ref sig .tc := ⟨.hbm, 508, rfl⟩
abbrev main_c_100 : Ref sig .tc := ⟨.hbm, 509, rfl⟩
abbrev main_v391 : Ref sig .tc := ⟨.hbm, 510, rfl⟩
abbrev main_v392 : Ref sig .tc := ⟨.hbm, 511, rfl⟩
abbrev main_v393 : Ref sig .tc := ⟨.hbm, 512, rfl⟩
abbrev main_v394 : Ref sig .tc := ⟨.hbm, 513, rfl⟩
abbrev main_cst_101 : Ref sig .tc := ⟨.hbm, 514, rfl⟩
abbrev main_v395 : Ref sig .tc := ⟨.hbm, 515, rfl⟩
abbrev main_v396 : Ref sig .tc := ⟨.hbm, 516, rfl⟩
abbrev main_v397 : Ref sig .tc := ⟨.hbm, 517, rfl⟩
abbrev main_v398 : Ref sig .tc := ⟨.hbm, 518, rfl⟩
abbrev main_c_102 : Ref sig .tc := ⟨.hbm, 519, rfl⟩
abbrev main_v399 : Ref sig .tc := ⟨.hbm, 520, rfl⟩
abbrev main_v400 : Ref sig .tc := ⟨.hbm, 521, rfl⟩
abbrev main_c_103 : Ref sig .tc := ⟨.hbm, 522, rfl⟩
abbrev main_v401 : Ref sig .tc := ⟨.hbm, 523, rfl⟩
abbrev main_v402 : Ref sig .tc := ⟨.hbm, 524, rfl⟩
abbrev main_v403 : Ref sig .tc := ⟨.hbm, 525, rfl⟩
abbrev main_v404 : Ref sig .tc := ⟨.hbm, 526, rfl⟩
abbrev main_v405 : Ref sig .tc := ⟨.hbm, 527, rfl⟩
abbrev main_v406 : Ref sig .tc := ⟨.hbm, 528, rfl⟩
abbrev main_v407 : Ref sig .tc := ⟨.hbm, 529, rfl⟩
abbrev main_c_104 : Ref sig .tc := ⟨.hbm, 530, rfl⟩
abbrev main_v408 : Ref sig .tc := ⟨.hbm, 531, rfl⟩
abbrev main_v409 : Ref sig .tc := ⟨.hbm, 532, rfl⟩
abbrev main_c_105 : Ref sig .tc := ⟨.hbm, 533, rfl⟩
abbrev main_v410 : Ref sig .tc := ⟨.hbm, 534, rfl⟩
abbrev main_v411 : Ref sig .tc := ⟨.hbm, 535, rfl⟩
abbrev main_v412 : Ref sig .tc := ⟨.hbm, 536, rfl⟩
abbrev main_v413 : Ref sig .tc := ⟨.hbm, 537, rfl⟩
abbrev main_cst_106 : Ref sig .tc := ⟨.hbm, 538, rfl⟩
abbrev main_v414 : Ref sig .tc := ⟨.hbm, 539, rfl⟩
abbrev main_v415 : Ref sig .tc := ⟨.hbm, 540, rfl⟩
abbrev main_cst_107 : Ref sig .tc := ⟨.hbm, 541, rfl⟩
abbrev main_call3_v0 : Ref sig .tc := ⟨.hbm, 542, rfl⟩
abbrev main_call3_v1 : Ref sig .tc := ⟨.hbm, 543, rfl⟩
abbrev main_v416 : Ref sig .tc := ⟨.hbm, 544, rfl⟩
abbrev main_v417 : Ref sig .tc := ⟨.hbm, 545, rfl⟩
abbrev main_v418 : Ref sig .tc := ⟨.hbm, 546, rfl⟩
abbrev main_v419 : Ref sig .tc := ⟨.hbm, 547, rfl⟩
abbrev main_v420 : Ref sig .tc := ⟨.hbm, 548, rfl⟩
abbrev main_v421 : Ref sig .tc := ⟨.hbm, 549, rfl⟩
abbrev main_c_108 : Ref sig .tc := ⟨.hbm, 550, rfl⟩
abbrev main_v422 : Ref sig .tc := ⟨.hbm, 551, rfl⟩
abbrev main_v423 : Ref sig .tc := ⟨.hbm, 552, rfl⟩
abbrev main_c_109 : Ref sig .tc := ⟨.hbm, 553, rfl⟩
abbrev main_v424 : Ref sig .tc := ⟨.hbm, 554, rfl⟩
abbrev main_v425 : Ref sig .tc := ⟨.hbm, 555, rfl⟩
abbrev main_v426 : Ref sig .tc := ⟨.hbm, 556, rfl⟩
abbrev main_v427 : Ref sig .tc := ⟨.hbm, 557, rfl⟩
abbrev main_v428 : Ref sig .tc := ⟨.hbm, 558, rfl⟩
abbrev main_v429 : Ref sig .tc := ⟨.hbm, 559, rfl⟩
abbrev main_v430 : Ref sig .tc := ⟨.hbm, 560, rfl⟩
abbrev main_c_110 : Ref sig .tc := ⟨.hbm, 561, rfl⟩
abbrev main_v431 : Ref sig .tc := ⟨.hbm, 562, rfl⟩
abbrev main_v432 : Ref sig .tc := ⟨.hbm, 563, rfl⟩
abbrev main_c_111 : Ref sig .tc := ⟨.hbm, 564, rfl⟩
abbrev main_v433 : Ref sig .tc := ⟨.hbm, 565, rfl⟩
abbrev main_v434 : Ref sig .tc := ⟨.hbm, 566, rfl⟩
abbrev main_v435 : Ref sig .tc := ⟨.hbm, 567, rfl⟩
abbrev main_v436 : Ref sig .tc := ⟨.hbm, 568, rfl⟩
abbrev main_v437 : Ref sig .tc := ⟨.hbm, 569, rfl⟩
abbrev main_v438 : Ref sig .tc := ⟨.hbm, 570, rfl⟩
abbrev main_v439 : Ref sig .tc := ⟨.hbm, 571, rfl⟩
abbrev main_v440 : Ref sig .tc := ⟨.hbm, 572, rfl⟩
abbrev main_c_112 : Ref sig .tc := ⟨.hbm, 573, rfl⟩
abbrev main_v441 : Ref sig .tc := ⟨.hbm, 574, rfl⟩
abbrev main_v442 : Ref sig .tc := ⟨.hbm, 575, rfl⟩
abbrev main_c_113 : Ref sig .tc := ⟨.hbm, 576, rfl⟩
abbrev main_v443 : Ref sig .tc := ⟨.hbm, 577, rfl⟩
abbrev main_v444 : Ref sig .tc := ⟨.hbm, 578, rfl⟩
abbrev main_v445 : Ref sig .tc := ⟨.hbm, 579, rfl⟩
abbrev main_v446 : Ref sig .tc := ⟨.hbm, 580, rfl⟩
abbrev main_v447 : Ref sig .tc := ⟨.hbm, 581, rfl⟩
abbrev main_v448 : Ref sig .tc := ⟨.hbm, 582, rfl⟩
abbrev main_v449 : Ref sig .tc := ⟨.hbm, 583, rfl⟩
abbrev main_v450 : Ref sig .tc := ⟨.hbm, 584, rfl⟩
abbrev main_v451 : Ref sig .tc := ⟨.hbm, 585, rfl⟩
abbrev main_v452 : Ref sig .tc := ⟨.hbm, 586, rfl⟩
abbrev main_cst_114 : Ref sig .tc := ⟨.hbm, 587, rfl⟩
abbrev main_v453 : Ref sig .tc := ⟨.hbm, 588, rfl⟩
abbrev main_c_115 : Ref sig .tc := ⟨.hbm, 589, rfl⟩
abbrev main_v454 : Ref sig .tc := ⟨.hbm, 590, rfl⟩
abbrev main_c_116 : Ref sig .tc := ⟨.hbm, 591, rfl⟩
abbrev main_v455 : Ref sig .tc := ⟨.hbm, 592, rfl⟩
abbrev main_v456 : Ref sig .tc := ⟨.hbm, 593, rfl⟩
abbrev main_v457 : Ref sig .tc := ⟨.hbm, 594, rfl⟩
abbrev main_c_117 : Ref sig .tc := ⟨.hbm, 595, rfl⟩
abbrev main_v458 : Ref sig .tc := ⟨.hbm, 596, rfl⟩
abbrev main_c_118 : Ref sig .tc := ⟨.hbm, 597, rfl⟩
abbrev main_v459 : Ref sig .tc := ⟨.hbm, 598, rfl⟩
abbrev main_v460 : Ref sig .tc := ⟨.hbm, 599, rfl⟩
abbrev main_v461 : Ref sig .tc := ⟨.hbm, 600, rfl⟩
abbrev main_v462 : Ref sig .tc := ⟨.hbm, 601, rfl⟩
abbrev main_v463 : Ref sig .tc := ⟨.hbm, 602, rfl⟩
abbrev main_v464 : Ref sig .tc := ⟨.hbm, 603, rfl⟩
abbrev main_v465 : Ref sig .tc := ⟨.hbm, 604, rfl⟩
abbrev main_v466 : Ref sig .tc := ⟨.hbm, 605, rfl⟩
abbrev main_v467 : Ref sig .tc := ⟨.hbm, 606, rfl⟩
abbrev main_v468 : Ref sig .tc := ⟨.hbm, 607, rfl⟩
abbrev main_cst_119 : Ref sig .tc := ⟨.hbm, 608, rfl⟩
abbrev main_v469 : Ref sig .tc := ⟨.hbm, 609, rfl⟩
abbrev main_cst_120 : Ref sig .tc := ⟨.hbm, 610, rfl⟩
abbrev main_v470 : Ref sig .tc := ⟨.hbm, 611, rfl⟩
abbrev main_v471 : Ref sig .tc := ⟨.hbm, 612, rfl⟩
abbrev main_v472 : Ref sig .tc := ⟨.hbm, 613, rfl⟩
abbrev main_c_121 : Ref sig .tc := ⟨.hbm, 614, rfl⟩
abbrev main_v473 : Ref sig .tc := ⟨.hbm, 615, rfl⟩
abbrev main_v474 : Ref sig .tc := ⟨.hbm, 616, rfl⟩
abbrev main_c_122 : Ref sig .tc := ⟨.hbm, 617, rfl⟩
abbrev main_v475 : Ref sig .tc := ⟨.hbm, 618, rfl⟩
abbrev main_v476 : Ref sig .tc := ⟨.hbm, 619, rfl⟩
abbrev main_v477 : Ref sig .tc := ⟨.hbm, 620, rfl⟩
abbrev main_v478 : Ref sig .tc := ⟨.hbm, 621, rfl⟩
abbrev main_v479 : Ref sig .tc := ⟨.hbm, 622, rfl⟩
abbrev main_v480 : Ref sig .tc := ⟨.hbm, 623, rfl⟩
abbrev main_v481 : Ref sig .tc := ⟨.hbm, 624, rfl⟩
abbrev main_c_123 : Ref sig .tc := ⟨.hbm, 625, rfl⟩
abbrev main_v482 : Ref sig .tc := ⟨.hbm, 626, rfl⟩
abbrev main_v483 : Ref sig .tc := ⟨.hbm, 627, rfl⟩
abbrev main_c_124 : Ref sig .tc := ⟨.hbm, 628, rfl⟩
abbrev main_v484 : Ref sig .tc := ⟨.hbm, 629, rfl⟩
abbrev main_v485 : Ref sig .tc := ⟨.hbm, 630, rfl⟩
abbrev main_v486 : Ref sig .tc := ⟨.hbm, 631, rfl⟩
abbrev main_v487 : Ref sig .tc := ⟨.hbm, 632, rfl⟩
abbrev main_cst_125 : Ref sig .tc := ⟨.hbm, 633, rfl⟩
abbrev main_v488 : Ref sig .tc := ⟨.hbm, 634, rfl⟩
abbrev main_v489 : Ref sig .tc := ⟨.hbm, 635, rfl⟩
abbrev main_v490 : Ref sig .tc := ⟨.hbm, 636, rfl⟩
abbrev main_v491 : Ref sig .tc := ⟨.hbm, 637, rfl⟩
abbrev main_c_126 : Ref sig .tc := ⟨.hbm, 638, rfl⟩
abbrev main_v492 : Ref sig .tc := ⟨.hbm, 639, rfl⟩
abbrev main_v493 : Ref sig .tc := ⟨.hbm, 640, rfl⟩
abbrev main_c_127 : Ref sig .tc := ⟨.hbm, 641, rfl⟩
abbrev main_v494 : Ref sig .tc := ⟨.hbm, 642, rfl⟩
abbrev main_v495 : Ref sig .tc := ⟨.hbm, 643, rfl⟩
abbrev main_v496 : Ref sig .tc := ⟨.hbm, 644, rfl⟩
abbrev main_v497 : Ref sig .tc := ⟨.hbm, 645, rfl⟩
abbrev main_v498 : Ref sig .tc := ⟨.hbm, 646, rfl⟩
abbrev main_v499 : Ref sig .tc := ⟨.hbm, 647, rfl⟩
abbrev main_v500 : Ref sig .tc := ⟨.hbm, 648, rfl⟩
abbrev main_c_128 : Ref sig .tc := ⟨.hbm, 649, rfl⟩
abbrev main_v501 : Ref sig .tc := ⟨.hbm, 650, rfl⟩
abbrev main_v502 : Ref sig .tc := ⟨.hbm, 651, rfl⟩
abbrev main_c_129 : Ref sig .tc := ⟨.hbm, 652, rfl⟩
abbrev main_v503 : Ref sig .tc := ⟨.hbm, 653, rfl⟩
abbrev main_v504 : Ref sig .tc := ⟨.hbm, 654, rfl⟩
abbrev main_v505 : Ref sig .tc := ⟨.hbm, 655, rfl⟩
abbrev main_v506 : Ref sig .tc := ⟨.hbm, 656, rfl⟩
abbrev main_cst_130 : Ref sig .tc := ⟨.hbm, 657, rfl⟩
abbrev main_v507 : Ref sig .tc := ⟨.hbm, 658, rfl⟩
abbrev main_v508 : Ref sig .tc := ⟨.hbm, 659, rfl⟩
abbrev main_v509 : Ref sig .tc := ⟨.hbm, 660, rfl⟩
abbrev main_v510 : Ref sig .tc := ⟨.hbm, 661, rfl⟩
abbrev main_c_131 : Ref sig .tc := ⟨.hbm, 662, rfl⟩
abbrev main_v511 : Ref sig .tc := ⟨.hbm, 663, rfl⟩
abbrev main_v512 : Ref sig .tc := ⟨.hbm, 664, rfl⟩
abbrev main_c_132 : Ref sig .tc := ⟨.hbm, 665, rfl⟩
abbrev main_v513 : Ref sig .tc := ⟨.hbm, 666, rfl⟩
abbrev main_v514 : Ref sig .tc := ⟨.hbm, 667, rfl⟩
abbrev main_v515 : Ref sig .tc := ⟨.hbm, 668, rfl⟩
abbrev main_v516 : Ref sig .tc := ⟨.hbm, 669, rfl⟩
abbrev main_v517 : Ref sig .tc := ⟨.hbm, 670, rfl⟩
abbrev main_v518 : Ref sig .tc := ⟨.hbm, 671, rfl⟩
abbrev main_v519 : Ref sig .tc := ⟨.hbm, 672, rfl⟩
abbrev main_c_133 : Ref sig .tc := ⟨.hbm, 673, rfl⟩
abbrev main_v520 : Ref sig .tc := ⟨.hbm, 674, rfl⟩
abbrev main_v521 : Ref sig .tc := ⟨.hbm, 675, rfl⟩
abbrev main_c_134 : Ref sig .tc := ⟨.hbm, 676, rfl⟩
abbrev main_v522 : Ref sig .tc := ⟨.hbm, 677, rfl⟩
abbrev main_v523 : Ref sig .tc := ⟨.hbm, 678, rfl⟩
abbrev main_v524 : Ref sig .tc := ⟨.hbm, 679, rfl⟩
abbrev main_v525 : Ref sig .tc := ⟨.hbm, 680, rfl⟩
abbrev main_cst_135 : Ref sig .tc := ⟨.hbm, 681, rfl⟩
abbrev main_v526 : Ref sig .tc := ⟨.hbm, 682, rfl⟩
abbrev main_v527 : Ref sig .tc := ⟨.hbm, 683, rfl⟩
abbrev main_cst_136 : Ref sig .tc := ⟨.hbm, 684, rfl⟩
abbrev main_call4_v0 : Ref sig .tc := ⟨.hbm, 685, rfl⟩
abbrev main_call4_v1 : Ref sig .tc := ⟨.hbm, 686, rfl⟩
abbrev main_v528 : Ref sig .tc := ⟨.hbm, 687, rfl⟩
abbrev main_v529 : Ref sig .tc := ⟨.hbm, 688, rfl⟩
abbrev main_v530 : Ref sig .tc := ⟨.hbm, 689, rfl⟩
abbrev main_v531 : Ref sig .tc := ⟨.hbm, 690, rfl⟩
abbrev main_v532 : Ref sig .tc := ⟨.hbm, 691, rfl⟩
abbrev main_v533 : Ref sig .tc := ⟨.hbm, 692, rfl⟩
abbrev main_v534 : Ref sig .tc := ⟨.hbm, 693, rfl⟩
abbrev main_v535 : Ref sig .tc := ⟨.hbm, 694, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg6_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg6_0 : Ref sig .tc := ⟨.vmem, 39, rfl⟩
abbrev cc3_stg6_1 : Ref sig .tc := ⟨.vmem, 40, rfl⟩
abbrev cc4_stg0_0 : Ref sig .tc := ⟨.vmem, 41, rfl⟩
abbrev cc4_stg0_1 : Ref sig .tc := ⟨.vmem, 42, rfl⟩
abbrev cc4_stg1_0 : Ref sig .tc := ⟨.vmem, 43, rfl⟩
abbrev cc4_stg1_1 : Ref sig .tc := ⟨.vmem, 44, rfl⟩
abbrev cc4_stg2_0 : Ref sig .tc := ⟨.vmem, 45, rfl⟩
abbrev cc4_stg3_0 : Ref sig .tc := ⟨.vmem, 46, rfl⟩
abbrev cc4_stg4_0 : Ref sig .tc := ⟨.vmem, 47, rfl⟩
abbrev cc4_stg5_0 : Ref sig .tc := ⟨.vmem, 48, rfl⟩
abbrev cc4_stg6_0 : Ref sig .tc := ⟨.vmem, 49, rfl⟩
abbrev cc4_stg7_0 : Ref sig .tc := ⟨.vmem, 50, rfl⟩
abbrev cc4_stg8_0 : Ref sig .tc := ⟨.vmem, 51, rfl⟩
abbrev cc4_stg8_1 : Ref sig .tc := ⟨.vmem, 52, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem6_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem6_1 : DmaSem sig := 30
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem6_0 : DmaSem sig := 39
abbrev cc3_sem6_1 : DmaSem sig := 40
abbrev cc4_sem0_0 : DmaSem sig := 41
abbrev cc4_sem0_1 : DmaSem sig := 42
abbrev cc4_sem1_0 : DmaSem sig := 43
abbrev cc4_sem1_1 : DmaSem sig := 44
abbrev cc4_sem2_0 : DmaSem sig := 45
abbrev cc4_sem3_0 : DmaSem sig := 46
abbrev cc4_sem4_0 : DmaSem sig := 47
abbrev cc4_sem5_0 : DmaSem sig := 48
abbrev cc4_sem6_0 : DmaSem sig := 49
abbrev cc4_sem7_0 : DmaSem sig := 50
abbrev cc4_sem8_0 : DmaSem sig := 51
abbrev cc4_sem8_1 : DmaSem sig := 52

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x3 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x32 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S32x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S32 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x32 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![200], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S32x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S32 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S32x32 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S32 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S2000x32 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]
-- ==== KernelIdeal.lean ====
variable {F : FTy → Type} [FloatOps F] [Named F]
def κ : String → Option EReal := fun
  | "inv_norm" => some ((2097152 / 2307077 : ℝ) : EReal)
  | _ => none
-- ==== ReferenceIdeal.lean ====
abbrev S4x100000x3 : Shape := ⟨3, ![4, 100000, 3]⟩
abbrev S3x32 : Shape := ⟨2, ![3, 32]⟩
abbrev S5x64x32 : Shape := ⟨3, ![5, 64, 32]⟩
abbrev S5x32 : Shape := ⟨2, ![5, 32]⟩
abbrev S5x32x32 : Shape := ⟨3, ![5, 32, 32]⟩
abbrev S32x32 : Shape := ⟨2, ![32, 32]⟩
abbrev S32 : Shape := ⟨1, ![32]⟩
abbrev S_ : Shape := ⟨0, ![]⟩
abbrev S4x100000x1 : Shape := ⟨3, ![4, 100000, 1]⟩
abbrev S4x100000 : Shape := ⟨2, ![4, 100000]⟩
abbrev S4x100000x32 : Shape := ⟨3, ![4, 100000, 32]⟩
abbrev S4x100000x64 : Shape := ⟨3, ![4, 100000, 64]⟩
abbrev S1x64x32 : Shape := ⟨3, ![1, 64, 32]⟩
abbrev S64x32 : Shape := ⟨2, ![64, 32]⟩
abbrev S1x32 : Shape := ⟨2, ![1, 32]⟩
abbrev S1x32x32 : Shape := ⟨3, ![1, 32, 32]⟩
abbrev S1x1x32 : Shape := ⟨3, ![1, 1, 32]⟩
abbrev S4 : Shape := ⟨1, ![4]⟩
abbrev S4x1 : Shape := ⟨2, ![4, 1]⟩
abbrev S4x4096x32 : Shape := ⟨3, ![4, 4096, 32]⟩
abbrev S4x100000x2 : Shape := ⟨3, ![4, 100000, 2]⟩
abbrev S4x4096 : Shape := ⟨2, ![4, 4096]⟩
abbrev S4x4096x1 : Shape := ⟨3, ![4, 4096, 1]⟩
abbrev S4x32x4096 : Shape := ⟨3, ![4, 32, 4096]⟩
abbrev S4x32x64x64 : Shape := ⟨4, ![4, 32, 64, 64]⟩
abbrev S12x32x64x64 : Shape := ⟨4, ![12, 32, 64, 64]⟩

abbrev nBuf : Space → Nat
  | .hbm => 1236
  | .vmem => 0
  | .smem => 0
  | _ => 0

abbrev hbmTy0_0 (i : Nat) : BufTy := match i % 128 with
  | 0 => ⟨S4x100000x3, .f32⟩
  | 1 => ⟨S3x32, .f32⟩
  | 2 => ⟨S5x64x32, .f32⟩
  | 3 => ⟨S5x32, .f32⟩
  | 4 => ⟨S5x32x32, .f32⟩
  | 5 => ⟨S5x32, .f32⟩
  | 6 => ⟨S5x64x32, .f32⟩
  | 7 => ⟨S32x32, .f32⟩
  | 8 => ⟨S32, .f32⟩
  | 9 => ⟨S_, .f32⟩
  | 10 => ⟨S4x100000x3, .f32⟩
  | 11 => ⟨S4x100000x3, .f32⟩
  | 12 => ⟨S_, .f32⟩
  | 13 => ⟨S4x100000x3, .f32⟩
  | 14 => ⟨S4x100000x3, .f32⟩
  | 15 => ⟨S_, .f32⟩
  | 16 => ⟨S4x100000x3, .f32⟩
  | 17 => ⟨S4x100000x3, .f32⟩
  | 18 => ⟨S_, .f32⟩
  | 19 => ⟨S_, .i32⟩
  | 20 => ⟨S_, .f32⟩
  | 21 => ⟨S4x100000x3, .f32⟩
  | 22 => ⟨S4x100000x3, .f32⟩
  | 23 => ⟨S_, .f32⟩
  | 24 => ⟨S4x100000x3, .f32⟩
  | 25 => ⟨S4x100000x3, .f32⟩
  | 26 => ⟨S4x100000x3, .i32⟩
  | 27 => ⟨S4x100000x1, .i32⟩
  | 28 => ⟨S4x100000, .i32⟩
  | 29 => ⟨S4x100000x1, .i32⟩
  | 30 => ⟨S4x100000, .i32⟩
  | 31 => ⟨S_, .i32⟩
  | 32 => ⟨S4x100000, .i32⟩
  | 33 => ⟨S4x100000, .i32⟩
  | 34 => ⟨S4x100000, .i32⟩
  | 35 => ⟨S4x100000x1, .i32⟩
  | 36 => ⟨S4x100000, .i32⟩
  | 37 => ⟨S4x100000x1, .i32⟩
  | 38 => ⟨S4x100000, .i32⟩
  | 39 => ⟨S_, .i32⟩
  | 40 => ⟨S4x100000, .i32⟩
  | 41 => ⟨S4x100000, .i32⟩
  | 42 => ⟨S4x100000, .i32⟩
  | 43 => ⟨S4x100000x1, .i32⟩
  | 44 => ⟨S4x100000, .i32⟩
  | 45 => ⟨S4x100000x1, .i32⟩
  | 46 => ⟨S4x100000, .i32⟩
  | 47 => ⟨S_, .i32⟩
  | 48 => ⟨S4x100000, .i32⟩
  | 49 => ⟨S4x100000, .i32⟩
  | 50 => ⟨S4x100000, .i32⟩
  | 51 => ⟨S4x100000x32, .f32⟩
  | 52 => ⟨S_, .f32⟩
  | 53 => ⟨S4x100000x32, .f32⟩
  | 54 => ⟨S4x100000x32, .f32⟩
  | 55 => ⟨S4x100000x32, .f32⟩
  | 56 => ⟨S4x100000x32, .f32⟩
  | 57 => ⟨S4x100000x64, .f32⟩
  | 58 => ⟨S1x64x32, .f32⟩
  | 59 => ⟨S64x32, .f32⟩
  | 60 => ⟨S1x32, .f32⟩
  | 61 => ⟨S32, .f32⟩
  | 62 => ⟨S1x32x32, .f32⟩
  | 63 => ⟨S32x32, .f32⟩
  | 64 => ⟨S1x32, .f32⟩
  | 65 => ⟨S32, .f32⟩
  | 66 => ⟨S1x64x32, .f32⟩
  | 67 => ⟨S64x32, .f32⟩
  | 68 => ⟨S_, .f32⟩
  | 69 => ⟨S4x100000x64, .f32⟩
  | 70 => ⟨S4x100000x64, .f32⟩
  | 71 => ⟨S4x100000x32, .f32⟩
  | 72 => ⟨S1x1x32, .f32⟩
  | 73 => ⟨S4x100000x32, .f32⟩
  | 74 => ⟨S4x100000x32, .f32⟩
  | 75 => ⟨S_, .f32⟩
  | 76 => ⟨S4x100000x32, .f32⟩
  | 77 => ⟨S4x100000x32, .f32⟩
  | 78 => ⟨S4x100000x32, .f32⟩
  | 79 => ⟨S1x1x32, .f32⟩
  | 80 => ⟨S4x100000x32, .f32⟩
  | 81 => ⟨S4x100000x32, .f32⟩
  | 82 => ⟨S4x100000x32, .f32⟩
  | 83 => ⟨S4x100000x32, .f32⟩
  | 84 => ⟨S4, .i32⟩
  | 85 => ⟨S4x1, .i32⟩
  | 86 => ⟨S4, .i32⟩
  | 87 => ⟨S4x1, .i32⟩
  | 88 => ⟨S_, .f32⟩
  | 89 => ⟨S4x4096x32, .f32⟩
  | 90 => ⟨S_, .i32⟩
  | 91 => ⟨S4x1, .i32⟩
  | 92 => ⟨S4x1, .i1⟩
  | 93 => ⟨S_, .i32⟩
  | 94 => ⟨S4x1, .i32⟩
  | 95 => ⟨S4x1, .i32⟩
  | 96 => ⟨S4x1, .i32⟩
  | 97 => ⟨S_, .i32⟩
  | 98 => ⟨S4x100000, .i32⟩
  | 99 => ⟨S4x100000, .i1⟩
  | 100 => ⟨S_, .i32⟩
  | 101 => ⟨S4x100000, .i32⟩
  | 102 => ⟨S4x100000, .i32⟩
  | 103 => ⟨S4x100000, .i32⟩
  | 104 => ⟨S4x100000, .i32⟩
  | 105 => ⟨S4x100000x1, .i32⟩
  | 106 => ⟨S4x100000x1, .i32⟩
  | 107 => ⟨S4x100000x2, .i32⟩
  | 108 => ⟨S4x4096x32, .f32⟩
  | 109 => ⟨S_, .f32⟩
  | 110 => ⟨S4x4096, .f32⟩
  | 111 => ⟨S_, .i32⟩
  | 112 => ⟨S4x1, .i32⟩
  | 113 => ⟨S4x1, .i1⟩
  | 114 => ⟨S_, .i32⟩
  | 115 => ⟨S4x1, .i32⟩
  | 116 => ⟨S4x1, .i32⟩
  | 117 => ⟨S4x1, .i32⟩
  | 118 => ⟨S_, .i32⟩
  | 119 => ⟨S4x100000, .i32⟩
  | 120 => ⟨S4x100000, .i1⟩
  | 121 => ⟨S_, .i32⟩
  | 122 => ⟨S4x100000, .i32⟩
  | 123 => ⟨S4x100000, .i32⟩
  | 124 => ⟨S4x100000, .i32⟩
  | 125 => ⟨S4x100000, .i32⟩
  | 126 => ⟨S4x100000x1, .i32⟩
  | 127 => ⟨S4x100000x1, .i32⟩
  | _ => ⟨S4x100000x3, .f32⟩

abbrev hbmTy0_1 (i : Nat) : BufTy := match i % 128 with
  | 0 => ⟨S4x100000x2, .i32⟩
  | 1 => ⟨S_, .f32⟩
  | 2 => ⟨S4x100000, .f32⟩
  | 3 => ⟨S4x4096, .f32⟩
  | 4 => ⟨S_, .f32⟩
  | 5 => ⟨S_, .f32⟩
  | 6 => ⟨S4x4096, .f32⟩
  | 7 => ⟨S4x4096, .f32⟩
  | 8 => ⟨S4x4096x1, .f32⟩
  | 9 => ⟨S4x4096x32, .f32⟩
  | 10 => ⟨S4x4096x32, .f32⟩
  | 11 => ⟨S_, .i32⟩
  | 12 => ⟨S4x1, .i32⟩
  | 13 => ⟨S4x1, .i1⟩
  | 14 => ⟨S_, .i32⟩
  | 15 => ⟨S4x1, .i32⟩
  | 16 => ⟨S4x1, .i32⟩
  | 17 => ⟨S4x1, .i32⟩
  | 18 => ⟨S_, .i32⟩
  | 19 => ⟨S4x100000, .i32⟩
  | 20 => ⟨S4x100000, .i1⟩
  | 21 => ⟨S_, .i32⟩
  | 22 => ⟨S4x100000, .i32⟩
  | 23 => ⟨S4x100000, .i32⟩
  | 24 => ⟨S4x100000, .i32⟩
  | 25 => ⟨S4x100000, .i32⟩
  | 26 => ⟨S4x100000x1, .i32⟩
  | 27 => ⟨S4x100000x1, .i32⟩
  | 28 => ⟨S4x100000x2, .i32⟩
  | 29 => ⟨S4x100000x32, .f32⟩
  | 30 => ⟨S4, .i32⟩
  | 31 => ⟨S4x1, .i32⟩
  | 32 => ⟨S_, .f32⟩
  | 33 => ⟨S4x4096x32, .f32⟩
  | 34 => ⟨S_, .i32⟩
  | 35 => ⟨S4x1, .i32⟩
  | 36 => ⟨S4x1, .i1⟩
  | 37 => ⟨S_, .i32⟩
  | 38 => ⟨S4x1, .i32⟩
  | 39 => ⟨S4x1, .i32⟩
  | 40 => ⟨S4x1, .i32⟩
  | 41 => ⟨S_, .i32⟩
  | 42 => ⟨S4x100000, .i32⟩
  | 43 => ⟨S4x100000, .i1⟩
  | 44 => ⟨S_, .i32⟩
  | 45 => ⟨S4x100000, .i32⟩
  | 46 => ⟨S4x100000, .i32⟩
  | 47 => ⟨S4x100000, .i32⟩
  | 48 => ⟨S4x100000, .i32⟩
  | 49 => ⟨S4x100000x1, .i32⟩
  | 50 => ⟨S4x100000x1, .i32⟩
  | 51 => ⟨S4x100000x2, .i32⟩
  | 52 => ⟨S4x4096x32, .f32⟩
  | 53 => ⟨S_, .f32⟩
  | 54 => ⟨S4x4096, .f32⟩
  | 55 => ⟨S_, .i32⟩
  | 56 => ⟨S4x1, .i32⟩
  | 57 => ⟨S4x1, .i1⟩
  | 58 => ⟨S_, .i32⟩
  | 59 => ⟨S4x1, .i32⟩
  | 60 => ⟨S4x1, .i32⟩
  | 61 => ⟨S4x1, .i32⟩
  | 62 => ⟨S_, .i32⟩
  | 63 => ⟨S4x100000, .i32⟩
  | 64 => ⟨S4x100000, .i1⟩
  | 65 => ⟨S_, .i32⟩
  | 66 => ⟨S4x100000, .i32⟩
  | 67 => ⟨S4x100000, .i32⟩
  | 68 => ⟨S4x100000, .i32⟩
  | 69 => ⟨S4x100000, .i32⟩
  | 70 => ⟨S4x100000x1, .i32⟩
  | 71 => ⟨S4x100000x1, .i32⟩
  | 72 => ⟨S4x100000x2, .i32⟩
  | 73 => ⟨S_, .f32⟩
  | 74 => ⟨S4x100000, .f32⟩
  | 75 => ⟨S4x4096, .f32⟩
  | 76 => ⟨S_, .f32⟩
  | 77 => ⟨S_, .f32⟩
  | 78 => ⟨S4x4096, .f32⟩
  | 79 => ⟨S4x4096, .f32⟩
  | 80 => ⟨S4x4096x1, .f32⟩
  | 81 => ⟨S4x4096x32, .f32⟩
  | 82 => ⟨S4x4096x32, .f32⟩
  | 83 => ⟨S_, .i32⟩
  | 84 => ⟨S4x1, .i32⟩
  | 85 => ⟨S4x1, .i1⟩
  | 86 => ⟨S_, .i32⟩
  | 87 => ⟨S4x1, .i32⟩
  | 88 => ⟨S4x1, .i32⟩
  | 89 => ⟨S4x1, .i32⟩
  | 90 => ⟨S_, .i32⟩
  | 91 => ⟨S4x100000, .i32⟩
  | 92 => ⟨S4x100000, .i1⟩
  | 93 => ⟨S_, .i32⟩
  | 94 => ⟨S4x100000, .i32⟩
  | 95 => ⟨S4x100000, .i32⟩
  | 96 => ⟨S4x100000, .i32⟩
  | 97 => ⟨S4x100000, .i32⟩
  | 98 => ⟨S4x100000x1, .i32⟩
  | 99 => ⟨S4x100000x1, .i32⟩
  | 100 => ⟨S4x100000x2, .i32⟩
  | 101 => ⟨S4x100000x32, .f32⟩
  | 102 => ⟨S4x100000x32, .f32⟩
  | 103 => ⟨S4, .i32⟩
  | 104 => ⟨S4x1, .i32⟩
  | 105 => ⟨S_, .f32⟩
  | 106 => ⟨S4x4096x32, .f32⟩
  | 107 => ⟨S_, .i32⟩
  | 108 => ⟨S4x1, .i32⟩
  | 109 => ⟨S4x1, .i1⟩
  | 110 => ⟨S_, .i32⟩
  | 111 => ⟨S4x1, .i32⟩
  | 112 => ⟨S4x1, .i32⟩
  | 113 => ⟨S4x1, .i32⟩
  | 114 => ⟨S_, .i32⟩
  | 115 => ⟨S4x100000, .i32⟩
  | 116 => ⟨S4x100000, .i1⟩
  | 117 => ⟨S_, .i32⟩
  | 118 => ⟨S4x100000, .i32⟩
  | 119 => ⟨S4x100000, .i32⟩
  | 120 => ⟨S4x100000, .i32⟩
  | 121 => ⟨S4x100000, .i32⟩
  | 122 => ⟨S4x100000x1, .i32⟩
  | 123 => ⟨S4x100000x1, .i32⟩
  | 124 => ⟨S4x100000x2, .i32⟩
  | 125 => ⟨S4x4096x32, .f32⟩
  | 126 => ⟨S_, .f32⟩
  | 127 => ⟨S4x4096, .f32⟩
  | _ => ⟨S4x100000x3, .f32⟩

abbrev hbmTy0_2 (i : Nat) : BufTy := match i % 128 with
  | 0 => ⟨S_, .i32⟩
  | 1 => ⟨S4x1, .i32⟩
  | 2 => ⟨S4x1, .i1⟩
  | 3 => ⟨S_, .i32⟩
  | 4 => ⟨S4x1, .i32⟩
  | 5 => ⟨S4x1, .i32⟩
  | 6 => ⟨S4x1, .i32⟩
  | 7 => ⟨S_, .i32⟩
  | 8 => ⟨S4x100000, .i32⟩
  | 9 => ⟨S4x100000, .i1⟩
  | 10 => ⟨S_, .i32⟩
  | 11 => ⟨S4x100000, .i32⟩
  | 12 => ⟨S4x100000, .i32⟩
  | 13 => ⟨S4x100000, .i32⟩
  | 14 => ⟨S4x100000, .i32⟩
  | 15 => ⟨S4x100000x1, .i32⟩
  | 16 => ⟨S4x100000x1, .i32⟩
  | 17 => ⟨S4x100000x2, .i32⟩
  | 18 => ⟨S_, .f32⟩
  | 19 => ⟨S4x100000, .f32⟩
  | 20 => ⟨S4x4096, .f32⟩
  | 21 => ⟨S_, .f32⟩
  | 22 => ⟨S_, .f32⟩
  | 23 => ⟨S4x4096, .f32⟩
  | 24 => ⟨S4x4096, .f32⟩
  | 25 => ⟨S4x4096x1, .f32⟩
  | 26 => ⟨S4x4096x32, .f32⟩
  | 27 => ⟨S4x4096x32, .f32⟩
  | 28 => ⟨S_, .i32⟩
  | 29 => ⟨S4x1, .i32⟩
  | 30 => ⟨S4x1, .i1⟩
  | 31 => ⟨S_, .i32⟩
  | 32 => ⟨S4x1, .i32⟩
  | 33 => ⟨S4x1, .i32⟩
  | 34 => ⟨S4x1, .i32⟩
  | 35 => ⟨S_, .i32⟩
  | 36 => ⟨S4x100000, .i32⟩
  | 37 => ⟨S4x100000, .i1⟩
  | 38 => ⟨S_, .i32⟩
  | 39 => ⟨S4x100000, .i32⟩
  | 40 => ⟨S4x100000, .i32⟩
  | 41 => ⟨S4x100000, .i32⟩
  | 42 => ⟨S4x100000, .i32⟩
  | 43 => ⟨S4x100000x1, .i32⟩
  | 44 => ⟨S4x100000x1, .i32⟩
  | 45 => ⟨S4x100000x2, .i32⟩
  | 46 => ⟨S4x100000x32, .f32⟩
  | 47 => ⟨S4x100000x32, .f32⟩
  | 48 => ⟨S4x100000x64, .f32⟩
  | 49 => ⟨S1x64x32, .f32⟩
  | 50 => ⟨S64x32, .f32⟩
  | 51 => ⟨S1x32, .f32⟩
  | 52 => ⟨S32, .f32⟩
  | 53 => ⟨S1x32x32, .f32⟩
  | 54 => ⟨S32x32, .f32⟩
  | 55 => ⟨S1x32, .f32⟩
  | 56 => ⟨S32, .f32⟩
  | 57 => ⟨S1x64x32, .f32⟩
  | 58 => ⟨S64x32, .f32⟩
  | 59 => ⟨S_, .f32⟩
  | 60 => ⟨S4x100000x64, .f32⟩
  | 61 => ⟨S4x100000x64, .f32⟩
  | 62 => ⟨S4x100000x32, .f32⟩
  | 63 => ⟨S1x1x32, .f32⟩
  | 64 => ⟨S4x100000x32, .f32⟩
  | 65 => ⟨S4x100000x32, .f32⟩
  | 66 => ⟨S_, .f32⟩
  | 67 => ⟨S4x100000x32, .f32⟩
  | 68 => ⟨S4x100000x32, .f32⟩
  | 69 => ⟨S4x100000x32, .f32⟩
  | 70 => ⟨S1x1x32, .f32⟩
  | 71 => ⟨S4x100000x32, .f32⟩
  | 72 => ⟨S4x100000x32, .f32⟩
  | 73 => ⟨S4x100000x32, .f32⟩
  | 74 => ⟨S4x100000x32, .f32⟩
  | 75 => ⟨S4, .i32⟩
  | 76 => ⟨S4x1, .i32⟩
  | 77 => ⟨S_, .f32⟩
  | 78 => ⟨S4x4096x32, .f32⟩
  | 79 => ⟨S_, .i32⟩
  | 80 => ⟨S4x1, .i32⟩
  | 81 => ⟨S4x1, .i1⟩
  | 82 => ⟨S_, .i32⟩
  | 83 => ⟨S4x1, .i32⟩
  | 84 => ⟨S4x1, .i32⟩
  | 85 => ⟨S4x1, .i32⟩
  | 86 => ⟨S_, .i32⟩
  | 87 => ⟨S4x100000, .i32⟩
  | 88 => ⟨S4x100000, .i1⟩
  | 89 => ⟨S_, .i32⟩
  | 90 => ⟨S4x100000, .i32⟩
  | 91 => ⟨S4x100000, .i32⟩
  | 92 => ⟨S4x100000, .i32⟩
  | 93 => ⟨S4x100000, .i32⟩
  | 94 => ⟨S4x100000x1, .i32⟩
  | 95 => ⟨S4x100000x1, .i32⟩
  | 96 => ⟨S4x100000x2, .i32⟩
  | 97 => ⟨S4x4096x32, .f32⟩
  | 98 => ⟨S_, .f32⟩
  | 99 => ⟨S4x4096, .f32⟩
  | 100 => ⟨S_, .i32⟩
  | 101 => ⟨S4x1, .i32⟩
  | 102 => ⟨S4x1, .i1⟩
  | 103 => ⟨S_, .i32⟩
  | 104 => ⟨S4x1, .i32⟩
  | 105 => ⟨S4x1, .i32⟩
  | 106 => ⟨S4x1, .i32⟩
  | 107 => ⟨S_, .i32⟩
  | 108 => ⟨S4x100000, .i32⟩
  | 109 => ⟨S4x100000, .i1⟩
  | 110 => ⟨S_, .i32⟩
  | 111 => ⟨S4x100000, .i32⟩
  | 112 => ⟨S4x100000, .i32⟩
  | 113 => ⟨S4x100000, .i32⟩
  | 114 => ⟨S4x100000, .i32⟩
  | 115 => ⟨S4x100000x1, .i32⟩
  | 116 => ⟨S4x100000x1, .i32⟩
  | 117 => ⟨S4x100000x2, .i32⟩
  | 118 => ⟨S_, .f32⟩
  | 119 => ⟨S4x100000, .f32⟩
  | 120 => ⟨S4x4096, .f32⟩
  | 121 => ⟨S_, .f32⟩
  | 122 => ⟨S_, .f32⟩
  | 123 => ⟨S4x4096, .f32⟩
  | 124 => ⟨S4x4096, .f32⟩
  | 125 => ⟨S4x4096x1, .f32⟩
  | 126 => ⟨S4x4096x32, .f32⟩
  | 127 => ⟨S4x4096x32, .f32⟩
  | _ => ⟨S4x100000x3, .f32⟩

abbrev hbmTy0_3 (i : Nat) : BufTy := match i % 128 with
  | 0 => ⟨S_, .i32⟩
  | 1 => ⟨S4x1, .i32⟩
  | 2 => ⟨S4x1, .i1⟩
  | 3 => ⟨S_, .i32⟩
  | 4 => ⟨S4x1, .i32⟩
  | 5 => ⟨S4x1, .i32⟩
  | 6 => ⟨S4x1, .i32⟩
  | 7 => ⟨S_, .i32⟩
  | 8 => ⟨S4x100000, .i32⟩
  | 9 => ⟨S4x100000, .i1⟩
  | 10 => ⟨S_, .i32⟩
  | 11 => ⟨S4x100000, .i32⟩
  | 12 => ⟨S4x100000, .i32⟩
  | 13 => ⟨S4x100000, .i32⟩
  | 14 => ⟨S4x100000, .i32⟩
  | 15 => ⟨S4x100000x1, .i32⟩
  | 16 => ⟨S4x100000x1, .i32⟩
  | 17 => ⟨S4x100000x2, .i32⟩
  | 18 => ⟨S4x100000x32, .f32⟩
  | 19 => ⟨S4, .i32⟩
  | 20 => ⟨S4x1, .i32⟩
  | 21 => ⟨S_, .f32⟩
  | 22 => ⟨S4x4096x32, .f32⟩
  | 23 => ⟨S_, .i32⟩
  | 24 => ⟨S4x1, .i32⟩
  | 25 => ⟨S4x1, .i1⟩
  | 26 => ⟨S_, .i32⟩
  | 27 => ⟨S4x1, .i32⟩
  | 28 => ⟨S4x1, .i32⟩
  | 29 => ⟨S4x1, .i32⟩
  | 30 => ⟨S_, .i32⟩
  | 31 => ⟨S4x100000, .i32⟩
  | 32 => ⟨S4x100000, .i1⟩
  | 33 => ⟨S_, .i32⟩
  | 34 => ⟨S4x100000, .i32⟩
  | 35 => ⟨S4x100000, .i32⟩
  | 36 => ⟨S4x100000, .i32⟩
  | 37 => ⟨S4x100000, .i32⟩
  | 38 => ⟨S4x100000x1, .i32⟩
  | 39 => ⟨S4x100000x1, .i32⟩
  | 40 => ⟨S4x100000x2, .i32⟩
  | 41 => ⟨S4x4096x32, .f32⟩
  | 42 => ⟨S_, .f32⟩
  | 43 => ⟨S4x4096, .f32⟩
  | 44 => ⟨S_, .i32⟩
  | 45 => ⟨S4x1, .i32⟩
  | 46 => ⟨S4x1, .i1⟩
  | 47 => ⟨S_, .i32⟩
  | 48 => ⟨S4x1, .i32⟩
  | 49 => ⟨S4x1, .i32⟩
  | 50 => ⟨S4x1, .i32⟩
  | 51 => ⟨S_, .i32⟩
  | 52 => ⟨S4x100000, .i32⟩
  | 53 => ⟨S4x100000, .i1⟩
  | 54 => ⟨S_, .i32⟩
  | 55 => ⟨S4x100000, .i32⟩
  | 56 => ⟨S4x100000, .i32⟩
  | 57 => ⟨S4x100000, .i32⟩
  | 58 => ⟨S4x100000, .i32⟩
  | 59 => ⟨S4x100000x1, .i32⟩
  | 60 => ⟨S4x100000x1, .i32⟩
  | 61 => ⟨S4x100000x2, .i32⟩
  | 62 => ⟨S_, .f32⟩
  | 63 => ⟨S4x100000, .f32⟩
  | 64 => ⟨S4x4096, .f32⟩
  | 65 => ⟨S_, .f32⟩
  | 66 => ⟨S_, .f32⟩
  | 67 => ⟨S4x4096, .f32⟩
  | 68 => ⟨S4x4096, .f32⟩
  | 69 => ⟨S4x4096x1, .f32⟩
  | 70 => ⟨S4x4096x32, .f32⟩
  | 71 => ⟨S4x4096x32, .f32⟩
  | 72 => ⟨S_, .i32⟩
  | 73 => ⟨S4x1, .i32⟩
  | 74 => ⟨S4x1, .i1⟩
  | 75 => ⟨S_, .i32⟩
  | 76 => ⟨S4x1, .i32⟩
  | 77 => ⟨S4x1, .i32⟩
  | 78 => ⟨S4x1, .i32⟩
  | 79 => ⟨S_, .i32⟩
  | 80 => ⟨S4x100000, .i32⟩
  | 81 => ⟨S4x100000, .i1⟩
  | 82 => ⟨S_, .i32⟩
  | 83 => ⟨S4x100000, .i32⟩
  | 84 => ⟨S4x100000, .i32⟩
  | 85 => ⟨S4x100000, .i32⟩
  | 86 => ⟨S4x100000, .i32⟩
  | 87 => ⟨S4x100000x1, .i32⟩
  | 88 => ⟨S4x100000x1, .i32⟩
  | 89 => ⟨S4x100000x2, .i32⟩
  | 90 => ⟨S4x100000x32, .f32⟩
  | 91 => ⟨S4x100000x32, .f32⟩
  | 92 => ⟨S4, .i32⟩
  | 93 => ⟨S4x1, .i32⟩
  | 94 => ⟨S_, .f32⟩
  | 95 => ⟨S4x4096x32, .f32⟩
  | 96 => ⟨S_, .i32⟩
  | 97 => ⟨S4x1, .i32⟩
  | 98 => ⟨S4x1, .i1⟩
  | 99 => ⟨S_, .i32⟩
  | 100 => ⟨S4x1, .i32⟩
  | 101 => ⟨S4x1, .i32⟩
  | 102 => ⟨S4x1, .i32⟩
  | 103 => ⟨S_, .i32⟩
  | 104 => ⟨S4x100000, .i32⟩
  | 105 => ⟨S4x100000, .i1⟩
  | 106 => ⟨S_, .i32⟩
  | 107 => ⟨S4x100000, .i32⟩
  | 108 => ⟨S4x100000, .i32⟩
  | 109 => ⟨S4x100000, .i32⟩
  | 110 => ⟨S4x100000, .i32⟩
  | 111 => ⟨S4x100000x1, .i32⟩
  | 112 => ⟨S4x100000x1, .i32⟩
  | 113 => ⟨S4x100000x2, .i32⟩
  | 114 => ⟨S4x4096x32, .f32⟩
  | 115 => ⟨S_, .f32⟩
  | 116 => ⟨S4x4096, .f32⟩
  | 117 => ⟨S_, .i32⟩
  | 118 => ⟨S4x1, .i32⟩
  | 119 => ⟨S4x1, .i1⟩
  | 120 => ⟨S_, .i32⟩
  | 121 => ⟨S4x1, .i32⟩
  | 122 => ⟨S4x1, .i32⟩
  | 123 => ⟨S4x1, .i32⟩
  | 124 => ⟨S_, .i32⟩
  | 125 => ⟨S4x100000, .i32⟩
  | 126 => ⟨S4x100000, .i1⟩
  | 127 => ⟨S_, .i32⟩
  | _ => ⟨S4x100000x3, .f32⟩

abbrev hbmTy0_4 (i : Nat) : BufTy := match i % 128 with
  | 0 => ⟨S4x100000, .i32⟩
  | 1 => ⟨S4x100000, .i32⟩
  | 2 => ⟨S4x100000, .i32⟩
  | 3 => ⟨S4x100000, .i32⟩
  | 4 => ⟨S4x100000x1, .i32⟩
  | 5 => ⟨S4x100000x1, .i32⟩
  | 6 => ⟨S4x100000x2, .i32⟩
  | 7 => ⟨S_, .f32⟩
  | 8 => ⟨S4x100000, .f32⟩
  | 9 => ⟨S4x4096, .f32⟩
  | 10 => ⟨S_, .f32⟩
  | 11 => ⟨S_, .f32⟩
  | 12 => ⟨S4x4096, .f32⟩
  | 13 => ⟨S4x4096, .f32⟩
  | 14 => ⟨S4x4096x1, .f32⟩
  | 15 => ⟨S4x4096x32, .f32⟩
  | 16 => ⟨S4x4096x32, .f32⟩
  | 17 => ⟨S_, .i32⟩
  | 18 => ⟨S4x1, .i32⟩
  | 19 => ⟨S4x1, .i1⟩
  | 20 => ⟨S_, .i32⟩
  | 21 => ⟨S4x1, .i32⟩
  | 22 => ⟨S4x1, .i32⟩
  | 23 => ⟨S4x1, .i32⟩
  | 24 => ⟨S_, .i32⟩
  | 25 => ⟨S4x100000, .i32⟩
  | 26 => ⟨S4x100000, .i1⟩
  | 27 => ⟨S_, .i32⟩
  | 28 => ⟨S4x100000, .i32⟩
  | 29 => ⟨S4x100000, .i32⟩
  | 30 => ⟨S4x100000, .i32⟩
  | 31 => ⟨S4x100000, .i32⟩
  | 32 => ⟨S4x100000x1, .i32⟩
  | 33 => ⟨S4x100000x1, .i32⟩
  | 34 => ⟨S4x100000x2, .i32⟩
  | 35 => ⟨S4x100000x32, .f32⟩
  | 36 => ⟨S4x100000x32, .f32⟩
  | 37 => ⟨S4x100000x64, .f32⟩
  | 38 => ⟨S1x64x32, .f32⟩
  | 39 => ⟨S64x32, .f32⟩
  | 40 => ⟨S1x32, .f32⟩
  | 41 => ⟨S32, .f32⟩
  | 42 => ⟨S1x32x32, .f32⟩
  | 43 => ⟨S32x32, .f32⟩
  | 44 => ⟨S1x32, .f32⟩
  | 45 => ⟨S32, .f32⟩
  | 46 => ⟨S1x64x32, .f32⟩
  | 47 => ⟨S64x32, .f32⟩
  | 48 => ⟨S_, .f32⟩
  | 49 => ⟨S4x100000x64, .f32⟩
  | 50 => ⟨S4x100000x64, .f32⟩
  | 51 => ⟨S4x100000x32, .f32⟩
  | 52 => ⟨S1x1x32, .f32⟩
  | 53 => ⟨S4x100000x32, .f32⟩
  | 54 => ⟨S4x100000x32, .f32⟩
  | 55 => ⟨S_, .f32⟩
  | 56 => ⟨S4x100000x32, .f32⟩
  | 57 => ⟨S4x100000x32, .f32⟩
  | 58 => ⟨S4x100000x32, .f32⟩
  | 59 => ⟨S1x1x32, .f32⟩
  | 60 => ⟨S4x100000x32, .f32⟩
  | 61 => ⟨S4x100000x32, .f32⟩
  | 62 => ⟨S4x100000x32, .f32⟩
  | 63 => ⟨S4x100000x32, .f32⟩
  | 64 => ⟨S4, .i32⟩
  | 65 => ⟨S4x1, .i32⟩
  | 66 => ⟨S_, .f32⟩
  | 67 => ⟨S4x4096x32, .f32⟩
  | 68 => ⟨S_, .i32⟩
  | 69 => ⟨S4x1, .i32⟩
  | 70 => ⟨S4x1, .i1⟩
  | 71 => ⟨S_, .i32⟩
  | 72 => ⟨S4x1, .i32⟩
  | 73 => ⟨S4x1, .i32⟩
  | 74 => ⟨S4x1, .i32⟩
  | 75 => ⟨S_, .i32⟩
  | 76 => ⟨S4x100000, .i32⟩
  | 77 => ⟨S4x100000, .i1⟩
  | 78 => ⟨S_, .i32⟩
  | 79 => ⟨S4x100000, .i32⟩
  | 80 => ⟨S4x100000, .i32⟩
  | 81 => ⟨S4x100000, .i32⟩
  | 82 => ⟨S4x100000, .i32⟩
  | 83 => ⟨S4x100000x1, .i32⟩
  | 84 => ⟨S4x100000x1, .i32⟩
  | 85 => ⟨S4x100000x2, .i32⟩
  | 86 => ⟨S4x4096x32, .f32⟩
  | 87 => ⟨S_, .f32⟩
  | 88 => ⟨S4x4096, .f32⟩
  | 89 => ⟨S_, .i32⟩
  | 90 => ⟨S4x1, .i32⟩
  | 91 => ⟨S4x1, .i1⟩
  | 92 => ⟨S_, .i32⟩
  | 93 => ⟨S4x1, .i32⟩
  | 94 => ⟨S4x1, .i32⟩
  | 95 => ⟨S4x1, .i32⟩
  | 96 => ⟨S_, .i32⟩
  | 97 => ⟨S4x100000, .i32⟩
  | 98 => ⟨S4x100000, .i1⟩
  | 99 => ⟨S_, .i32⟩
  | 100 => ⟨S4x100000, .i32⟩
  | 101 => ⟨S4x100000, .i32⟩
  | 102 => ⟨S4x100000, .i32⟩
  | 103 => ⟨S4x100000, .i32⟩
  | 104 => ⟨S4x100000x1, .i32⟩
  | 105 => ⟨S4x100000x1, .i32⟩
  | 106 => ⟨S4x100000x2, .i32⟩
  | 107 => ⟨S_, .f32⟩
  | 108 => ⟨S4x100000, .f32⟩
  | 109 => ⟨S4x4096, .f32⟩
  | 110 => ⟨S_, .f32⟩
  | 111 => ⟨S_, .f32⟩
  | 112 => ⟨S4x4096, .f32⟩
  | 113 => ⟨S4x4096, .f32⟩
  | 114 => ⟨S4x4096x1, .f32⟩
  | 115 => ⟨S4x4096x32, .f32⟩
  | 116 => ⟨S4x4096x32, .f32⟩
  | 117 => ⟨S_, .i32⟩
  | 118 => ⟨S4x1, .i32⟩
  | 119 => ⟨S4x1, .i1⟩
  | 120 => ⟨S_, .i32⟩
  | 121 => ⟨S4x1, .i32⟩
  | 122 => ⟨S4x1, .i32⟩
  | 123 => ⟨S4x1, .i32⟩
  | 124 => ⟨S_, .i32⟩
  | 125 => ⟨S4x100000, .i32⟩
  | 126 => ⟨S4x100000, .i1⟩
  | 127 => ⟨S_, .i32⟩
  | _ => ⟨S4x100000x3, .f32⟩

abbrev hbmTy0_5 (i : Nat) : BufTy := match i % 128 with
  | 0 => ⟨S4x100000, .i32⟩
  | 1 => ⟨S4x100000, .i32⟩
  | 2 => ⟨S4x100000, .i32⟩
  | 3 => ⟨S4x100000, .i32⟩
  | 4 => ⟨S4x100000x1, .i32⟩
  | 5 => ⟨S4x100000x1, .i32⟩
  | 6 => ⟨S4x100000x2, .i32⟩
  | 7 => ⟨S4x100000x32, .f32⟩
  | 8 => ⟨S4, .i32⟩
  | 9 => ⟨S4x1, .i32⟩
  | 10 => ⟨S_, .f32⟩
  | 11 => ⟨S4x4096x32, .f32⟩
  | 12 => ⟨S_, .i32⟩
  | 13 => ⟨S4x1, .i32⟩
  | 14 => ⟨S4x1, .i1⟩
  | 15 => ⟨S_, .i32⟩
  | 16 => ⟨S4x1, .i32⟩
  | 17 => ⟨S4x1, .i32⟩
  | 18 => ⟨S4x1, .i32⟩
  | 19 => ⟨S_, .i32⟩
  | 20 => ⟨S4x100000, .i32⟩
  | 21 => ⟨S4x100000, .i1⟩
  | 22 => ⟨S_, .i32⟩
  | 23 => ⟨S4x100000, .i32⟩
  | 24 => ⟨S4x100000, .i32⟩
  | 25 => ⟨S4x100000, .i32⟩
  | 26 => ⟨S4x100000, .i32⟩
  | 27 => ⟨S4x100000x1, .i32⟩
  | 28 => ⟨S4x100000x1, .i32⟩
  | 29 => ⟨S4x100000x2, .i32⟩
  | 30 => ⟨S4x4096x32, .f32⟩
  | 31 => ⟨S_, .f32⟩
  | 32 => ⟨S4x4096, .f32⟩
  | 33 => ⟨S_, .i32⟩
  | 34 => ⟨S4x1, .i32⟩
  | 35 => ⟨S4x1, .i1⟩
  | 36 => ⟨S_, .i32⟩
  | 37 => ⟨S4x1, .i32⟩
  | 38 => ⟨S4x1, .i32⟩
  | 39 => ⟨S4x1, .i32⟩
  | 40 => ⟨S_, .i32⟩
  | 41 => ⟨S4x100000, .i32⟩
  | 42 => ⟨S4x100000, .i1⟩
  | 43 => ⟨S_, .i32⟩
  | 44 => ⟨S4x100000, .i32⟩
  | 45 => ⟨S4x100000, .i32⟩
  | 46 => ⟨S4x100000, .i32⟩
  | 47 => ⟨S4x100000, .i32⟩
  | 48 => ⟨S4x100000x1, .i32⟩
  | 49 => ⟨S4x100000x1, .i32⟩
  | 50 => ⟨S4x100000x2, .i32⟩
  | 51 => ⟨S_, .f32⟩
  | 52 => ⟨S4x100000, .f32⟩
  | 53 => ⟨S4x4096, .f32⟩
  | 54 => ⟨S_, .f32⟩
  | 55 => ⟨S_, .f32⟩
  | 56 => ⟨S4x4096, .f32⟩
  | 57 => ⟨S4x4096, .f32⟩
  | 58 => ⟨S4x4096x1, .f32⟩
  | 59 => ⟨S4x4096x32, .f32⟩
  | 60 => ⟨S4x4096x32, .f32⟩
  | 61 => ⟨S_, .i32⟩
  | 62 => ⟨S4x1, .i32⟩
  | 63 => ⟨S4x1, .i1⟩
  | 64 => ⟨S_, .i32⟩
  | 65 => ⟨S4x1, .i32⟩
  | 66 => ⟨S4x1, .i32⟩
  | 67 => ⟨S4x1, .i32⟩
  | 68 => ⟨S_, .i32⟩
  | 69 => ⟨S4x100000, .i32⟩
  | 70 => ⟨S4x100000, .i1⟩
  | 71 => ⟨S_, .i32⟩
  | 72 => ⟨S4x100000, .i32⟩
  | 73 => ⟨S4x100000, .i32⟩
  | 74 => ⟨S4x100000, .i32⟩
  | 75 => ⟨S4x100000, .i32⟩
  | 76 => ⟨S4x100000x1, .i32⟩
  | 77 => ⟨S4x100000x1, .i32⟩
  | 78 => ⟨S4x100000x2, .i32⟩
  | 79 => ⟨S4x100000x32, .f32⟩
  | 80 => ⟨S4x100000x32, .f32⟩
  | 81 => ⟨S4, .i32⟩
  | 82 => ⟨S4x1, .i32⟩
  | 83 => ⟨S_, .f32⟩
  | 84 => ⟨S4x4096x32, .f32⟩
  | 85 => ⟨S_, .i32⟩
  | 86 => ⟨S4x1, .i32⟩
  | 87 => ⟨S4x1, .i1⟩
  | 88 => ⟨S_, .i32⟩
  | 89 => ⟨S4x1, .i32⟩
  | 90 => ⟨S4x1, .i32⟩
  | 91 => ⟨S4x1, .i32⟩
  | 92 => ⟨S_, .i32⟩
  | 93 => ⟨S4x100000, .i32⟩
  | 94 => ⟨S4x100000, .i1⟩
  | 95 => ⟨S_, .i32⟩
  | 96 => ⟨S4x100000, .i32⟩
  | 97 => ⟨S4x100000, .i32⟩
  | 98 => ⟨S4x100000, .i32⟩
  | 99 => ⟨S4x100000, .i32⟩
  | 100 => ⟨S4x100000x1, .i32⟩
  | 101 => ⟨S4x100000x1, .i32⟩
  | 102 => ⟨S4x100000x2, .i32⟩
  | 103 => ⟨S4x4096x32, .f32⟩
  | 104 => ⟨S_, .f32⟩
  | 105 => ⟨S4x4096, .f32⟩
  | 106 => ⟨S_, .i32⟩
  | 107 => ⟨S4x1, .i32⟩
  | 108 => ⟨S4x1, .i1⟩
  | 109 => ⟨S_, .i32⟩
  | 110 => ⟨S4x1, .i32⟩
  | 111 => ⟨S4x1, .i32⟩
  | 112 => ⟨S4x1, .i32⟩
  | 113 => ⟨S_, .i32⟩
  | 114 => ⟨S4x100000, .i32⟩
  | 115 => ⟨S4x100000, .i1⟩
  | 116 => ⟨S_, .i32⟩
  | 117 => ⟨S4x100000, .i32⟩
  | 118 => ⟨S4x100000, .i32⟩
  | 119 => ⟨S4x100000, .i32⟩
  | 120 => ⟨S4x100000, .i32⟩
  | 121 => ⟨S4x100000x1, .i32⟩
  | 122 => ⟨S4x100000x1, .i32⟩
  | 123 => ⟨S4x100000x2, .i32⟩
  | 124 => ⟨S_, .f32⟩
  | 125 => ⟨S4x100000, .f32⟩
  | 126 => ⟨S4x4096, .f32⟩
  | 127 => ⟨S_, .f32⟩
  | _ => ⟨S4x100000x3, .f32⟩

abbrev hbmTy0_6 (i : Nat) : BufTy := match i % 128 with
  | 0 => ⟨S_, .f32⟩
  | 1 => ⟨S4x4096, .f32⟩
  | 2 => ⟨S4x4096, .f32⟩
  | 3 => ⟨S4x4096x1, .f32⟩
  | 4 => ⟨S4x4096x32, .f32⟩
  | 5 => ⟨S4x4096x32, .f32⟩
  | 6 => ⟨S_, .i32⟩
  | 7 => ⟨S4x1, .i32⟩
  | 8 => ⟨S4x1, .i1⟩
  | 9 => ⟨S_, .i32⟩
  | 10 => ⟨S4x1, .i32⟩
  | 11 => ⟨S4x1, .i32⟩
  | 12 => ⟨S4x1, .i32⟩
  | 13 => ⟨S_, .i32⟩
  | 14 => ⟨S4x100000, .i32⟩
  | 15 => ⟨S4x100000, .i1⟩
  | 16 => ⟨S_, .i32⟩
  | 17 => ⟨S4x100000, .i32⟩
  | 18 => ⟨S4x100000, .i32⟩
  | 19 => ⟨S4x100000, .i32⟩
  | 20 => ⟨S4x100000, .i32⟩
  | 21 => ⟨S4x100000x1, .i32⟩
  | 22 => ⟨S4x100000x1, .i32⟩
  | 23 => ⟨S4x100000x2, .i32⟩
  | 24 => ⟨S4x100000x32, .f32⟩
  | 25 => ⟨S4x100000x32, .f32⟩
  | 26 => ⟨S4x100000x64, .f32⟩
  | 27 => ⟨S1x64x32, .f32⟩
  | 28 => ⟨S64x32, .f32⟩
  | 29 => ⟨S1x32, .f32⟩
  | 30 => ⟨S32, .f32⟩
  | 31 => ⟨S1x32x32, .f32⟩
  | 32 => ⟨S32x32, .f32⟩
  | 33 => ⟨S1x32, .f32⟩
  | 34 => ⟨S32, .f32⟩
  | 35 => ⟨S1x64x32, .f32⟩
  | 36 => ⟨S64x32, .f32⟩
  | 37 => ⟨S_, .f32⟩
  | 38 => ⟨S4x100000x64, .f32⟩
  | 39 => ⟨S4x100000x64, .f32⟩
  | 40 => ⟨S4x100000x32, .f32⟩
  | 41 => ⟨S1x1x32, .f32⟩
  | 42 => ⟨S4x100000x32, .f32⟩
  | 43 => ⟨S4x100000x32, .f32⟩
  | 44 => ⟨S_, .f32⟩
  | 45 => ⟨S4x100000x32, .f32⟩
  | 46 => ⟨S4x100000x32, .f32⟩
  | 47 => ⟨S4x100000x32, .f32⟩
  | 48 => ⟨S1x1x32, .f32⟩
  | 49 => ⟨S4x100000x32, .f32⟩
  | 50 => ⟨S4x100000x32, .f32⟩
  | 51 => ⟨S4x100000x32, .f32⟩
  | 52 => ⟨S4x100000x32, .f32⟩
  | 53 => ⟨S4, .i32⟩
  | 54 => ⟨S4x1, .i32⟩
  | 55 => ⟨S_, .f32⟩
  | 56 => ⟨S4x4096x32, .f32⟩
  | 57 => ⟨S_, .i32⟩
  | 58 => ⟨S4x1, .i32⟩
  | 59 => ⟨S4x1, .i1⟩
  | 60 => ⟨S_, .i32⟩
  | 61 => ⟨S4x1, .i32⟩
  | 62 => ⟨S4x1, .i32⟩
  | 63 => ⟨S4x1, .i32⟩
  | 64 => ⟨S_, .i32⟩
  | 65 => ⟨S4x100000, .i32⟩
  | 66 => ⟨S4x100000, .i1⟩
  | 67 => ⟨S_, .i32⟩
  | 68 => ⟨S4x100000, .i32⟩
  | 69 => ⟨S4x100000, .i32⟩
  | 70 => ⟨S4x100000, .i32⟩
  | 71 => ⟨S4x100000, .i32⟩
  | 72 => ⟨S4x100000x1, .i32⟩
  | 73 => ⟨S4x100000x1, .i32⟩
  | 74 => ⟨S4x100000x2, .i32⟩
  | 75 => ⟨S4x4096x32, .f32⟩
  | 76 => ⟨S_, .f32⟩
  | 77 => ⟨S4x4096, .f32⟩
  | 78 => ⟨S_, .i32⟩
  | 79 => ⟨S4x1, .i32⟩
  | 80 => ⟨S4x1, .i1⟩
  | 81 => ⟨S_, .i32⟩
  | 82 => ⟨S4x1, .i32⟩
  | 83 => ⟨S4x1, .i32⟩
  | 84 => ⟨S4x1, .i32⟩
  | 85 => ⟨S_, .i32⟩
  | 86 => ⟨S4x100000, .i32⟩
  | 87 => ⟨S4x100000, .i1⟩
  | 88 => ⟨S_, .i32⟩
  | 89 => ⟨S4x100000, .i32⟩
  | 90 => ⟨S4x100000, .i32⟩
  | 91 => ⟨S4x100000, .i32⟩
  | 92 => ⟨S4x100000, .i32⟩
  | 93 => ⟨S4x100000x1, .i32⟩
  | 94 => ⟨S4x100000x1, .i32⟩
  | 95 => ⟨S4x100000x2, .i32⟩
  | 96 => ⟨S_, .f32⟩
  | 97 => ⟨S4x100000, .f32⟩
  | 98 => ⟨S4x4096, .f32⟩
  | 99 => ⟨S_, .f32⟩
  | 100 => ⟨S_, .f32⟩
  | 101 => ⟨S4x4096, .f32⟩
  | 102 => ⟨S4x4096, .f32⟩
  | 103 => ⟨S4x4096x1, .f32⟩
  | 104 => ⟨S4x4096x32, .f32⟩
  | 105 => ⟨S4x4096x32, .f32⟩
  | 106 => ⟨S_, .i32⟩
  | 107 => ⟨S4x1, .i32⟩
  | 108 => ⟨S4x1, .i1⟩
  | 109 => ⟨S_, .i32⟩
  | 110 => ⟨S4x1, .i32⟩
  | 111 => ⟨S4x1, .i32⟩
  | 112 => ⟨S4x1, .i32⟩
  | 113 => ⟨S_, .i32⟩
  | 114 => ⟨S4x100000, .i32⟩
  | 115 => ⟨S4x100000, .i1⟩
  | 116 => ⟨S_, .i32⟩
  | 117 => ⟨S4x100000, .i32⟩
  | 118 => ⟨S4x100000, .i32⟩
  | 119 => ⟨S4x100000, .i32⟩
  | 120 => ⟨S4x100000, .i32⟩
  | 121 => ⟨S4x100000x1, .i32⟩
  | 122 => ⟨S4x100000x1, .i32⟩
  | 123 => ⟨S4x100000x2, .i32⟩
  | 124 => ⟨S4x100000x32, .f32⟩
  | 125 => ⟨S4, .i32⟩
  | 126 => ⟨S4x1, .i32⟩
  | 127 => ⟨S_, .f32⟩
  | _ => ⟨S4x100000x3, .f32⟩

abbrev hbmTy0_7 (i : Nat) : BufTy := match i % 128 with
  | 0 => ⟨S4x4096x32, .f32⟩
  | 1 => ⟨S_, .i32⟩
  | 2 => ⟨S4x1, .i32⟩
  | 3 => ⟨S4x1, .i1⟩
  | 4 => ⟨S_, .i32⟩
  | 5 => ⟨S4x1, .i32⟩
  | 6 => ⟨S4x1, .i32⟩
  | 7 => ⟨S4x1, .i32⟩
  | 8 => ⟨S_, .i32⟩
  | 9 => ⟨S4x100000, .i32⟩
  | 10 => ⟨S4x100000, .i1⟩
  | 11 => ⟨S_, .i32⟩
  | 12 => ⟨S4x100000, .i32⟩
  | 13 => ⟨S4x100000, .i32⟩
  | 14 => ⟨S4x100000, .i32⟩
  | 15 => ⟨S4x100000, .i32⟩
  | 16 => ⟨S4x100000x1, .i32⟩
  | 17 => ⟨S4x100000x1, .i32⟩
  | 18 => ⟨S4x100000x2, .i32⟩
  | 19 => ⟨S4x4096x32, .f32⟩
  | 20 => ⟨S_, .f32⟩
  | 21 => ⟨S4x4096, .f32⟩
  | 22 => ⟨S_, .i32⟩
  | 23 => ⟨S4x1, .i32⟩
  | 24 => ⟨S4x1, .i1⟩
  | 25 => ⟨S_, .i32⟩
  | 26 => ⟨S4x1, .i32⟩
  | 27 => ⟨S4x1, .i32⟩
  | 28 => ⟨S4x1, .i32⟩
  | 29 => ⟨S_, .i32⟩
  | 30 => ⟨S4x100000, .i32⟩
  | 31 => ⟨S4x100000, .i1⟩
  | 32 => ⟨S_, .i32⟩
  | 33 => ⟨S4x100000, .i32⟩
  | 34 => ⟨S4x100000, .i32⟩
  | 35 => ⟨S4x100000, .i32⟩
  | 36 => ⟨S4x100000, .i32⟩
  | 37 => ⟨S4x100000x1, .i32⟩
  | 38 => ⟨S4x100000x1, .i32⟩
  | 39 => ⟨S4x100000x2, .i32⟩
  | 40 => ⟨S_, .f32⟩
  | 41 => ⟨S4x100000, .f32⟩
  | 42 => ⟨S4x4096, .f32⟩
  | 43 => ⟨S_, .f32⟩
  | 44 => ⟨S_, .f32⟩
  | 45 => ⟨S4x4096, .f32⟩
  | 46 => ⟨S4x4096, .f32⟩
  | 47 => ⟨S4x4096x1, .f32⟩
  | 48 => ⟨S4x4096x32, .f32⟩
  | 49 => ⟨S4x4096x32, .f32⟩
  | 50 => ⟨S_, .i32⟩
  | 51 => ⟨S4x1, .i32⟩
  | 52 => ⟨S4x1, .i1⟩
  | 53 => ⟨S_, .i32⟩
  | 54 => ⟨S4x1, .i32⟩
  | 55 => ⟨S4x1, .i32⟩
  | 56 => ⟨S4x1, .i32⟩
  | 57 => ⟨S_, .i32⟩
  | 58 => ⟨S4x100000, .i32⟩
  | 59 => ⟨S4x100000, .i1⟩
  | 60 => ⟨S_, .i32⟩
  | 61 => ⟨S4x100000, .i32⟩
  | 62 => ⟨S4x100000, .i32⟩
  | 63 => ⟨S4x100000, .i32⟩
  | 64 => ⟨S4x100000, .i32⟩
  | 65 => ⟨S4x100000x1, .i32⟩
  | 66 => ⟨S4x100000x1, .i32⟩
  | 67 => ⟨S4x100000x2, .i32⟩
  | 68 => ⟨S4x100000x32, .f32⟩
  | 69 => ⟨S4x100000x32, .f32⟩
  | 70 => ⟨S4, .i32⟩
  | 71 => ⟨S4x1, .i32⟩
  | 72 => ⟨S_, .f32⟩
  | 73 => ⟨S4x4096x32, .f32⟩
  | 74 => ⟨S_, .i32⟩
  | 75 => ⟨S4x1, .i32⟩
  | 76 => ⟨S4x1, .i1⟩
  | 77 => ⟨S_, .i32⟩
  | 78 => ⟨S4x1, .i32⟩
  | 79 => ⟨S4x1, .i32⟩
  | 80 => ⟨S4x1, .i32⟩
  | 81 => ⟨S_, .i32⟩
  | 82 => ⟨S4x100000, .i32⟩
  | 83 => ⟨S4x100000, .i1⟩
  | 84 => ⟨S_, .i32⟩
  | 85 => ⟨S4x100000, .i32⟩
  | 86 => ⟨S4x100000, .i32⟩
  | 87 => ⟨S4x100000, .i32⟩
  | 88 => ⟨S4x100000, .i32⟩
  | 89 => ⟨S4x100000x1, .i32⟩
  | 90 => ⟨S4x100000x1, .i32⟩
  | 91 => ⟨S4x100000x2, .i32⟩
  | 92 => ⟨S4x4096x32, .f32⟩
  | 93 => ⟨S_, .f32⟩
  | 94 => ⟨S4x4096, .f32⟩
  | 95 => ⟨S_, .i32⟩
  | 96 => ⟨S4x1, .i32⟩
  | 97 => ⟨S4x1, .i1⟩
  | 98 => ⟨S_, .i32⟩
  | 99 => ⟨S4x1, .i32⟩
  | 100 => ⟨S4x1, .i32⟩
  | 101 => ⟨S4x1, .i32⟩
  | 102 => ⟨S_, .i32⟩
  | 103 => ⟨S4x100000, .i32⟩
  | 104 => ⟨S4x100000, .i1⟩
  | 105 => ⟨S_, .i32⟩
  | 106 => ⟨S4x100000, .i32⟩
  | 107 => ⟨S4x100000, .i32⟩
  | 108 => ⟨S4x100000, .i32⟩
  | 109 => ⟨S4x100000, .i32⟩
  | 110 => ⟨S4x100000x1, .i32⟩
  | 111 => ⟨S4x100000x1, .i32⟩
  | 112 => ⟨S4x100000x2, .i32⟩
  | 113 => ⟨S_, .f32⟩
  | 114 => ⟨S4x100000, .f32⟩
  | 115 => ⟨S4x4096, .f32⟩
  | 116 => ⟨S_, .f32⟩
  | 117 => ⟨S_, .f32⟩
  | 118 => ⟨S4x4096, .f32⟩
  | 119 => ⟨S4x4096, .f32⟩
  | 120 => ⟨S4x4096x1, .f32⟩
  | 121 => ⟨S4x4096x32, .f32⟩
  | 122 => ⟨S4x4096x32, .f32⟩
  | 123 => ⟨S_, .i32⟩
  | 124 => ⟨S4x1, .i32⟩
  | 125 => ⟨S4x1, .i1⟩
  | 126 => ⟨S_, .i32⟩
  | 127 => ⟨S4x1, .i32⟩
  | _ => ⟨S4x100000x3, .f32⟩

abbrev hbmTy0_8 (i : Nat) : BufTy := match i % 128 with
  | 0 => ⟨S4x1, .i32⟩
  | 1 => ⟨S4x1, .i32⟩
  | 2 => ⟨S_, .i32⟩
  | 3 => ⟨S4x100000, .i32⟩
  | 4 => ⟨S4x100000, .i1⟩
  | 5 => ⟨S_, .i32⟩
  | 6 => ⟨S4x100000, .i32⟩
  | 7 => ⟨S4x100000, .i32⟩
  | 8 => ⟨S4x100000, .i32⟩
  | 9 => ⟨S4x100000, .i32⟩
  | 10 => ⟨S4x100000x1, .i32⟩
  | 11 => ⟨S4x100000x1, .i32⟩
  | 12 => ⟨S4x100000x2, .i32⟩
  | 13 => ⟨S4x100000x32, .f32⟩
  | 14 => ⟨S4x100000x32, .f32⟩
  | 15 => ⟨S4x100000x64, .f32⟩
  | 16 => ⟨S1x64x32, .f32⟩
  | 17 => ⟨S64x32, .f32⟩
  | 18 => ⟨S1x32, .f32⟩
  | 19 => ⟨S32, .f32⟩
  | 20 => ⟨S1x32x32, .f32⟩
  | 21 => ⟨S32x32, .f32⟩
  | 22 => ⟨S1x32, .f32⟩
  | 23 => ⟨S32, .f32⟩
  | 24 => ⟨S1x64x32, .f32⟩
  | 25 => ⟨S64x32, .f32⟩
  | 26 => ⟨S_, .f32⟩
  | 27 => ⟨S4x100000x64, .f32⟩
  | 28 => ⟨S4x100000x64, .f32⟩
  | 29 => ⟨S4x100000x32, .f32⟩
  | 30 => ⟨S1x1x32, .f32⟩
  | 31 => ⟨S4x100000x32, .f32⟩
  | 32 => ⟨S4x100000x32, .f32⟩
  | 33 => ⟨S_, .f32⟩
  | 34 => ⟨S4x100000x32, .f32⟩
  | 35 => ⟨S4x100000x32, .f32⟩
  | 36 => ⟨S4x100000x32, .f32⟩
  | 37 => ⟨S1x1x32, .f32⟩
  | 38 => ⟨S4x100000x32, .f32⟩
  | 39 => ⟨S4x100000x32, .f32⟩
  | 40 => ⟨S4x100000x32, .f32⟩
  | 41 => ⟨S4x100000x32, .f32⟩
  | 42 => ⟨S4x100000x32, .f32⟩
  | 43 => ⟨S1x1x32, .f32⟩
  | 44 => ⟨S4x100000x32, .f32⟩
  | 45 => ⟨S4x100000x32, .f32⟩
  | 46 => ⟨S4, .i32⟩
  | 47 => ⟨S4x1, .i32⟩
  | 48 => ⟨S_, .f32⟩
  | 49 => ⟨S4x4096x32, .f32⟩
  | 50 => ⟨S_, .i32⟩
  | 51 => ⟨S4x1, .i32⟩
  | 52 => ⟨S4x1, .i1⟩
  | 53 => ⟨S_, .i32⟩
  | 54 => ⟨S4x1, .i32⟩
  | 55 => ⟨S4x1, .i32⟩
  | 56 => ⟨S4x1, .i32⟩
  | 57 => ⟨S_, .i32⟩
  | 58 => ⟨S4x100000, .i32⟩
  | 59 => ⟨S4x100000, .i1⟩
  | 60 => ⟨S_, .i32⟩
  | 61 => ⟨S4x100000, .i32⟩
  | 62 => ⟨S4x100000, .i32⟩
  | 63 => ⟨S4x100000, .i32⟩
  | 64 => ⟨S4x100000, .i32⟩
  | 65 => ⟨S4x100000x1, .i32⟩
  | 66 => ⟨S4x100000x1, .i32⟩
  | 67 => ⟨S4x100000x2, .i32⟩
  | 68 => ⟨S4x4096x32, .f32⟩
  | 69 => ⟨S_, .f32⟩
  | 70 => ⟨S4x4096, .f32⟩
  | 71 => ⟨S_, .i32⟩
  | 72 => ⟨S4x1, .i32⟩
  | 73 => ⟨S4x1, .i1⟩
  | 74 => ⟨S_, .i32⟩
  | 75 => ⟨S4x1, .i32⟩
  | 76 => ⟨S4x1, .i32⟩
  | 77 => ⟨S4x1, .i32⟩
  | 78 => ⟨S_, .i32⟩
  | 79 => ⟨S4x100000, .i32⟩
  | 80 => ⟨S4x100000, .i1⟩
  | 81 => ⟨S_, .i32⟩
  | 82 => ⟨S4x100000, .i32⟩
  | 83 => ⟨S4x100000, .i32⟩
  | 84 => ⟨S4x100000, .i32⟩
  | 85 => ⟨S4x100000, .i32⟩
  | 86 => ⟨S4x100000x1, .i32⟩
  | 87 => ⟨S4x100000x1, .i32⟩
  | 88 => ⟨S4x100000x2, .i32⟩
  | 89 => ⟨S_, .f32⟩
  | 90 => ⟨S4x100000, .f32⟩
  | 91 => ⟨S4x4096, .f32⟩
  | 92 => ⟨S_, .f32⟩
  | 93 => ⟨S_, .f32⟩
  | 94 => ⟨S4x4096, .f32⟩
  | 95 => ⟨S4x4096, .f32⟩
  | 96 => ⟨S4x4096x1, .f32⟩
  | 97 => ⟨S4x4096x32, .f32⟩
  | 98 => ⟨S4x4096x32, .f32⟩
  | 99 => ⟨S4x32x4096, .f32⟩
  | 100 => ⟨S4x32x64x64, .f32⟩
  | 101 => ⟨S4, .i32⟩
  | 102 => ⟨S4x1, .i32⟩
  | 103 => ⟨S_, .f32⟩
  | 104 => ⟨S4x4096x32, .f32⟩
  | 105 => ⟨S_, .i32⟩
  | 106 => ⟨S4x1, .i32⟩
  | 107 => ⟨S4x1, .i1⟩
  | 108 => ⟨S_, .i32⟩
  | 109 => ⟨S4x1, .i32⟩
  | 110 => ⟨S4x1, .i32⟩
  | 111 => ⟨S4x1, .i32⟩
  | 112 => ⟨S_, .i32⟩
  | 113 => ⟨S4x100000, .i32⟩
  | 114 => ⟨S4x100000, .i1⟩
  | 115 => ⟨S_, .i32⟩
  | 116 => ⟨S4x100000, .i32⟩
  | 117 => ⟨S4x100000, .i32⟩
  | 118 => ⟨S4x100000, .i32⟩
  | 119 => ⟨S4x100000, .i32⟩
  | 120 => ⟨S4x100000x1, .i32⟩
  | 121 => ⟨S4x100000x1, .i32⟩
  | 122 => ⟨S4x100000x2, .i32⟩
  | 123 => ⟨S4x4096x32, .f32⟩
  | 124 => ⟨S_, .f32⟩
  | 125 => ⟨S4x4096, .f32⟩
  | 126 => ⟨S_, .i32⟩
  | 127 => ⟨S4x1, .i32⟩
  | _ => ⟨S4x100000x3, .f32⟩

abbrev hbmTy0_9 (i : Nat) : BufTy := match i % 128 with
  | 0 => ⟨S4x1, .i1⟩
  | 1 => ⟨S_, .i32⟩
  | 2 => ⟨S4x1, .i32⟩
  | 3 => ⟨S4x1, .i32⟩
  | 4 => ⟨S4x1, .i32⟩
  | 5 => ⟨S_, .i32⟩
  | 6 => ⟨S4x100000, .i32⟩
  | 7 => ⟨S4x100000, .i1⟩
  | 8 => ⟨S_, .i32⟩
  | 9 => ⟨S4x100000, .i32⟩
  | 10 => ⟨S4x100000, .i32⟩
  | 11 => ⟨S4x100000, .i32⟩
  | 12 => ⟨S4x100000, .i32⟩
  | 13 => ⟨S4x100000x1, .i32⟩
  | 14 => ⟨S4x100000x1, .i32⟩
  | 15 => ⟨S4x100000x2, .i32⟩
  | 16 => ⟨S_, .f32⟩
  | 17 => ⟨S4x100000, .f32⟩
  | 18 => ⟨S4x4096, .f32⟩
  | 19 => ⟨S_, .f32⟩
  | 20 => ⟨S_, .f32⟩
  | 21 => ⟨S4x4096, .f32⟩
  | 22 => ⟨S4x4096, .f32⟩
  | 23 => ⟨S4x4096x1, .f32⟩
  | 24 => ⟨S4x4096x32, .f32⟩
  | 25 => ⟨S4x4096x32, .f32⟩
  | 26 => ⟨S4x32x4096, .f32⟩
  | 27 => ⟨S4x32x64x64, .f32⟩
  | 28 => ⟨S4, .i32⟩
  | 29 => ⟨S4x1, .i32⟩
  | 30 => ⟨S_, .f32⟩
  | 31 => ⟨S4x4096x32, .f32⟩
  | 32 => ⟨S_, .i32⟩
  | 33 => ⟨S4x1, .i32⟩
  | 34 => ⟨S4x1, .i1⟩
  | 35 => ⟨S_, .i32⟩
  | 36 => ⟨S4x1, .i32⟩
  | 37 => ⟨S4x1, .i32⟩
  | 38 => ⟨S4x1, .i32⟩
  | 39 => ⟨S_, .i32⟩
  | 40 => ⟨S4x100000, .i32⟩
  | 41 => ⟨S4x100000, .i1⟩
  | 42 => ⟨S_, .i32⟩
  | 43 => ⟨S4x100000, .i32⟩
  | 44 => ⟨S4x100000, .i32⟩
  | 45 => ⟨S4x100000, .i32⟩
  | 46 => ⟨S4x100000, .i32⟩
  | 47 => ⟨S4x100000x1, .i32⟩
  | 48 => ⟨S4x100000x1, .i32⟩
  | 49 => ⟨S4x100000x2, .i32⟩
  | 50 => ⟨S4x4096x32, .f32⟩
  | 51 => ⟨S_, .f32⟩
  | 52 => ⟨S4x4096, .f32⟩
  | 53 => ⟨S_, .i32⟩
  | 54 => ⟨S4x1, .i32⟩
  | 55 => ⟨S4x1, .i1⟩
  | 56 => ⟨S_, .i32⟩
  | 57 => ⟨S4x1, .i32⟩
  | 58 => ⟨S4x1, .i32⟩
  | 59 => ⟨S4x1, .i32⟩
  | 60 => ⟨S_, .i32⟩
  | 61 => ⟨S4x100000, .i32⟩
  | 62 => ⟨S4x100000, .i1⟩
  | 63 => ⟨S_, .i32⟩
  | 64 => ⟨S4x100000, .i32⟩
  | 65 => ⟨S4x100000, .i32⟩
  | 66 => ⟨S4x100000, .i32⟩
  | 67 => ⟨S4x100000, .i32⟩
  | 68 => ⟨S4x100000x1, .i32⟩
  | 69 => ⟨S4x100000x1, .i32⟩
  | 70 => ⟨S4x100000x2, .i32⟩
  | 71 => ⟨S_, .f32⟩
  | 72 => ⟨S4x100000, .f32⟩
  | 73 => ⟨S4x4096, .f32⟩
  | 74 => ⟨S_, .f32⟩
  | 75 => ⟨S_, .f32⟩
  | 76 => ⟨S4x4096, .f32⟩
  | 77 => ⟨S4x4096, .f32⟩
  | 78 => ⟨S4x4096x1, .f32⟩
  | 79 => ⟨S4x4096x32, .f32⟩
  | 80 => ⟨S4x4096x32, .f32⟩
  | 81 => ⟨S4x32x4096, .f32⟩
  | 82 => ⟨S4x32x64x64, .f32⟩
  | 83 => ⟨S12x32x64x64, .f32⟩
  | _ => ⟨S4x100000x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S4x100000x3, .f32⟩

abbrev bufTy : (tb : Table) → Fin (tcTables nBuf tb) → BufTy
  | .hbm, ⟨i, _⟩ => hbmTy i
  | _, _ => ⟨S4x100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c_3 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_call1_cst : Ref sig .tc := ⟨.hbm, 68, rfl⟩
abbrev main_call1_v0 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_call2_cst : Ref sig .tc := ⟨.hbm, 75, rfl⟩
abbrev main_call2_v0 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_7 : Ref sig .tc := ⟨.hbm, 88, rfl⟩
abbrev main_v61 : Ref sig .tc := ⟨.hbm, 89, rfl⟩
abbrev main_c_8 : Ref sig .tc := ⟨.hbm, 90, rfl⟩
abbrev main_v62 : Ref sig .tc := ⟨.hbm, 91, rfl⟩
abbrev main_v63 : Ref sig .tc := ⟨.hbm, 92, rfl⟩
abbrev main_c_9 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_10 : Ref sig .tc := ⟨.hbm, 97, rfl⟩
abbrev main_v67 : Ref sig .tc := ⟨.hbm, 98, rfl⟩
abbrev main_v68 : Ref sig .tc := ⟨.hbm, 99, rfl⟩
abbrev main_c_11 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_12 : Ref sig .tc := ⟨.hbm, 109, rfl⟩
abbrev main_v77 : Ref sig .tc := ⟨.hbm, 110, rfl⟩
abbrev main_c_13 : Ref sig .tc := ⟨.hbm, 111, rfl⟩
abbrev main_v78 : Ref sig .tc := ⟨.hbm, 112, rfl⟩
abbrev main_v79 : Ref sig .tc := ⟨.hbm, 113, rfl⟩
abbrev main_c_14 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_c_15 : Ref sig .tc := ⟨.hbm, 118, rfl⟩
abbrev main_v83 : Ref sig .tc := ⟨.hbm, 119, rfl⟩
abbrev main_v84 : Ref sig .tc := ⟨.hbm, 120, rfl⟩
abbrev main_c_16 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_17 : Ref sig .tc := ⟨.hbm, 129, rfl⟩
abbrev main_v92 : Ref sig .tc := ⟨.hbm, 130, rfl⟩
abbrev main_v93 : Ref sig .tc := ⟨.hbm, 131, rfl⟩
abbrev main_cst_18 : Ref sig .tc := ⟨.hbm, 132, rfl⟩
abbrev main_call3_v0 : Ref sig .tc := ⟨.hbm, 133, rfl⟩
abbrev main_call3_v1 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_c_19 : Ref sig .tc := ⟨.hbm, 139, rfl⟩
abbrev main_v98 : Ref sig .tc := ⟨.hbm, 140, rfl⟩
abbrev main_v99 : Ref sig .tc := ⟨.hbm, 141, rfl⟩
abbrev main_c_20 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_c_21 : Ref sig .tc := ⟨.hbm, 146, rfl⟩
abbrev main_v103 : Ref sig .tc := ⟨.hbm, 147, rfl⟩
abbrev main_v104 : Ref sig .tc := ⟨.hbm, 148, rfl⟩
abbrev main_c_22 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_cst_23 : Ref sig .tc := ⟨.hbm, 160, rfl⟩
abbrev main_v115 : Ref sig .tc := ⟨.hbm, 161, rfl⟩
abbrev main_c_24 : Ref sig .tc := ⟨.hbm, 162, rfl⟩
abbrev main_v116 : Ref sig .tc := ⟨.hbm, 163, rfl⟩
abbrev main_v117 : Ref sig .tc := ⟨.hbm, 164, rfl⟩
abbrev main_c_25 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_c_26 : Ref sig .tc := ⟨.hbm, 169, rfl⟩
abbrev main_v121 : Ref sig .tc := ⟨.hbm, 170, rfl⟩
abbrev main_v122 : Ref sig .tc := ⟨.hbm, 171, rfl⟩
abbrev main_c_27 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_cst_28 : Ref sig .tc := ⟨.hbm, 181, rfl⟩
abbrev main_v131 : Ref sig .tc := ⟨.hbm, 182, rfl⟩
abbrev main_c_29 : Ref sig .tc := ⟨.hbm, 183, rfl⟩
abbrev main_v132 : Ref sig .tc := ⟨.hbm, 184, rfl⟩
abbrev main_v133 : Ref sig .tc := ⟨.hbm, 185, rfl⟩
abbrev main_c_30 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_c_31 : Ref sig .tc := ⟨.hbm, 190, rfl⟩
abbrev main_v137 : Ref sig .tc := ⟨.hbm, 191, rfl⟩
abbrev main_v138 : Ref sig .tc := ⟨.hbm, 192, rfl⟩
abbrev main_c_32 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_cst_33 : Ref sig .tc := ⟨.hbm, 201, rfl⟩
abbrev main_v146 : Ref sig .tc := ⟨.hbm, 202, rfl⟩
abbrev main_v147 : Ref sig .tc := ⟨.hbm, 203, rfl⟩
abbrev main_cst_34 : Ref sig .tc := ⟨.hbm, 204, rfl⟩
abbrev main_call4_v0 : Ref sig .tc := ⟨.hbm, 205, rfl⟩
abbrev main_call4_v1 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_c_35 : Ref sig .tc := ⟨.hbm, 211, rfl⟩
abbrev main_v152 : Ref sig .tc := ⟨.hbm, 212, rfl⟩
abbrev main_v153 : Ref sig .tc := ⟨.hbm, 213, rfl⟩
abbrev main_c_36 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_c_37 : Ref sig .tc := ⟨.hbm, 218, rfl⟩
abbrev main_v157 : Ref sig .tc := ⟨.hbm, 219, rfl⟩
abbrev main_v158 : Ref sig .tc := ⟨.hbm, 220, rfl⟩
abbrev main_c_38 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_cst_39 : Ref sig .tc := ⟨.hbm, 233, rfl⟩
abbrev main_v170 : Ref sig .tc := ⟨.hbm, 234, rfl⟩
abbrev main_c_40 : Ref sig .tc := ⟨.hbm, 235, rfl⟩
abbrev main_v171 : Ref sig .tc := ⟨.hbm, 236, rfl⟩
abbrev main_v172 : Ref sig .tc := ⟨.hbm, 237, rfl⟩
abbrev main_c_41 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_c_42 : Ref sig .tc := ⟨.hbm, 242, rfl⟩
abbrev main_v176 : Ref sig .tc := ⟨.hbm, 243, rfl⟩
abbrev main_v177 : Ref sig .tc := ⟨.hbm, 244, rfl⟩
abbrev main_c_43 : Ref sig .tc := ⟨.hbm, 245, rfl⟩
abbrev main_v178 : Ref sig .tc := ⟨.hbm, 246, rfl⟩
abbrev main_v179 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev main_cst_44 : Ref sig .tc := ⟨.hbm, 254, rfl⟩
abbrev main_v186 : Ref sig .tc := ⟨.hbm, 255, rfl⟩
abbrev main_c_45 : Ref sig .tc := ⟨.hbm, 256, rfl⟩
abbrev main_v187 : Ref sig .tc := ⟨.hbm, 257, rfl⟩
abbrev main_v188 : Ref sig .tc := ⟨.hbm, 258, rfl⟩
abbrev main_c_46 : Ref sig .tc := ⟨.hbm, 259, rfl⟩
abbrev main_v189 : Ref sig .tc := ⟨.hbm, 260, rfl⟩
abbrev main_v190 : Ref sig .tc := ⟨.hbm, 261, rfl⟩
abbrev main_v191 : Ref sig .tc := ⟨.hbm, 262, rfl⟩
abbrev main_c_47 : Ref sig .tc := ⟨.hbm, 263, rfl⟩
abbrev main_v192 : Ref sig .tc := ⟨.hbm, 264, rfl⟩
abbrev main_v193 : Ref sig .tc := ⟨.hbm, 265, rfl⟩
abbrev main_c_48 : Ref sig .tc := ⟨.hbm, 266, rfl⟩
abbrev main_v194 : Ref sig .tc := ⟨.hbm, 267, rfl⟩
abbrev main_v195 : Ref sig .tc := ⟨.hbm, 268, rfl⟩
abbrev main_v196 : Ref sig .tc := ⟨.hbm, 269, rfl⟩
abbrev main_v197 : Ref sig .tc := ⟨.hbm, 270, rfl⟩
abbrev main_v198 : Ref sig .tc := ⟨.hbm, 271, rfl⟩
abbrev main_v199 : Ref sig .tc := ⟨.hbm, 272, rfl⟩
abbrev main_v200 : Ref sig .tc := ⟨.hbm, 273, rfl⟩
abbrev main_cst_49 : Ref sig .tc := ⟨.hbm, 274, rfl⟩
abbrev main_v201 : Ref sig .tc := ⟨.hbm, 275, rfl⟩
abbrev main_v202 : Ref sig .tc := ⟨.hbm, 276, rfl⟩
abbrev main_cst_50 : Ref sig .tc := ⟨.hbm, 277, rfl⟩
abbrev main_call5_v0 : Ref sig .tc := ⟨.hbm, 278, rfl⟩
abbrev main_call5_v1 : Ref sig .tc := ⟨.hbm, 279, rfl⟩
abbrev main_v203 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_c_51 : Ref sig .tc := ⟨.hbm, 284, rfl⟩
abbrev main_v207 : Ref sig .tc := ⟨.hbm, 285, rfl⟩
abbrev main_v208 : Ref sig .tc := ⟨.hbm, 286, rfl⟩
abbrev main_c_52 : Ref sig .tc := ⟨.hbm, 287, rfl⟩
abbrev main_v209 : Ref sig .tc := ⟨.hbm, 288, rfl⟩
abbrev main_v210 : Ref sig .tc := ⟨.hbm, 289, rfl⟩
abbrev main_v211 : Ref sig .tc := ⟨.hbm, 290, rfl⟩
abbrev main_c_53 : Ref sig .tc := ⟨.hbm, 291, rfl⟩
abbrev main_v212 : Ref sig .tc := ⟨.hbm, 292, rfl⟩
abbrev main_v213 : Ref sig .tc := ⟨.hbm, 293, rfl⟩
abbrev main_c_54 : Ref sig .tc := ⟨.hbm, 294, rfl⟩
abbrev main_v214 : Ref sig .tc := ⟨.hbm, 295, rfl⟩
abbrev main_v215 : Ref sig .tc := ⟨.hbm, 296, rfl⟩
abbrev main_v216 : Ref sig .tc := ⟨.hbm, 297, rfl⟩
abbrev main_v217 : Ref sig .tc := ⟨.hbm, 298, rfl⟩
abbrev main_v218 : Ref sig .tc := ⟨.hbm, 299, rfl⟩
abbrev main_v219 : Ref sig .tc := ⟨.hbm, 300, rfl⟩
abbrev main_v220 : Ref sig .tc := ⟨.hbm, 301, rfl⟩
abbrev main_v221 : Ref sig .tc := ⟨.hbm, 302, rfl⟩
abbrev main_v222 : Ref sig .tc := ⟨.hbm, 303, rfl⟩
abbrev main_v223 : Ref sig .tc := ⟨.hbm, 304, rfl⟩
abbrev main_v224 : Ref sig .tc := ⟨.hbm, 305, rfl⟩
abbrev main_v225 : Ref sig .tc := ⟨.hbm, 306, rfl⟩
abbrev main_v226 : Ref sig .tc := ⟨.hbm, 307, rfl⟩
abbrev main_v227 : Ref sig .tc := ⟨.hbm, 308, rfl⟩
abbrev main_v228 : Ref sig .tc := ⟨.hbm, 309, rfl⟩
abbrev main_v229 : Ref sig .tc := ⟨.hbm, 310, rfl⟩
abbrev main_v230 : Ref sig .tc := ⟨.hbm, 311, rfl⟩
abbrev main_v231 : Ref sig .tc := ⟨.hbm, 312, rfl⟩
abbrev main_v232 : Ref sig .tc := ⟨.hbm, 313, rfl⟩
abbrev main_v233 : Ref sig .tc := ⟨.hbm, 314, rfl⟩
abbrev main_call6_cst : Ref sig .tc := ⟨.hbm, 315, rfl⟩
abbrev main_call6_v0 : Ref sig .tc := ⟨.hbm, 316, rfl⟩
abbrev main_v234 : Ref sig .tc := ⟨.hbm, 317, rfl⟩
abbrev main_v235 : Ref sig .tc := ⟨.hbm, 318, rfl⟩
abbrev main_v236 : Ref sig .tc := ⟨.hbm, 319, rfl⟩
abbrev main_v237 : Ref sig .tc := ⟨.hbm, 320, rfl⟩
abbrev main_v238 : Ref sig .tc := ⟨.hbm, 321, rfl⟩
abbrev main_call7_cst : Ref sig .tc := ⟨.hbm, 322, rfl⟩
abbrev main_call7_v0 : Ref sig .tc := ⟨.hbm, 323, rfl⟩
abbrev main_v239 : Ref sig .tc := ⟨.hbm, 324, rfl⟩
abbrev main_v240 : Ref sig .tc := ⟨.hbm, 325, rfl⟩
abbrev main_v241 : Ref sig .tc := ⟨.hbm, 326, rfl⟩
abbrev main_v242 : Ref sig .tc := ⟨.hbm, 327, rfl⟩
abbrev main_v243 : Ref sig .tc := ⟨.hbm, 328, rfl⟩
abbrev main_v244 : Ref sig .tc := ⟨.hbm, 329, rfl⟩
abbrev main_v245 : Ref sig .tc := ⟨.hbm, 330, rfl⟩
abbrev main_v246 : Ref sig .tc := ⟨.hbm, 331, rfl⟩
abbrev main_v247 : Ref sig .tc := ⟨.hbm, 332, rfl⟩
abbrev main_cst_55 : Ref sig .tc := ⟨.hbm, 333, rfl⟩
abbrev main_v248 : Ref sig .tc := ⟨.hbm, 334, rfl⟩
abbrev main_c_56 : Ref sig .tc := ⟨.hbm, 335, rfl⟩
abbrev main_v249 : Ref sig .tc := ⟨.hbm, 336, rfl⟩
abbrev main_v250 : Ref sig .tc := ⟨.hbm, 337, rfl⟩
abbrev main_c_57 : Ref sig .tc := ⟨.hbm, 338, rfl⟩
abbrev main_v251 : Ref sig .tc := ⟨.hbm, 339, rfl⟩
abbrev main_v252 : Ref sig .tc := ⟨.hbm, 340, rfl⟩
abbrev main_v253 : Ref sig .tc := ⟨.hbm, 341, rfl⟩
abbrev main_c_58 : Ref sig .tc := ⟨.hbm, 342, rfl⟩
abbrev main_v254 : Ref sig .tc := ⟨.hbm, 343, rfl⟩
abbrev main_v255 : Ref sig .tc := ⟨.hbm, 344, rfl⟩
abbrev main_c_59 : Ref sig .tc := ⟨.hbm, 345, rfl⟩
abbrev main_v256 : Ref sig .tc := ⟨.hbm, 346, rfl⟩
abbrev main_v257 : Ref sig .tc := ⟨.hbm, 347, rfl⟩
abbrev main_v258 : Ref sig .tc := ⟨.hbm, 348, rfl⟩
abbrev main_v259 : Ref sig .tc := ⟨.hbm, 349, rfl⟩
abbrev main_v260 : Ref sig .tc := ⟨.hbm, 350, rfl⟩
abbrev main_v261 : Ref sig .tc := ⟨.hbm, 351, rfl⟩
abbrev main_v262 : Ref sig .tc := ⟨.hbm, 352, rfl⟩
abbrev main_v263 : Ref sig .tc := ⟨.hbm, 353, rfl⟩
abbrev main_cst_60 : Ref sig .tc := ⟨.hbm, 354, rfl⟩
abbrev main_v264 : Ref sig .tc := ⟨.hbm, 355, rfl⟩
abbrev main_c_61 : Ref sig .tc := ⟨.hbm, 356, rfl⟩
abbrev main_v265 : Ref sig .tc := ⟨.hbm, 357, rfl⟩
abbrev main_v266 : Ref sig .tc := ⟨.hbm, 358, rfl⟩
abbrev main_c_62 : Ref sig .tc := ⟨.hbm, 359, rfl⟩
abbrev main_v267 : Ref sig .tc := ⟨.hbm, 360, rfl⟩
abbrev main_v268 : Ref sig .tc := ⟨.hbm, 361, rfl⟩
abbrev main_v269 : Ref sig .tc := ⟨.hbm, 362, rfl⟩
abbrev main_c_63 : Ref sig .tc := ⟨.hbm, 363, rfl⟩
abbrev main_v270 : Ref sig .tc := ⟨.hbm, 364, rfl⟩
abbrev main_v271 : Ref sig .tc := ⟨.hbm, 365, rfl⟩
abbrev main_c_64 : Ref sig .tc := ⟨.hbm, 366, rfl⟩
abbrev main_v272 : Ref sig .tc := ⟨.hbm, 367, rfl⟩
abbrev main_v273 : Ref sig .tc := ⟨.hbm, 368, rfl⟩
abbrev main_v274 : Ref sig .tc := ⟨.hbm, 369, rfl⟩
abbrev main_v275 : Ref sig .tc := ⟨.hbm, 370, rfl⟩
abbrev main_v276 : Ref sig .tc := ⟨.hbm, 371, rfl⟩
abbrev main_v277 : Ref sig .tc := ⟨.hbm, 372, rfl⟩
abbrev main_v278 : Ref sig .tc := ⟨.hbm, 373, rfl⟩
abbrev main_cst_65 : Ref sig .tc := ⟨.hbm, 374, rfl⟩
abbrev main_v279 : Ref sig .tc := ⟨.hbm, 375, rfl⟩
abbrev main_v280 : Ref sig .tc := ⟨.hbm, 376, rfl⟩
abbrev main_cst_66 : Ref sig .tc := ⟨.hbm, 377, rfl⟩
abbrev main_call8_v0 : Ref sig .tc := ⟨.hbm, 378, rfl⟩
abbrev main_call8_v1 : Ref sig .tc := ⟨.hbm, 379, rfl⟩
abbrev main_v281 : Ref sig .tc := ⟨.hbm, 380, rfl⟩
abbrev main_v282 : Ref sig .tc := ⟨.hbm, 381, rfl⟩
abbrev main_v283 : Ref sig .tc := ⟨.hbm, 382, rfl⟩
abbrev main_v284 : Ref sig .tc := ⟨.hbm, 383, rfl⟩
abbrev main_c_67 : Ref sig .tc := ⟨.hbm, 384, rfl⟩
abbrev main_v285 : Ref sig .tc := ⟨.hbm, 385, rfl⟩
abbrev main_v286 : Ref sig .tc := ⟨.hbm, 386, rfl⟩
abbrev main_c_68 : Ref sig .tc := ⟨.hbm, 387, rfl⟩
abbrev main_v287 : Ref sig .tc := ⟨.hbm, 388, rfl⟩
abbrev main_v288 : Ref sig .tc := ⟨.hbm, 389, rfl⟩
abbrev main_v289 : Ref sig .tc := ⟨.hbm, 390, rfl⟩
abbrev main_c_69 : Ref sig .tc := ⟨.hbm, 391, rfl⟩
abbrev main_v290 : Ref sig .tc := ⟨.hbm, 392, rfl⟩
abbrev main_v291 : Ref sig .tc := ⟨.hbm, 393, rfl⟩
abbrev main_c_70 : Ref sig .tc := ⟨.hbm, 394, rfl⟩
abbrev main_v292 : Ref sig .tc := ⟨.hbm, 395, rfl⟩
abbrev main_v293 : Ref sig .tc := ⟨.hbm, 396, rfl⟩
abbrev main_v294 : Ref sig .tc := ⟨.hbm, 397, rfl⟩
abbrev main_v295 : Ref sig .tc := ⟨.hbm, 398, rfl⟩
abbrev main_v296 : Ref sig .tc := ⟨.hbm, 399, rfl⟩
abbrev main_v297 : Ref sig .tc := ⟨.hbm, 400, rfl⟩
abbrev main_v298 : Ref sig .tc := ⟨.hbm, 401, rfl⟩
abbrev main_v299 : Ref sig .tc := ⟨.hbm, 402, rfl⟩
abbrev main_v300 : Ref sig .tc := ⟨.hbm, 403, rfl⟩
abbrev main_v301 : Ref sig .tc := ⟨.hbm, 404, rfl⟩
abbrev main_cst_71 : Ref sig .tc := ⟨.hbm, 405, rfl⟩
abbrev main_v302 : Ref sig .tc := ⟨.hbm, 406, rfl⟩
abbrev main_c_72 : Ref sig .tc := ⟨.hbm, 407, rfl⟩
abbrev main_v303 : Ref sig .tc := ⟨.hbm, 408, rfl⟩
abbrev main_v304 : Ref sig .tc := ⟨.hbm, 409, rfl⟩
abbrev main_c_73 : Ref sig .tc := ⟨.hbm, 410, rfl⟩
abbrev main_v305 : Ref sig .tc := ⟨.hbm, 411, rfl⟩
abbrev main_v306 : Ref sig .tc := ⟨.hbm, 412, rfl⟩
abbrev main_v307 : Ref sig .tc := ⟨.hbm, 413, rfl⟩
abbrev main_c_74 : Ref sig .tc := ⟨.hbm, 414, rfl⟩
abbrev main_v308 : Ref sig .tc := ⟨.hbm, 415, rfl⟩
abbrev main_v309 : Ref sig .tc := ⟨.hbm, 416, rfl⟩
abbrev main_c_75 : Ref sig .tc := ⟨.hbm, 417, rfl⟩
abbrev main_v310 : Ref sig .tc := ⟨.hbm, 418, rfl⟩
abbrev main_v311 : Ref sig .tc := ⟨.hbm, 419, rfl⟩
abbrev main_v312 : Ref sig .tc := ⟨.hbm, 420, rfl⟩
abbrev main_v313 : Ref sig .tc := ⟨.hbm, 421, rfl⟩
abbrev main_v314 : Ref sig .tc := ⟨.hbm, 422, rfl⟩
abbrev main_v315 : Ref sig .tc := ⟨.hbm, 423, rfl⟩
abbrev main_v316 : Ref sig .tc := ⟨.hbm, 424, rfl⟩
abbrev main_v317 : Ref sig .tc := ⟨.hbm, 425, rfl⟩
abbrev main_cst_76 : Ref sig .tc := ⟨.hbm, 426, rfl⟩
abbrev main_v318 : Ref sig .tc := ⟨.hbm, 427, rfl⟩
abbrev main_c_77 : Ref sig .tc := ⟨.hbm, 428, rfl⟩
abbrev main_v319 : Ref sig .tc := ⟨.hbm, 429, rfl⟩
abbrev main_v320 : Ref sig .tc := ⟨.hbm, 430, rfl⟩
abbrev main_c_78 : Ref sig .tc := ⟨.hbm, 431, rfl⟩
abbrev main_v321 : Ref sig .tc := ⟨.hbm, 432, rfl⟩
abbrev main_v322 : Ref sig .tc := ⟨.hbm, 433, rfl⟩
abbrev main_v323 : Ref sig .tc := ⟨.hbm, 434, rfl⟩
abbrev main_c_79 : Ref sig .tc := ⟨.hbm, 435, rfl⟩
abbrev main_v324 : Ref sig .tc := ⟨.hbm, 436, rfl⟩
abbrev main_v325 : Ref sig .tc := ⟨.hbm, 437, rfl⟩
abbrev main_c_80 : Ref sig .tc := ⟨.hbm, 438, rfl⟩
abbrev main_v326 : Ref sig .tc := ⟨.hbm, 439, rfl⟩
abbrev main_v327 : Ref sig .tc := ⟨.hbm, 440, rfl⟩
abbrev main_v328 : Ref sig .tc := ⟨.hbm, 441, rfl⟩
abbrev main_v329 : Ref sig .tc := ⟨.hbm, 442, rfl⟩
abbrev main_v330 : Ref sig .tc := ⟨.hbm, 443, rfl⟩
abbrev main_v331 : Ref sig .tc := ⟨.hbm, 444, rfl⟩
abbrev main_v332 : Ref sig .tc := ⟨.hbm, 445, rfl⟩
abbrev main_cst_81 : Ref sig .tc := ⟨.hbm, 446, rfl⟩
abbrev main_v333 : Ref sig .tc := ⟨.hbm, 447, rfl⟩
abbrev main_v334 : Ref sig .tc := ⟨.hbm, 448, rfl⟩
abbrev main_cst_82 : Ref sig .tc := ⟨.hbm, 449, rfl⟩
abbrev main_call9_v0 : Ref sig .tc := ⟨.hbm, 450, rfl⟩
abbrev main_call9_v1 : Ref sig .tc := ⟨.hbm, 451, rfl⟩
abbrev main_v335 : Ref sig .tc := ⟨.hbm, 452, rfl⟩
abbrev main_v336 : Ref sig .tc := ⟨.hbm, 453, rfl⟩
abbrev main_v337 : Ref sig .tc := ⟨.hbm, 454, rfl⟩
abbrev main_v338 : Ref sig .tc := ⟨.hbm, 455, rfl⟩
abbrev main_c_83 : Ref sig .tc := ⟨.hbm, 456, rfl⟩
abbrev main_v339 : Ref sig .tc := ⟨.hbm, 457, rfl⟩
abbrev main_v340 : Ref sig .tc := ⟨.hbm, 458, rfl⟩
abbrev main_c_84 : Ref sig .tc := ⟨.hbm, 459, rfl⟩
abbrev main_v341 : Ref sig .tc := ⟨.hbm, 460, rfl⟩
abbrev main_v342 : Ref sig .tc := ⟨.hbm, 461, rfl⟩
abbrev main_v343 : Ref sig .tc := ⟨.hbm, 462, rfl⟩
abbrev main_c_85 : Ref sig .tc := ⟨.hbm, 463, rfl⟩
abbrev main_v344 : Ref sig .tc := ⟨.hbm, 464, rfl⟩
abbrev main_v345 : Ref sig .tc := ⟨.hbm, 465, rfl⟩
abbrev main_c_86 : Ref sig .tc := ⟨.hbm, 466, rfl⟩
abbrev main_v346 : Ref sig .tc := ⟨.hbm, 467, rfl⟩
abbrev main_v347 : Ref sig .tc := ⟨.hbm, 468, rfl⟩
abbrev main_v348 : Ref sig .tc := ⟨.hbm, 469, rfl⟩
abbrev main_v349 : Ref sig .tc := ⟨.hbm, 470, rfl⟩
abbrev main_v350 : Ref sig .tc := ⟨.hbm, 471, rfl⟩
abbrev main_v351 : Ref sig .tc := ⟨.hbm, 472, rfl⟩
abbrev main_v352 : Ref sig .tc := ⟨.hbm, 473, rfl⟩
abbrev main_v353 : Ref sig .tc := ⟨.hbm, 474, rfl⟩
abbrev main_v354 : Ref sig .tc := ⟨.hbm, 475, rfl⟩
abbrev main_v355 : Ref sig .tc := ⟨.hbm, 476, rfl⟩
abbrev main_v356 : Ref sig .tc := ⟨.hbm, 477, rfl⟩
abbrev main_cst_87 : Ref sig .tc := ⟨.hbm, 478, rfl⟩
abbrev main_v357 : Ref sig .tc := ⟨.hbm, 479, rfl⟩
abbrev main_c_88 : Ref sig .tc := ⟨.hbm, 480, rfl⟩
abbrev main_v358 : Ref sig .tc := ⟨.hbm, 481, rfl⟩
abbrev main_v359 : Ref sig .tc := ⟨.hbm, 482, rfl⟩
abbrev main_c_89 : Ref sig .tc := ⟨.hbm, 483, rfl⟩
abbrev main_v360 : Ref sig .tc := ⟨.hbm, 484, rfl⟩
abbrev main_v361 : Ref sig .tc := ⟨.hbm, 485, rfl⟩
abbrev main_v362 : Ref sig .tc := ⟨.hbm, 486, rfl⟩
abbrev main_c_90 : Ref sig .tc := ⟨.hbm, 487, rfl⟩
abbrev main_v363 : Ref sig .tc := ⟨.hbm, 488, rfl⟩
abbrev main_v364 : Ref sig .tc := ⟨.hbm, 489, rfl⟩
abbrev main_c_91 : Ref sig .tc := ⟨.hbm, 490, rfl⟩
abbrev main_v365 : Ref sig .tc := ⟨.hbm, 491, rfl⟩
abbrev main_v366 : Ref sig .tc := ⟨.hbm, 492, rfl⟩
abbrev main_v367 : Ref sig .tc := ⟨.hbm, 493, rfl⟩
abbrev main_v368 : Ref sig .tc := ⟨.hbm, 494, rfl⟩
abbrev main_v369 : Ref sig .tc := ⟨.hbm, 495, rfl⟩
abbrev main_v370 : Ref sig .tc := ⟨.hbm, 496, rfl⟩
abbrev main_v371 : Ref sig .tc := ⟨.hbm, 497, rfl⟩
abbrev main_v372 : Ref sig .tc := ⟨.hbm, 498, rfl⟩
abbrev main_cst_92 : Ref sig .tc := ⟨.hbm, 499, rfl⟩
abbrev main_v373 : Ref sig .tc := ⟨.hbm, 500, rfl⟩
abbrev main_c_93 : Ref sig .tc := ⟨.hbm, 501, rfl⟩
abbrev main_v374 : Ref sig .tc := ⟨.hbm, 502, rfl⟩
abbrev main_v375 : Ref sig .tc := ⟨.hbm, 503, rfl⟩
abbrev main_c_94 : Ref sig .tc := ⟨.hbm, 504, rfl⟩
abbrev main_v376 : Ref sig .tc := ⟨.hbm, 505, rfl⟩
abbrev main_v377 : Ref sig .tc := ⟨.hbm, 506, rfl⟩
abbrev main_v378 : Ref sig .tc := ⟨.hbm, 507, rfl⟩
abbrev main_c_95 : Ref sig .tc := ⟨.hbm, 508, rfl⟩
abbrev main_v379 : Ref sig .tc := ⟨.hbm, 509, rfl⟩
abbrev main_v380 : Ref sig .tc := ⟨.hbm, 510, rfl⟩
abbrev main_c_96 : Ref sig .tc := ⟨.hbm, 511, rfl⟩
abbrev main_v381 : Ref sig .tc := ⟨.hbm, 512, rfl⟩
abbrev main_v382 : Ref sig .tc := ⟨.hbm, 513, rfl⟩
abbrev main_v383 : Ref sig .tc := ⟨.hbm, 514, rfl⟩
abbrev main_v384 : Ref sig .tc := ⟨.hbm, 515, rfl⟩
abbrev main_v385 : Ref sig .tc := ⟨.hbm, 516, rfl⟩
abbrev main_v386 : Ref sig .tc := ⟨.hbm, 517, rfl⟩
abbrev main_v387 : Ref sig .tc := ⟨.hbm, 518, rfl⟩
abbrev main_cst_97 : Ref sig .tc := ⟨.hbm, 519, rfl⟩
abbrev main_v388 : Ref sig .tc := ⟨.hbm, 520, rfl⟩
abbrev main_v389 : Ref sig .tc := ⟨.hbm, 521, rfl⟩
abbrev main_cst_98 : Ref sig .tc := ⟨.hbm, 522, rfl⟩
abbrev main_call10_v0 : Ref sig .tc := ⟨.hbm, 523, rfl⟩
abbrev main_call10_v1 : Ref sig .tc := ⟨.hbm, 524, rfl⟩
abbrev main_v390 : Ref sig .tc := ⟨.hbm, 525, rfl⟩
abbrev main_v391 : Ref sig .tc := ⟨.hbm, 526, rfl⟩
abbrev main_v392 : Ref sig .tc := ⟨.hbm, 527, rfl⟩
abbrev main_v393 : Ref sig .tc := ⟨.hbm, 528, rfl⟩
abbrev main_c_99 : Ref sig .tc := ⟨.hbm, 529, rfl⟩
abbrev main_v394 : Ref sig .tc := ⟨.hbm, 530, rfl⟩
abbrev main_v395 : Ref sig .tc := ⟨.hbm, 531, rfl⟩
abbrev main_c_100 : Ref sig .tc := ⟨.hbm, 532, rfl⟩
abbrev main_v396 : Ref sig .tc := ⟨.hbm, 533, rfl⟩
abbrev main_v397 : Ref sig .tc := ⟨.hbm, 534, rfl⟩
abbrev main_v398 : Ref sig .tc := ⟨.hbm, 535, rfl⟩
abbrev main_c_101 : Ref sig .tc := ⟨.hbm, 536, rfl⟩
abbrev main_v399 : Ref sig .tc := ⟨.hbm, 537, rfl⟩
abbrev main_v400 : Ref sig .tc := ⟨.hbm, 538, rfl⟩
abbrev main_c_102 : Ref sig .tc := ⟨.hbm, 539, rfl⟩
abbrev main_v401 : Ref sig .tc := ⟨.hbm, 540, rfl⟩
abbrev main_v402 : Ref sig .tc := ⟨.hbm, 541, rfl⟩
abbrev main_v403 : Ref sig .tc := ⟨.hbm, 542, rfl⟩
abbrev main_v404 : Ref sig .tc := ⟨.hbm, 543, rfl⟩
abbrev main_v405 : Ref sig .tc := ⟨.hbm, 544, rfl⟩
abbrev main_v406 : Ref sig .tc := ⟨.hbm, 545, rfl⟩
abbrev main_v407 : Ref sig .tc := ⟨.hbm, 546, rfl⟩
abbrev main_v408 : Ref sig .tc := ⟨.hbm, 547, rfl⟩
abbrev main_v409 : Ref sig .tc := ⟨.hbm, 548, rfl⟩
abbrev main_v410 : Ref sig .tc := ⟨.hbm, 549, rfl⟩
abbrev main_v411 : Ref sig .tc := ⟨.hbm, 550, rfl⟩
abbrev main_v412 : Ref sig .tc := ⟨.hbm, 551, rfl⟩
abbrev main_v413 : Ref sig .tc := ⟨.hbm, 552, rfl⟩
abbrev main_v414 : Ref sig .tc := ⟨.hbm, 553, rfl⟩
abbrev main_v415 : Ref sig .tc := ⟨.hbm, 554, rfl⟩
abbrev main_v416 : Ref sig .tc := ⟨.hbm, 555, rfl⟩
abbrev main_v417 : Ref sig .tc := ⟨.hbm, 556, rfl⟩
abbrev main_v418 : Ref sig .tc := ⟨.hbm, 557, rfl⟩
abbrev main_v419 : Ref sig .tc := ⟨.hbm, 558, rfl⟩
abbrev main_v420 : Ref sig .tc := ⟨.hbm, 559, rfl⟩
abbrev main_call11_cst : Ref sig .tc := ⟨.hbm, 560, rfl⟩
abbrev main_call11_v0 : Ref sig .tc := ⟨.hbm, 561, rfl⟩
abbrev main_v421 : Ref sig .tc := ⟨.hbm, 562, rfl⟩
abbrev main_v422 : Ref sig .tc := ⟨.hbm, 563, rfl⟩
abbrev main_v423 : Ref sig .tc := ⟨.hbm, 564, rfl⟩
abbrev main_v424 : Ref sig .tc := ⟨.hbm, 565, rfl⟩
abbrev main_v425 : Ref sig .tc := ⟨.hbm, 566, rfl⟩
abbrev main_call12_cst : Ref sig .tc := ⟨.hbm, 567, rfl⟩
abbrev main_call12_v0 : Ref sig .tc := ⟨.hbm, 568, rfl⟩
abbrev main_v426 : Ref sig .tc := ⟨.hbm, 569, rfl⟩
abbrev main_v427 : Ref sig .tc := ⟨.hbm, 570, rfl⟩
abbrev main_v428 : Ref sig .tc := ⟨.hbm, 571, rfl⟩
abbrev main_v429 : Ref sig .tc := ⟨.hbm, 572, rfl⟩
abbrev main_v430 : Ref sig .tc := ⟨.hbm, 573, rfl⟩
abbrev main_v431 : Ref sig .tc := ⟨.hbm, 574, rfl⟩
abbrev main_v432 : Ref sig .tc := ⟨.hbm, 575, rfl⟩
abbrev main_v433 : Ref sig .tc := ⟨.hbm, 576, rfl⟩
abbrev main_v434 : Ref sig .tc := ⟨.hbm, 577, rfl⟩
abbrev main_cst_103 : Ref sig .tc := ⟨.hbm, 578, rfl⟩
abbrev main_v435 : Ref sig .tc := ⟨.hbm, 579, rfl⟩
abbrev main_c_104 : Ref sig .tc := ⟨.hbm, 580, rfl⟩
abbrev main_v436 : Ref sig .tc := ⟨.hbm, 581, rfl⟩
abbrev main_v437 : Ref sig .tc := ⟨.hbm, 582, rfl⟩
abbrev main_c_105 : Ref sig .tc := ⟨.hbm, 583, rfl⟩
abbrev main_v438 : Ref sig .tc := ⟨.hbm, 584, rfl⟩
abbrev main_v439 : Ref sig .tc := ⟨.hbm, 585, rfl⟩
abbrev main_v440 : Ref sig .tc := ⟨.hbm, 586, rfl⟩
abbrev main_c_106 : Ref sig .tc := ⟨.hbm, 587, rfl⟩
abbrev main_v441 : Ref sig .tc := ⟨.hbm, 588, rfl⟩
abbrev main_v442 : Ref sig .tc := ⟨.hbm, 589, rfl⟩
abbrev main_c_107 : Ref sig .tc := ⟨.hbm, 590, rfl⟩
abbrev main_v443 : Ref sig .tc := ⟨.hbm, 591, rfl⟩
abbrev main_v444 : Ref sig .tc := ⟨.hbm, 592, rfl⟩
abbrev main_v445 : Ref sig .tc := ⟨.hbm, 593, rfl⟩
abbrev main_v446 : Ref sig .tc := ⟨.hbm, 594, rfl⟩
abbrev main_v447 : Ref sig .tc := ⟨.hbm, 595, rfl⟩
abbrev main_v448 : Ref sig .tc := ⟨.hbm, 596, rfl⟩
abbrev main_v449 : Ref sig .tc := ⟨.hbm, 597, rfl⟩
abbrev main_v450 : Ref sig .tc := ⟨.hbm, 598, rfl⟩
abbrev main_cst_108 : Ref sig .tc := ⟨.hbm, 599, rfl⟩
abbrev main_v451 : Ref sig .tc := ⟨.hbm, 600, rfl⟩
abbrev main_c_109 : Ref sig .tc := ⟨.hbm, 601, rfl⟩
abbrev main_v452 : Ref sig .tc := ⟨.hbm, 602, rfl⟩
abbrev main_v453 : Ref sig .tc := ⟨.hbm, 603, rfl⟩
abbrev main_c_110 : Ref sig .tc := ⟨.hbm, 604, rfl⟩
abbrev main_v454 : Ref sig .tc := ⟨.hbm, 605, rfl⟩
abbrev main_v455 : Ref sig .tc := ⟨.hbm, 606, rfl⟩
abbrev main_v456 : Ref sig .tc := ⟨.hbm, 607, rfl⟩
abbrev main_c_111 : Ref sig .tc := ⟨.hbm, 608, rfl⟩
abbrev main_v457 : Ref sig .tc := ⟨.hbm, 609, rfl⟩
abbrev main_v458 : Ref sig .tc := ⟨.hbm, 610, rfl⟩
abbrev main_c_112 : Ref sig .tc := ⟨.hbm, 611, rfl⟩
abbrev main_v459 : Ref sig .tc := ⟨.hbm, 612, rfl⟩
abbrev main_v460 : Ref sig .tc := ⟨.hbm, 613, rfl⟩
abbrev main_v461 : Ref sig .tc := ⟨.hbm, 614, rfl⟩
abbrev main_v462 : Ref sig .tc := ⟨.hbm, 615, rfl⟩
abbrev main_v463 : Ref sig .tc := ⟨.hbm, 616, rfl⟩
abbrev main_v464 : Ref sig .tc := ⟨.hbm, 617, rfl⟩
abbrev main_v465 : Ref sig .tc := ⟨.hbm, 618, rfl⟩
abbrev main_cst_113 : Ref sig .tc := ⟨.hbm, 619, rfl⟩
abbrev main_v466 : Ref sig .tc := ⟨.hbm, 620, rfl⟩
abbrev main_v467 : Ref sig .tc := ⟨.hbm, 621, rfl⟩
abbrev main_cst_114 : Ref sig .tc := ⟨.hbm, 622, rfl⟩
abbrev main_call13_v0 : Ref sig .tc := ⟨.hbm, 623, rfl⟩
abbrev main_call13_v1 : Ref sig .tc := ⟨.hbm, 624, rfl⟩
abbrev main_v468 : Ref sig .tc := ⟨.hbm, 625, rfl⟩
abbrev main_v469 : Ref sig .tc := ⟨.hbm, 626, rfl⟩
abbrev main_v470 : Ref sig .tc := ⟨.hbm, 627, rfl⟩
abbrev main_v471 : Ref sig .tc := ⟨.hbm, 628, rfl⟩
abbrev main_c_115 : Ref sig .tc := ⟨.hbm, 629, rfl⟩
abbrev main_v472 : Ref sig .tc := ⟨.hbm, 630, rfl⟩
abbrev main_v473 : Ref sig .tc := ⟨.hbm, 631, rfl⟩
abbrev main_c_116 : Ref sig .tc := ⟨.hbm, 632, rfl⟩
abbrev main_v474 : Ref sig .tc := ⟨.hbm, 633, rfl⟩
abbrev main_v475 : Ref sig .tc := ⟨.hbm, 634, rfl⟩
abbrev main_v476 : Ref sig .tc := ⟨.hbm, 635, rfl⟩
abbrev main_c_117 : Ref sig .tc := ⟨.hbm, 636, rfl⟩
abbrev main_v477 : Ref sig .tc := ⟨.hbm, 637, rfl⟩
abbrev main_v478 : Ref sig .tc := ⟨.hbm, 638, rfl⟩
abbrev main_c_118 : Ref sig .tc := ⟨.hbm, 639, rfl⟩
abbrev main_v479 : Ref sig .tc := ⟨.hbm, 640, rfl⟩
abbrev main_v480 : Ref sig .tc := ⟨.hbm, 641, rfl⟩
abbrev main_v481 : Ref sig .tc := ⟨.hbm, 642, rfl⟩
abbrev main_v482 : Ref sig .tc := ⟨.hbm, 643, rfl⟩
abbrev main_v483 : Ref sig .tc := ⟨.hbm, 644, rfl⟩
abbrev main_v484 : Ref sig .tc := ⟨.hbm, 645, rfl⟩
abbrev main_v485 : Ref sig .tc := ⟨.hbm, 646, rfl⟩
abbrev main_v486 : Ref sig .tc := ⟨.hbm, 647, rfl⟩
abbrev main_v487 : Ref sig .tc := ⟨.hbm, 648, rfl⟩
abbrev main_v488 : Ref sig .tc := ⟨.hbm, 649, rfl⟩
abbrev main_cst_119 : Ref sig .tc := ⟨.hbm, 650, rfl⟩
abbrev main_v489 : Ref sig .tc := ⟨.hbm, 651, rfl⟩
abbrev main_c_120 : Ref sig .tc := ⟨.hbm, 652, rfl⟩
abbrev main_v490 : Ref sig .tc := ⟨.hbm, 653, rfl⟩
abbrev main_v491 : Ref sig .tc := ⟨.hbm, 654, rfl⟩
abbrev main_c_121 : Ref sig .tc := ⟨.hbm, 655, rfl⟩
abbrev main_v492 : Ref sig .tc := ⟨.hbm, 656, rfl⟩
abbrev main_v493 : Ref sig .tc := ⟨.hbm, 657, rfl⟩
abbrev main_v494 : Ref sig .tc := ⟨.hbm, 658, rfl⟩
abbrev main_c_122 : Ref sig .tc := ⟨.hbm, 659, rfl⟩
abbrev main_v495 : Ref sig .tc := ⟨.hbm, 660, rfl⟩
abbrev main_v496 : Ref sig .tc := ⟨.hbm, 661, rfl⟩
abbrev main_c_123 : Ref sig .tc := ⟨.hbm, 662, rfl⟩
abbrev main_v497 : Ref sig .tc := ⟨.hbm, 663, rfl⟩
abbrev main_v498 : Ref sig .tc := ⟨.hbm, 664, rfl⟩
abbrev main_v499 : Ref sig .tc := ⟨.hbm, 665, rfl⟩
abbrev main_v500 : Ref sig .tc := ⟨.hbm, 666, rfl⟩
abbrev main_v501 : Ref sig .tc := ⟨.hbm, 667, rfl⟩
abbrev main_v502 : Ref sig .tc := ⟨.hbm, 668, rfl⟩
abbrev main_v503 : Ref sig .tc := ⟨.hbm, 669, rfl⟩
abbrev main_v504 : Ref sig .tc := ⟨.hbm, 670, rfl⟩
abbrev main_cst_124 : Ref sig .tc := ⟨.hbm, 671, rfl⟩
abbrev main_v505 : Ref sig .tc := ⟨.hbm, 672, rfl⟩
abbrev main_c_125 : Ref sig .tc := ⟨.hbm, 673, rfl⟩
abbrev main_v506 : Ref sig .tc := ⟨.hbm, 674, rfl⟩
abbrev main_v507 : Ref sig .tc := ⟨.hbm, 675, rfl⟩
abbrev main_c_126 : Ref sig .tc := ⟨.hbm, 676, rfl⟩
abbrev main_v508 : Ref sig .tc := ⟨.hbm, 677, rfl⟩
abbrev main_v509 : Ref sig .tc := ⟨.hbm, 678, rfl⟩
abbrev main_v510 : Ref sig .tc := ⟨.hbm, 679, rfl⟩
abbrev main_c_127 : Ref sig .tc := ⟨.hbm, 680, rfl⟩
abbrev main_v511 : Ref sig .tc := ⟨.hbm, 681, rfl⟩
abbrev main_v512 : Ref sig .tc := ⟨.hbm, 682, rfl⟩
abbrev main_c_128 : Ref sig .tc := ⟨.hbm, 683, rfl⟩
abbrev main_v513 : Ref sig .tc := ⟨.hbm, 684, rfl⟩
abbrev main_v514 : Ref sig .tc := ⟨.hbm, 685, rfl⟩
abbrev main_v515 : Ref sig .tc := ⟨.hbm, 686, rfl⟩
abbrev main_v516 : Ref sig .tc := ⟨.hbm, 687, rfl⟩
abbrev main_v517 : Ref sig .tc := ⟨.hbm, 688, rfl⟩
abbrev main_v518 : Ref sig .tc := ⟨.hbm, 689, rfl⟩
abbrev main_v519 : Ref sig .tc := ⟨.hbm, 690, rfl⟩
abbrev main_cst_129 : Ref sig .tc := ⟨.hbm, 691, rfl⟩
abbrev main_v520 : Ref sig .tc := ⟨.hbm, 692, rfl⟩
abbrev main_v521 : Ref sig .tc := ⟨.hbm, 693, rfl⟩
abbrev main_cst_130 : Ref sig .tc := ⟨.hbm, 694, rfl⟩
abbrev main_call14_v0 : Ref sig .tc := ⟨.hbm, 695, rfl⟩
abbrev main_call14_v1 : Ref sig .tc := ⟨.hbm, 696, rfl⟩
abbrev main_v522 : Ref sig .tc := ⟨.hbm, 697, rfl⟩
abbrev main_v523 : Ref sig .tc := ⟨.hbm, 698, rfl⟩
abbrev main_v524 : Ref sig .tc := ⟨.hbm, 699, rfl⟩
abbrev main_v525 : Ref sig .tc := ⟨.hbm, 700, rfl⟩
abbrev main_c_131 : Ref sig .tc := ⟨.hbm, 701, rfl⟩
abbrev main_v526 : Ref sig .tc := ⟨.hbm, 702, rfl⟩
abbrev main_v527 : Ref sig .tc := ⟨.hbm, 703, rfl⟩
abbrev main_c_132 : Ref sig .tc := ⟨.hbm, 704, rfl⟩
abbrev main_v528 : Ref sig .tc := ⟨.hbm, 705, rfl⟩
abbrev main_v529 : Ref sig .tc := ⟨.hbm, 706, rfl⟩
abbrev main_v530 : Ref sig .tc := ⟨.hbm, 707, rfl⟩
abbrev main_c_133 : Ref sig .tc := ⟨.hbm, 708, rfl⟩
abbrev main_v531 : Ref sig .tc := ⟨.hbm, 709, rfl⟩
abbrev main_v532 : Ref sig .tc := ⟨.hbm, 710, rfl⟩
abbrev main_c_134 : Ref sig .tc := ⟨.hbm, 711, rfl⟩
abbrev main_v533 : Ref sig .tc := ⟨.hbm, 712, rfl⟩
abbrev main_v534 : Ref sig .tc := ⟨.hbm, 713, rfl⟩
abbrev main_v535 : Ref sig .tc := ⟨.hbm, 714, rfl⟩
abbrev main_v536 : Ref sig .tc := ⟨.hbm, 715, rfl⟩
abbrev main_v537 : Ref sig .tc := ⟨.hbm, 716, rfl⟩
abbrev main_v538 : Ref sig .tc := ⟨.hbm, 717, rfl⟩
abbrev main_v539 : Ref sig .tc := ⟨.hbm, 718, rfl⟩
abbrev main_v540 : Ref sig .tc := ⟨.hbm, 719, rfl⟩
abbrev main_v541 : Ref sig .tc := ⟨.hbm, 720, rfl⟩
abbrev main_v542 : Ref sig .tc := ⟨.hbm, 721, rfl⟩
abbrev main_v543 : Ref sig .tc := ⟨.hbm, 722, rfl⟩
abbrev main_cst_135 : Ref sig .tc := ⟨.hbm, 723, rfl⟩
abbrev main_v544 : Ref sig .tc := ⟨.hbm, 724, rfl⟩
abbrev main_c_136 : Ref sig .tc := ⟨.hbm, 725, rfl⟩
abbrev main_v545 : Ref sig .tc := ⟨.hbm, 726, rfl⟩
abbrev main_v546 : Ref sig .tc := ⟨.hbm, 727, rfl⟩
abbrev main_c_137 : Ref sig .tc := ⟨.hbm, 728, rfl⟩
abbrev main_v547 : Ref sig .tc := ⟨.hbm, 729, rfl⟩
abbrev main_v548 : Ref sig .tc := ⟨.hbm, 730, rfl⟩
abbrev main_v549 : Ref sig .tc := ⟨.hbm, 731, rfl⟩
abbrev main_c_138 : Ref sig .tc := ⟨.hbm, 732, rfl⟩
abbrev main_v550 : Ref sig .tc := ⟨.hbm, 733, rfl⟩
abbrev main_v551 : Ref sig .tc := ⟨.hbm, 734, rfl⟩
abbrev main_c_139 : Ref sig .tc := ⟨.hbm, 735, rfl⟩
abbrev main_v552 : Ref sig .tc := ⟨.hbm, 736, rfl⟩
abbrev main_v553 : Ref sig .tc := ⟨.hbm, 737, rfl⟩
abbrev main_v554 : Ref sig .tc := ⟨.hbm, 738, rfl⟩
abbrev main_v555 : Ref sig .tc := ⟨.hbm, 739, rfl⟩
abbrev main_v556 : Ref sig .tc := ⟨.hbm, 740, rfl⟩
abbrev main_v557 : Ref sig .tc := ⟨.hbm, 741, rfl⟩
abbrev main_v558 : Ref sig .tc := ⟨.hbm, 742, rfl⟩
abbrev main_v559 : Ref sig .tc := ⟨.hbm, 743, rfl⟩
abbrev main_cst_140 : Ref sig .tc := ⟨.hbm, 744, rfl⟩
abbrev main_v560 : Ref sig .tc := ⟨.hbm, 745, rfl⟩
abbrev main_c_141 : Ref sig .tc := ⟨.hbm, 746, rfl⟩
abbrev main_v561 : Ref sig .tc := ⟨.hbm, 747, rfl⟩
abbrev main_v562 : Ref sig .tc := ⟨.hbm, 748, rfl⟩
abbrev main_c_142 : Ref sig .tc := ⟨.hbm, 749, rfl⟩
abbrev main_v563 : Ref sig .tc := ⟨.hbm, 750, rfl⟩
abbrev main_v564 : Ref sig .tc := ⟨.hbm, 751, rfl⟩
abbrev main_v565 : Ref sig .tc := ⟨.hbm, 752, rfl⟩
abbrev main_c_143 : Ref sig .tc := ⟨.hbm, 753, rfl⟩
abbrev main_v566 : Ref sig .tc := ⟨.hbm, 754, rfl⟩
abbrev main_v567 : Ref sig .tc := ⟨.hbm, 755, rfl⟩
abbrev main_c_144 : Ref sig .tc := ⟨.hbm, 756, rfl⟩
abbrev main_v568 : Ref sig .tc := ⟨.hbm, 757, rfl⟩
abbrev main_v569 : Ref sig .tc := ⟨.hbm, 758, rfl⟩
abbrev main_v570 : Ref sig .tc := ⟨.hbm, 759, rfl⟩
abbrev main_v571 : Ref sig .tc := ⟨.hbm, 760, rfl⟩
abbrev main_v572 : Ref sig .tc := ⟨.hbm, 761, rfl⟩
abbrev main_v573 : Ref sig .tc := ⟨.hbm, 762, rfl⟩
abbrev main_v574 : Ref sig .tc := ⟨.hbm, 763, rfl⟩
abbrev main_cst_145 : Ref sig .tc := ⟨.hbm, 764, rfl⟩
abbrev main_v575 : Ref sig .tc := ⟨.hbm, 765, rfl⟩
abbrev main_v576 : Ref sig .tc := ⟨.hbm, 766, rfl⟩
abbrev main_cst_146 : Ref sig .tc := ⟨.hbm, 767, rfl⟩
abbrev main_call15_v0 : Ref sig .tc := ⟨.hbm, 768, rfl⟩
abbrev main_call15_v1 : Ref sig .tc := ⟨.hbm, 769, rfl⟩
abbrev main_v577 : Ref sig .tc := ⟨.hbm, 770, rfl⟩
abbrev main_v578 : Ref sig .tc := ⟨.hbm, 771, rfl⟩
abbrev main_v579 : Ref sig .tc := ⟨.hbm, 772, rfl⟩
abbrev main_v580 : Ref sig .tc := ⟨.hbm, 773, rfl⟩
abbrev main_c_147 : Ref sig .tc := ⟨.hbm, 774, rfl⟩
abbrev main_v581 : Ref sig .tc := ⟨.hbm, 775, rfl⟩
abbrev main_v582 : Ref sig .tc := ⟨.hbm, 776, rfl⟩
abbrev main_c_148 : Ref sig .tc := ⟨.hbm, 777, rfl⟩
abbrev main_v583 : Ref sig .tc := ⟨.hbm, 778, rfl⟩
abbrev main_v584 : Ref sig .tc := ⟨.hbm, 779, rfl⟩
abbrev main_v585 : Ref sig .tc := ⟨.hbm, 780, rfl⟩
abbrev main_c_149 : Ref sig .tc := ⟨.hbm, 781, rfl⟩
abbrev main_v586 : Ref sig .tc := ⟨.hbm, 782, rfl⟩
abbrev main_v587 : Ref sig .tc := ⟨.hbm, 783, rfl⟩
abbrev main_c_150 : Ref sig .tc := ⟨.hbm, 784, rfl⟩
abbrev main_v588 : Ref sig .tc := ⟨.hbm, 785, rfl⟩
abbrev main_v589 : Ref sig .tc := ⟨.hbm, 786, rfl⟩
abbrev main_v590 : Ref sig .tc := ⟨.hbm, 787, rfl⟩
abbrev main_v591 : Ref sig .tc := ⟨.hbm, 788, rfl⟩
abbrev main_v592 : Ref sig .tc := ⟨.hbm, 789, rfl⟩
abbrev main_v593 : Ref sig .tc := ⟨.hbm, 790, rfl⟩
abbrev main_v594 : Ref sig .tc := ⟨.hbm, 791, rfl⟩
abbrev main_v595 : Ref sig .tc := ⟨.hbm, 792, rfl⟩
abbrev main_v596 : Ref sig .tc := ⟨.hbm, 793, rfl⟩
abbrev main_v597 : Ref sig .tc := ⟨.hbm, 794, rfl⟩
abbrev main_v598 : Ref sig .tc := ⟨.hbm, 795, rfl⟩
abbrev main_v599 : Ref sig .tc := ⟨.hbm, 796, rfl⟩
abbrev main_v600 : Ref sig .tc := ⟨.hbm, 797, rfl⟩
abbrev main_v601 : Ref sig .tc := ⟨.hbm, 798, rfl⟩
abbrev main_v602 : Ref sig .tc := ⟨.hbm, 799, rfl⟩
abbrev main_v603 : Ref sig .tc := ⟨.hbm, 800, rfl⟩
abbrev main_v604 : Ref sig .tc := ⟨.hbm, 801, rfl⟩
abbrev main_v605 : Ref sig .tc := ⟨.hbm, 802, rfl⟩
abbrev main_v606 : Ref sig .tc := ⟨.hbm, 803, rfl⟩
abbrev main_v607 : Ref sig .tc := ⟨.hbm, 804, rfl⟩
abbrev main_call16_cst : Ref sig .tc := ⟨.hbm, 805, rfl⟩
abbrev main_call16_v0 : Ref sig .tc := ⟨.hbm, 806, rfl⟩
abbrev main_v608 : Ref sig .tc := ⟨.hbm, 807, rfl⟩
abbrev main_v609 : Ref sig .tc := ⟨.hbm, 808, rfl⟩
abbrev main_v610 : Ref sig .tc := ⟨.hbm, 809, rfl⟩
abbrev main_v611 : Ref sig .tc := ⟨.hbm, 810, rfl⟩
abbrev main_v612 : Ref sig .tc := ⟨.hbm, 811, rfl⟩
abbrev main_call17_cst : Ref sig .tc := ⟨.hbm, 812, rfl⟩
abbrev main_call17_v0 : Ref sig .tc := ⟨.hbm, 813, rfl⟩
abbrev main_v613 : Ref sig .tc := ⟨.hbm, 814, rfl⟩
abbrev main_v614 : Ref sig .tc := ⟨.hbm, 815, rfl⟩
abbrev main_v615 : Ref sig .tc := ⟨.hbm, 816, rfl⟩
abbrev main_v616 : Ref sig .tc := ⟨.hbm, 817, rfl⟩
abbrev main_v617 : Ref sig .tc := ⟨.hbm, 818, rfl⟩
abbrev main_v618 : Ref sig .tc := ⟨.hbm, 819, rfl⟩
abbrev main_v619 : Ref sig .tc := ⟨.hbm, 820, rfl⟩
abbrev main_v620 : Ref sig .tc := ⟨.hbm, 821, rfl⟩
abbrev main_v621 : Ref sig .tc := ⟨.hbm, 822, rfl⟩
abbrev main_cst_151 : Ref sig .tc := ⟨.hbm, 823, rfl⟩
abbrev main_v622 : Ref sig .tc := ⟨.hbm, 824, rfl⟩
abbrev main_c_152 : Ref sig .tc := ⟨.hbm, 825, rfl⟩
abbrev main_v623 : Ref sig .tc := ⟨.hbm, 826, rfl⟩
abbrev main_v624 : Ref sig .tc := ⟨.hbm, 827, rfl⟩
abbrev main_c_153 : Ref sig .tc := ⟨.hbm, 828, rfl⟩
abbrev main_v625 : Ref sig .tc := ⟨.hbm, 829, rfl⟩
abbrev main_v626 : Ref sig .tc := ⟨.hbm, 830, rfl⟩
abbrev main_v627 : Ref sig .tc := ⟨.hbm, 831, rfl⟩
abbrev main_c_154 : Ref sig .tc := ⟨.hbm, 832, rfl⟩
abbrev main_v628 : Ref sig .tc := ⟨.hbm, 833, rfl⟩
abbrev main_v629 : Ref sig .tc := ⟨.hbm, 834, rfl⟩
abbrev main_c_155 : Ref sig .tc := ⟨.hbm, 835, rfl⟩
abbrev main_v630 : Ref sig .tc := ⟨.hbm, 836, rfl⟩
abbrev main_v631 : Ref sig .tc := ⟨.hbm, 837, rfl⟩
abbrev main_v632 : Ref sig .tc := ⟨.hbm, 838, rfl⟩
abbrev main_v633 : Ref sig .tc := ⟨.hbm, 839, rfl⟩
abbrev main_v634 : Ref sig .tc := ⟨.hbm, 840, rfl⟩
abbrev main_v635 : Ref sig .tc := ⟨.hbm, 841, rfl⟩
abbrev main_v636 : Ref sig .tc := ⟨.hbm, 842, rfl⟩
abbrev main_v637 : Ref sig .tc := ⟨.hbm, 843, rfl⟩
abbrev main_cst_156 : Ref sig .tc := ⟨.hbm, 844, rfl⟩
abbrev main_v638 : Ref sig .tc := ⟨.hbm, 845, rfl⟩
abbrev main_c_157 : Ref sig .tc := ⟨.hbm, 846, rfl⟩
abbrev main_v639 : Ref sig .tc := ⟨.hbm, 847, rfl⟩
abbrev main_v640 : Ref sig .tc := ⟨.hbm, 848, rfl⟩
abbrev main_c_158 : Ref sig .tc := ⟨.hbm, 849, rfl⟩
abbrev main_v641 : Ref sig .tc := ⟨.hbm, 850, rfl⟩
abbrev main_v642 : Ref sig .tc := ⟨.hbm, 851, rfl⟩
abbrev main_v643 : Ref sig .tc := ⟨.hbm, 852, rfl⟩
abbrev main_c_159 : Ref sig .tc := ⟨.hbm, 853, rfl⟩
abbrev main_v644 : Ref sig .tc := ⟨.hbm, 854, rfl⟩
abbrev main_v645 : Ref sig .tc := ⟨.hbm, 855, rfl⟩
abbrev main_c_160 : Ref sig .tc := ⟨.hbm, 856, rfl⟩
abbrev main_v646 : Ref sig .tc := ⟨.hbm, 857, rfl⟩
abbrev main_v647 : Ref sig .tc := ⟨.hbm, 858, rfl⟩
abbrev main_v648 : Ref sig .tc := ⟨.hbm, 859, rfl⟩
abbrev main_v649 : Ref sig .tc := ⟨.hbm, 860, rfl⟩
abbrev main_v650 : Ref sig .tc := ⟨.hbm, 861, rfl⟩
abbrev main_v651 : Ref sig .tc := ⟨.hbm, 862, rfl⟩
abbrev main_v652 : Ref sig .tc := ⟨.hbm, 863, rfl⟩
abbrev main_cst_161 : Ref sig .tc := ⟨.hbm, 864, rfl⟩
abbrev main_v653 : Ref sig .tc := ⟨.hbm, 865, rfl⟩
abbrev main_v654 : Ref sig .tc := ⟨.hbm, 866, rfl⟩
abbrev main_cst_162 : Ref sig .tc := ⟨.hbm, 867, rfl⟩
abbrev main_call18_v0 : Ref sig .tc := ⟨.hbm, 868, rfl⟩
abbrev main_call18_v1 : Ref sig .tc := ⟨.hbm, 869, rfl⟩
abbrev main_v655 : Ref sig .tc := ⟨.hbm, 870, rfl⟩
abbrev main_v656 : Ref sig .tc := ⟨.hbm, 871, rfl⟩
abbrev main_v657 : Ref sig .tc := ⟨.hbm, 872, rfl⟩
abbrev main_v658 : Ref sig .tc := ⟨.hbm, 873, rfl⟩
abbrev main_c_163 : Ref sig .tc := ⟨.hbm, 874, rfl⟩
abbrev main_v659 : Ref sig .tc := ⟨.hbm, 875, rfl⟩
abbrev main_v660 : Ref sig .tc := ⟨.hbm, 876, rfl⟩
abbrev main_c_164 : Ref sig .tc := ⟨.hbm, 877, rfl⟩
abbrev main_v661 : Ref sig .tc := ⟨.hbm, 878, rfl⟩
abbrev main_v662 : Ref sig .tc := ⟨.hbm, 879, rfl⟩
abbrev main_v663 : Ref sig .tc := ⟨.hbm, 880, rfl⟩
abbrev main_c_165 : Ref sig .tc := ⟨.hbm, 881, rfl⟩
abbrev main_v664 : Ref sig .tc := ⟨.hbm, 882, rfl⟩
abbrev main_v665 : Ref sig .tc := ⟨.hbm, 883, rfl⟩
abbrev main_c_166 : Ref sig .tc := ⟨.hbm, 884, rfl⟩
abbrev main_v666 : Ref sig .tc := ⟨.hbm, 885, rfl⟩
abbrev main_v667 : Ref sig .tc := ⟨.hbm, 886, rfl⟩
abbrev main_v668 : Ref sig .tc := ⟨.hbm, 887, rfl⟩
abbrev main_v669 : Ref sig .tc := ⟨.hbm, 888, rfl⟩
abbrev main_v670 : Ref sig .tc := ⟨.hbm, 889, rfl⟩
abbrev main_v671 : Ref sig .tc := ⟨.hbm, 890, rfl⟩
abbrev main_v672 : Ref sig .tc := ⟨.hbm, 891, rfl⟩
abbrev main_v673 : Ref sig .tc := ⟨.hbm, 892, rfl⟩
abbrev main_v674 : Ref sig .tc := ⟨.hbm, 893, rfl⟩
abbrev main_v675 : Ref sig .tc := ⟨.hbm, 894, rfl⟩
abbrev main_cst_167 : Ref sig .tc := ⟨.hbm, 895, rfl⟩
abbrev main_v676 : Ref sig .tc := ⟨.hbm, 896, rfl⟩
abbrev main_c_168 : Ref sig .tc := ⟨.hbm, 897, rfl⟩
abbrev main_v677 : Ref sig .tc := ⟨.hbm, 898, rfl⟩
abbrev main_v678 : Ref sig .tc := ⟨.hbm, 899, rfl⟩
abbrev main_c_169 : Ref sig .tc := ⟨.hbm, 900, rfl⟩
abbrev main_v679 : Ref sig .tc := ⟨.hbm, 901, rfl⟩
abbrev main_v680 : Ref sig .tc := ⟨.hbm, 902, rfl⟩
abbrev main_v681 : Ref sig .tc := ⟨.hbm, 903, rfl⟩
abbrev main_c_170 : Ref sig .tc := ⟨.hbm, 904, rfl⟩
abbrev main_v682 : Ref sig .tc := ⟨.hbm, 905, rfl⟩
abbrev main_v683 : Ref sig .tc := ⟨.hbm, 906, rfl⟩
abbrev main_c_171 : Ref sig .tc := ⟨.hbm, 907, rfl⟩
abbrev main_v684 : Ref sig .tc := ⟨.hbm, 908, rfl⟩
abbrev main_v685 : Ref sig .tc := ⟨.hbm, 909, rfl⟩
abbrev main_v686 : Ref sig .tc := ⟨.hbm, 910, rfl⟩
abbrev main_v687 : Ref sig .tc := ⟨.hbm, 911, rfl⟩
abbrev main_v688 : Ref sig .tc := ⟨.hbm, 912, rfl⟩
abbrev main_v689 : Ref sig .tc := ⟨.hbm, 913, rfl⟩
abbrev main_v690 : Ref sig .tc := ⟨.hbm, 914, rfl⟩
abbrev main_v691 : Ref sig .tc := ⟨.hbm, 915, rfl⟩
abbrev main_cst_172 : Ref sig .tc := ⟨.hbm, 916, rfl⟩
abbrev main_v692 : Ref sig .tc := ⟨.hbm, 917, rfl⟩
abbrev main_c_173 : Ref sig .tc := ⟨.hbm, 918, rfl⟩
abbrev main_v693 : Ref sig .tc := ⟨.hbm, 919, rfl⟩
abbrev main_v694 : Ref sig .tc := ⟨.hbm, 920, rfl⟩
abbrev main_c_174 : Ref sig .tc := ⟨.hbm, 921, rfl⟩
abbrev main_v695 : Ref sig .tc := ⟨.hbm, 922, rfl⟩
abbrev main_v696 : Ref sig .tc := ⟨.hbm, 923, rfl⟩
abbrev main_v697 : Ref sig .tc := ⟨.hbm, 924, rfl⟩
abbrev main_c_175 : Ref sig .tc := ⟨.hbm, 925, rfl⟩
abbrev main_v698 : Ref sig .tc := ⟨.hbm, 926, rfl⟩
abbrev main_v699 : Ref sig .tc := ⟨.hbm, 927, rfl⟩
abbrev main_c_176 : Ref sig .tc := ⟨.hbm, 928, rfl⟩
abbrev main_v700 : Ref sig .tc := ⟨.hbm, 929, rfl⟩
abbrev main_v701 : Ref sig .tc := ⟨.hbm, 930, rfl⟩
abbrev main_v702 : Ref sig .tc := ⟨.hbm, 931, rfl⟩
abbrev main_v703 : Ref sig .tc := ⟨.hbm, 932, rfl⟩
abbrev main_v704 : Ref sig .tc := ⟨.hbm, 933, rfl⟩
abbrev main_v705 : Ref sig .tc := ⟨.hbm, 934, rfl⟩
abbrev main_v706 : Ref sig .tc := ⟨.hbm, 935, rfl⟩
abbrev main_cst_177 : Ref sig .tc := ⟨.hbm, 936, rfl⟩
abbrev main_v707 : Ref sig .tc := ⟨.hbm, 937, rfl⟩
abbrev main_v708 : Ref sig .tc := ⟨.hbm, 938, rfl⟩
abbrev main_cst_178 : Ref sig .tc := ⟨.hbm, 939, rfl⟩
abbrev main_call19_v0 : Ref sig .tc := ⟨.hbm, 940, rfl⟩
abbrev main_call19_v1 : Ref sig .tc := ⟨.hbm, 941, rfl⟩
abbrev main_v709 : Ref sig .tc := ⟨.hbm, 942, rfl⟩
abbrev main_v710 : Ref sig .tc := ⟨.hbm, 943, rfl⟩
abbrev main_v711 : Ref sig .tc := ⟨.hbm, 944, rfl⟩
abbrev main_v712 : Ref sig .tc := ⟨.hbm, 945, rfl⟩
abbrev main_c_179 : Ref sig .tc := ⟨.hbm, 946, rfl⟩
abbrev main_v713 : Ref sig .tc := ⟨.hbm, 947, rfl⟩
abbrev main_v714 : Ref sig .tc := ⟨.hbm, 948, rfl⟩
abbrev main_c_180 : Ref sig .tc := ⟨.hbm, 949, rfl⟩
abbrev main_v715 : Ref sig .tc := ⟨.hbm, 950, rfl⟩
abbrev main_v716 : Ref sig .tc := ⟨.hbm, 951, rfl⟩
abbrev main_v717 : Ref sig .tc := ⟨.hbm, 952, rfl⟩
abbrev main_c_181 : Ref sig .tc := ⟨.hbm, 953, rfl⟩
abbrev main_v718 : Ref sig .tc := ⟨.hbm, 954, rfl⟩
abbrev main_v719 : Ref sig .tc := ⟨.hbm, 955, rfl⟩
abbrev main_c_182 : Ref sig .tc := ⟨.hbm, 956, rfl⟩
abbrev main_v720 : Ref sig .tc := ⟨.hbm, 957, rfl⟩
abbrev main_v721 : Ref sig .tc := ⟨.hbm, 958, rfl⟩
abbrev main_v722 : Ref sig .tc := ⟨.hbm, 959, rfl⟩
abbrev main_v723 : Ref sig .tc := ⟨.hbm, 960, rfl⟩
abbrev main_v724 : Ref sig .tc := ⟨.hbm, 961, rfl⟩
abbrev main_v725 : Ref sig .tc := ⟨.hbm, 962, rfl⟩
abbrev main_v726 : Ref sig .tc := ⟨.hbm, 963, rfl⟩
abbrev main_v727 : Ref sig .tc := ⟨.hbm, 964, rfl⟩
abbrev main_v728 : Ref sig .tc := ⟨.hbm, 965, rfl⟩
abbrev main_v729 : Ref sig .tc := ⟨.hbm, 966, rfl⟩
abbrev main_v730 : Ref sig .tc := ⟨.hbm, 967, rfl⟩
abbrev main_cst_183 : Ref sig .tc := ⟨.hbm, 968, rfl⟩
abbrev main_v731 : Ref sig .tc := ⟨.hbm, 969, rfl⟩
abbrev main_c_184 : Ref sig .tc := ⟨.hbm, 970, rfl⟩
abbrev main_v732 : Ref sig .tc := ⟨.hbm, 971, rfl⟩
abbrev main_v733 : Ref sig .tc := ⟨.hbm, 972, rfl⟩
abbrev main_c_185 : Ref sig .tc := ⟨.hbm, 973, rfl⟩
abbrev main_v734 : Ref sig .tc := ⟨.hbm, 974, rfl⟩
abbrev main_v735 : Ref sig .tc := ⟨.hbm, 975, rfl⟩
abbrev main_v736 : Ref sig .tc := ⟨.hbm, 976, rfl⟩
abbrev main_c_186 : Ref sig .tc := ⟨.hbm, 977, rfl⟩
abbrev main_v737 : Ref sig .tc := ⟨.hbm, 978, rfl⟩
abbrev main_v738 : Ref sig .tc := ⟨.hbm, 979, rfl⟩
abbrev main_c_187 : Ref sig .tc := ⟨.hbm, 980, rfl⟩
abbrev main_v739 : Ref sig .tc := ⟨.hbm, 981, rfl⟩
abbrev main_v740 : Ref sig .tc := ⟨.hbm, 982, rfl⟩
abbrev main_v741 : Ref sig .tc := ⟨.hbm, 983, rfl⟩
abbrev main_v742 : Ref sig .tc := ⟨.hbm, 984, rfl⟩
abbrev main_v743 : Ref sig .tc := ⟨.hbm, 985, rfl⟩
abbrev main_v744 : Ref sig .tc := ⟨.hbm, 986, rfl⟩
abbrev main_v745 : Ref sig .tc := ⟨.hbm, 987, rfl⟩
abbrev main_v746 : Ref sig .tc := ⟨.hbm, 988, rfl⟩
abbrev main_cst_188 : Ref sig .tc := ⟨.hbm, 989, rfl⟩
abbrev main_v747 : Ref sig .tc := ⟨.hbm, 990, rfl⟩
abbrev main_c_189 : Ref sig .tc := ⟨.hbm, 991, rfl⟩
abbrev main_v748 : Ref sig .tc := ⟨.hbm, 992, rfl⟩
abbrev main_v749 : Ref sig .tc := ⟨.hbm, 993, rfl⟩
abbrev main_c_190 : Ref sig .tc := ⟨.hbm, 994, rfl⟩
abbrev main_v750 : Ref sig .tc := ⟨.hbm, 995, rfl⟩
abbrev main_v751 : Ref sig .tc := ⟨.hbm, 996, rfl⟩
abbrev main_v752 : Ref sig .tc := ⟨.hbm, 997, rfl⟩
abbrev main_c_191 : Ref sig .tc := ⟨.hbm, 998, rfl⟩
abbrev main_v753 : Ref sig .tc := ⟨.hbm, 999, rfl⟩
abbrev main_v754 : Ref sig .tc := ⟨.hbm, 1000, rfl⟩
abbrev main_c_192 : Ref sig .tc := ⟨.hbm, 1001, rfl⟩
abbrev main_v755 : Ref sig .tc := ⟨.hbm, 1002, rfl⟩
abbrev main_v756 : Ref sig .tc := ⟨.hbm, 1003, rfl⟩
abbrev main_v757 : Ref sig .tc := ⟨.hbm, 1004, rfl⟩
abbrev main_v758 : Ref sig .tc := ⟨.hbm, 1005, rfl⟩
abbrev main_v759 : Ref sig .tc := ⟨.hbm, 1006, rfl⟩
abbrev main_v760 : Ref sig .tc := ⟨.hbm, 1007, rfl⟩
abbrev main_v761 : Ref sig .tc := ⟨.hbm, 1008, rfl⟩
abbrev main_cst_193 : Ref sig .tc := ⟨.hbm, 1009, rfl⟩
abbrev main_v762 : Ref sig .tc := ⟨.hbm, 1010, rfl⟩
abbrev main_v763 : Ref sig .tc := ⟨.hbm, 1011, rfl⟩
abbrev main_cst_194 : Ref sig .tc := ⟨.hbm, 1012, rfl⟩
abbrev main_call20_v0 : Ref sig .tc := ⟨.hbm, 1013, rfl⟩
abbrev main_call20_v1 : Ref sig .tc := ⟨.hbm, 1014, rfl⟩
abbrev main_v764 : Ref sig .tc := ⟨.hbm, 1015, rfl⟩
abbrev main_v765 : Ref sig .tc := ⟨.hbm, 1016, rfl⟩
abbrev main_v766 : Ref sig .tc := ⟨.hbm, 1017, rfl⟩
abbrev main_v767 : Ref sig .tc := ⟨.hbm, 1018, rfl⟩
abbrev main_c_195 : Ref sig .tc := ⟨.hbm, 1019, rfl⟩
abbrev main_v768 : Ref sig .tc := ⟨.hbm, 1020, rfl⟩
abbrev main_v769 : Ref sig .tc := ⟨.hbm, 1021, rfl⟩
abbrev main_c_196 : Ref sig .tc := ⟨.hbm, 1022, rfl⟩
abbrev main_v770 : Ref sig .tc := ⟨.hbm, 1023, rfl⟩
abbrev main_v771 : Ref sig .tc := ⟨.hbm, 1024, rfl⟩
abbrev main_v772 : Ref sig .tc := ⟨.hbm, 1025, rfl⟩
abbrev main_c_197 : Ref sig .tc := ⟨.hbm, 1026, rfl⟩
abbrev main_v773 : Ref sig .tc := ⟨.hbm, 1027, rfl⟩
abbrev main_v774 : Ref sig .tc := ⟨.hbm, 1028, rfl⟩
abbrev main_c_198 : Ref sig .tc := ⟨.hbm, 1029, rfl⟩
abbrev main_v775 : Ref sig .tc := ⟨.hbm, 1030, rfl⟩
abbrev main_v776 : Ref sig .tc := ⟨.hbm, 1031, rfl⟩
abbrev main_v777 : Ref sig .tc := ⟨.hbm, 1032, rfl⟩
abbrev main_v778 : Ref sig .tc := ⟨.hbm, 1033, rfl⟩
abbrev main_v779 : Ref sig .tc := ⟨.hbm, 1034, rfl⟩
abbrev main_v780 : Ref sig .tc := ⟨.hbm, 1035, rfl⟩
abbrev main_v781 : Ref sig .tc := ⟨.hbm, 1036, rfl⟩
abbrev main_v782 : Ref sig .tc := ⟨.hbm, 1037, rfl⟩
abbrev main_v783 : Ref sig .tc := ⟨.hbm, 1038, rfl⟩
abbrev main_v784 : Ref sig .tc := ⟨.hbm, 1039, rfl⟩
abbrev main_v785 : Ref sig .tc := ⟨.hbm, 1040, rfl⟩
abbrev main_v786 : Ref sig .tc := ⟨.hbm, 1041, rfl⟩
abbrev main_v787 : Ref sig .tc := ⟨.hbm, 1042, rfl⟩
abbrev main_v788 : Ref sig .tc := ⟨.hbm, 1043, rfl⟩
abbrev main_v789 : Ref sig .tc := ⟨.hbm, 1044, rfl⟩
abbrev main_v790 : Ref sig .tc := ⟨.hbm, 1045, rfl⟩
abbrev main_v791 : Ref sig .tc := ⟨.hbm, 1046, rfl⟩
abbrev main_v792 : Ref sig .tc := ⟨.hbm, 1047, rfl⟩
abbrev main_v793 : Ref sig .tc := ⟨.hbm, 1048, rfl⟩
abbrev main_v794 : Ref sig .tc := ⟨.hbm, 1049, rfl⟩
abbrev main_call21_cst : Ref sig .tc := ⟨.hbm, 1050, rfl⟩
abbrev main_call21_v0 : Ref sig .tc := ⟨.hbm, 1051, rfl⟩
abbrev main_v795 : Ref sig .tc := ⟨.hbm, 1052, rfl⟩
abbrev main_v796 : Ref sig .tc := ⟨.hbm, 1053, rfl⟩
abbrev main_v797 : Ref sig .tc := ⟨.hbm, 1054, rfl⟩
abbrev main_v798 : Ref sig .tc := ⟨.hbm, 1055, rfl⟩
abbrev main_v799 : Ref sig .tc := ⟨.hbm, 1056, rfl⟩
abbrev main_call22_cst : Ref sig .tc := ⟨.hbm, 1057, rfl⟩
abbrev main_call22_v0 : Ref sig .tc := ⟨.hbm, 1058, rfl⟩
abbrev main_v800 : Ref sig .tc := ⟨.hbm, 1059, rfl⟩
abbrev main_v801 : Ref sig .tc := ⟨.hbm, 1060, rfl⟩
abbrev main_v802 : Ref sig .tc := ⟨.hbm, 1061, rfl⟩
abbrev main_v803 : Ref sig .tc := ⟨.hbm, 1062, rfl⟩
abbrev main_v804 : Ref sig .tc := ⟨.hbm, 1063, rfl⟩
abbrev main_v805 : Ref sig .tc := ⟨.hbm, 1064, rfl⟩
abbrev main_v806 : Ref sig .tc := ⟨.hbm, 1065, rfl⟩
abbrev main_v807 : Ref sig .tc := ⟨.hbm, 1066, rfl⟩
abbrev main_v808 : Ref sig .tc := ⟨.hbm, 1067, rfl⟩
abbrev main_v809 : Ref sig .tc := ⟨.hbm, 1068, rfl⟩
abbrev main_v810 : Ref sig .tc := ⟨.hbm, 1069, rfl⟩
abbrev main_v811 : Ref sig .tc := ⟨.hbm, 1070, rfl⟩
abbrev main_v812 : Ref sig .tc := ⟨.hbm, 1071, rfl⟩
abbrev main_cst_199 : Ref sig .tc := ⟨.hbm, 1072, rfl⟩
abbrev main_v813 : Ref sig .tc := ⟨.hbm, 1073, rfl⟩
abbrev main_c_200 : Ref sig .tc := ⟨.hbm, 1074, rfl⟩
abbrev main_v814 : Ref sig .tc := ⟨.hbm, 1075, rfl⟩
abbrev main_v815 : Ref sig .tc := ⟨.hbm, 1076, rfl⟩
abbrev main_c_201 : Ref sig .tc := ⟨.hbm, 1077, rfl⟩
abbrev main_v816 : Ref sig .tc := ⟨.hbm, 1078, rfl⟩
abbrev main_v817 : Ref sig .tc := ⟨.hbm, 1079, rfl⟩
abbrev main_v818 : Ref sig .tc := ⟨.hbm, 1080, rfl⟩
abbrev main_c_202 : Ref sig .tc := ⟨.hbm, 1081, rfl⟩
abbrev main_v819 : Ref sig .tc := ⟨.hbm, 1082, rfl⟩
abbrev main_v820 : Ref sig .tc := ⟨.hbm, 1083, rfl⟩
abbrev main_c_203 : Ref sig .tc := ⟨.hbm, 1084, rfl⟩
abbrev main_v821 : Ref sig .tc := ⟨.hbm, 1085, rfl⟩
abbrev main_v822 : Ref sig .tc := ⟨.hbm, 1086, rfl⟩
abbrev main_v823 : Ref sig .tc := ⟨.hbm, 1087, rfl⟩
abbrev main_v824 : Ref sig .tc := ⟨.hbm, 1088, rfl⟩
abbrev main_v825 : Ref sig .tc := ⟨.hbm, 1089, rfl⟩
abbrev main_v826 : Ref sig .tc := ⟨.hbm, 1090, rfl⟩
abbrev main_v827 : Ref sig .tc := ⟨.hbm, 1091, rfl⟩
abbrev main_v828 : Ref sig .tc := ⟨.hbm, 1092, rfl⟩
abbrev main_cst_204 : Ref sig .tc := ⟨.hbm, 1093, rfl⟩
abbrev main_v829 : Ref sig .tc := ⟨.hbm, 1094, rfl⟩
abbrev main_c_205 : Ref sig .tc := ⟨.hbm, 1095, rfl⟩
abbrev main_v830 : Ref sig .tc := ⟨.hbm, 1096, rfl⟩
abbrev main_v831 : Ref sig .tc := ⟨.hbm, 1097, rfl⟩
abbrev main_c_206 : Ref sig .tc := ⟨.hbm, 1098, rfl⟩
abbrev main_v832 : Ref sig .tc := ⟨.hbm, 1099, rfl⟩
abbrev main_v833 : Ref sig .tc := ⟨.hbm, 1100, rfl⟩
abbrev main_v834 : Ref sig .tc := ⟨.hbm, 1101, rfl⟩
abbrev main_c_207 : Ref sig .tc := ⟨.hbm, 1102, rfl⟩
abbrev main_v835 : Ref sig .tc := ⟨.hbm, 1103, rfl⟩
abbrev main_v836 : Ref sig .tc := ⟨.hbm, 1104, rfl⟩
abbrev main_c_208 : Ref sig .tc := ⟨.hbm, 1105, rfl⟩
abbrev main_v837 : Ref sig .tc := ⟨.hbm, 1106, rfl⟩
abbrev main_v838 : Ref sig .tc := ⟨.hbm, 1107, rfl⟩
abbrev main_v839 : Ref sig .tc := ⟨.hbm, 1108, rfl⟩
abbrev main_v840 : Ref sig .tc := ⟨.hbm, 1109, rfl⟩
abbrev main_v841 : Ref sig .tc := ⟨.hbm, 1110, rfl⟩
abbrev main_v842 : Ref sig .tc := ⟨.hbm, 1111, rfl⟩
abbrev main_v843 : Ref sig .tc := ⟨.hbm, 1112, rfl⟩
abbrev main_cst_209 : Ref sig .tc := ⟨.hbm, 1113, rfl⟩
abbrev main_v844 : Ref sig .tc := ⟨.hbm, 1114, rfl⟩
abbrev main_v845 : Ref sig .tc := ⟨.hbm, 1115, rfl⟩
abbrev main_cst_210 : Ref sig .tc := ⟨.hbm, 1116, rfl⟩
abbrev main_call23_v0 : Ref sig .tc := ⟨.hbm, 1117, rfl⟩
abbrev main_call23_v1 : Ref sig .tc := ⟨.hbm, 1118, rfl⟩
abbrev main_v846 : Ref sig .tc := ⟨.hbm, 1119, rfl⟩
abbrev main_v847 : Ref sig .tc := ⟨.hbm, 1120, rfl⟩
abbrev main_v848 : Ref sig .tc := ⟨.hbm, 1121, rfl⟩
abbrev main_v849 : Ref sig .tc := ⟨.hbm, 1122, rfl⟩
abbrev main_v850 : Ref sig .tc := ⟨.hbm, 1123, rfl⟩
abbrev main_v851 : Ref sig .tc := ⟨.hbm, 1124, rfl⟩
abbrev main_v852 : Ref sig .tc := ⟨.hbm, 1125, rfl⟩
abbrev main_v853 : Ref sig .tc := ⟨.hbm, 1126, rfl⟩
abbrev main_cst_211 : Ref sig .tc := ⟨.hbm, 1127, rfl⟩
abbrev main_v854 : Ref sig .tc := ⟨.hbm, 1128, rfl⟩
abbrev main_c_212 : Ref sig .tc := ⟨.hbm, 1129, rfl⟩
abbrev main_v855 : Ref sig .tc := ⟨.hbm, 1130, rfl⟩
abbrev main_v856 : Ref sig .tc := ⟨.hbm, 1131, rfl⟩
abbrev main_c_213 : Ref sig .tc := ⟨.hbm, 1132, rfl⟩
abbrev main_v857 : Ref sig .tc := ⟨.hbm, 1133, rfl⟩
abbrev main_v858 : Ref sig .tc := ⟨.hbm, 1134, rfl⟩
abbrev main_v859 : Ref sig .tc := ⟨.hbm, 1135, rfl⟩
abbrev main_c_214 : Ref sig .tc := ⟨.hbm, 1136, rfl⟩
abbrev main_v860 : Ref sig .tc := ⟨.hbm, 1137, rfl⟩
abbrev main_v861 : Ref sig .tc := ⟨.hbm, 1138, rfl⟩
abbrev main_c_215 : Ref sig .tc := ⟨.hbm, 1139, rfl⟩
abbrev main_v862 : Ref sig .tc := ⟨.hbm, 1140, rfl⟩
abbrev main_v863 : Ref sig .tc := ⟨.hbm, 1141, rfl⟩
abbrev main_v864 : Ref sig .tc := ⟨.hbm, 1142, rfl⟩
abbrev main_v865 : Ref sig .tc := ⟨.hbm, 1143, rfl⟩
abbrev main_v866 : Ref sig .tc := ⟨.hbm, 1144, rfl⟩
abbrev main_v867 : Ref sig .tc := ⟨.hbm, 1145, rfl⟩
abbrev main_v868 : Ref sig .tc := ⟨.hbm, 1146, rfl⟩
abbrev main_v869 : Ref sig .tc := ⟨.hbm, 1147, rfl⟩
abbrev main_cst_216 : Ref sig .tc := ⟨.hbm, 1148, rfl⟩
abbrev main_v870 : Ref sig .tc := ⟨.hbm, 1149, rfl⟩
abbrev main_c_217 : Ref sig .tc := ⟨.hbm, 1150, rfl⟩
abbrev main_v871 : Ref sig .tc := ⟨.hbm, 1151, rfl⟩
abbrev main_v872 : Ref sig .tc := ⟨.hbm, 1152, rfl⟩
abbrev main_c_218 : Ref sig .tc := ⟨.hbm, 1153, rfl⟩
abbrev main_v873 : Ref sig .tc := ⟨.hbm, 1154, rfl⟩
abbrev main_v874 : Ref sig .tc := ⟨.hbm, 1155, rfl⟩
abbrev main_v875 : Ref sig .tc := ⟨.hbm, 1156, rfl⟩
abbrev main_c_219 : Ref sig .tc := ⟨.hbm, 1157, rfl⟩
abbrev main_v876 : Ref sig .tc := ⟨.hbm, 1158, rfl⟩
abbrev main_v877 : Ref sig .tc := ⟨.hbm, 1159, rfl⟩
abbrev main_c_220 : Ref sig .tc := ⟨.hbm, 1160, rfl⟩
abbrev main_v878 : Ref sig .tc := ⟨.hbm, 1161, rfl⟩
abbrev main_v879 : Ref sig .tc := ⟨.hbm, 1162, rfl⟩
abbrev main_v880 : Ref sig .tc := ⟨.hbm, 1163, rfl⟩
abbrev main_v881 : Ref sig .tc := ⟨.hbm, 1164, rfl⟩
abbrev main_v882 : Ref sig .tc := ⟨.hbm, 1165, rfl⟩
abbrev main_v883 : Ref sig .tc := ⟨.hbm, 1166, rfl⟩
abbrev main_v884 : Ref sig .tc := ⟨.hbm, 1167, rfl⟩
abbrev main_cst_221 : Ref sig .tc := ⟨.hbm, 1168, rfl⟩
abbrev main_v885 : Ref sig .tc := ⟨.hbm, 1169, rfl⟩
abbrev main_v886 : Ref sig .tc := ⟨.hbm, 1170, rfl⟩
abbrev main_cst_222 : Ref sig .tc := ⟨.hbm, 1171, rfl⟩
abbrev main_call24_v0 : Ref sig .tc := ⟨.hbm, 1172, rfl⟩
abbrev main_call24_v1 : Ref sig .tc := ⟨.hbm, 1173, rfl⟩
abbrev main_v887 : Ref sig .tc := ⟨.hbm, 1174, rfl⟩
abbrev main_v888 : Ref sig .tc := ⟨.hbm, 1175, rfl⟩
abbrev main_v889 : Ref sig .tc := ⟨.hbm, 1176, rfl⟩
abbrev main_v890 : Ref sig .tc := ⟨.hbm, 1177, rfl⟩
abbrev main_v891 : Ref sig .tc := ⟨.hbm, 1178, rfl⟩
abbrev main_v892 : Ref sig .tc := ⟨.hbm, 1179, rfl⟩
abbrev main_v893 : Ref sig .tc := ⟨.hbm, 1180, rfl⟩
abbrev main_v894 : Ref sig .tc := ⟨.hbm, 1181, rfl⟩
abbrev main_cst_223 : Ref sig .tc := ⟨.hbm, 1182, rfl⟩
abbrev main_v895 : Ref sig .tc := ⟨.hbm, 1183, rfl⟩
abbrev main_c_224 : Ref sig .tc := ⟨.hbm, 1184, rfl⟩
abbrev main_v896 : Ref sig .tc := ⟨.hbm, 1185, rfl⟩
abbrev main_v897 : Ref sig .tc := ⟨.hbm, 1186, rfl⟩
abbrev main_c_225 : Ref sig .tc := ⟨.hbm, 1187, rfl⟩
abbrev main_v898 : Ref sig .tc := ⟨.hbm, 1188, rfl⟩
abbrev main_v899 : Ref sig .tc := ⟨.hbm, 1189, rfl⟩
abbrev main_v900 : Ref sig .tc := ⟨.hbm, 1190, rfl⟩
abbrev main_c_226 : Ref sig .tc := ⟨.hbm, 1191, rfl⟩
abbrev main_v901 : Ref sig .tc := ⟨.hbm, 1192, rfl⟩
abbrev main_v902 : Ref sig .tc := ⟨.hbm, 1193, rfl⟩
abbrev main_c_227 : Ref sig .tc := ⟨.hbm, 1194, rfl⟩
abbrev main_v903 : Ref sig .tc := ⟨.hbm, 1195, rfl⟩
abbrev main_v904 : Ref sig .tc := ⟨.hbm, 1196, rfl⟩
abbrev main_v905 : Ref sig .tc := ⟨.hbm, 1197, rfl⟩
abbrev main_v906 : Ref sig .tc := ⟨.hbm, 1198, rfl⟩
abbrev main_v907 : Ref sig .tc := ⟨.hbm, 1199, rfl⟩
abbrev main_v908 : Ref sig .tc := ⟨.hbm, 1200, rfl⟩
abbrev main_v909 : Ref sig .tc := ⟨.hbm, 1201, rfl⟩
abbrev main_v910 : Ref sig .tc := ⟨.hbm, 1202, rfl⟩
abbrev main_cst_228 : Ref sig .tc := ⟨.hbm, 1203, rfl⟩
abbrev main_v911 : Ref sig .tc := ⟨.hbm, 1204, rfl⟩
abbrev main_c_229 : Ref sig .tc := ⟨.hbm, 1205, rfl⟩
abbrev main_v912 : Ref sig .tc := ⟨.hbm, 1206, rfl⟩
abbrev main_v913 : Ref sig .tc := ⟨.hbm, 1207, rfl⟩
abbrev main_c_230 : Ref sig .tc := ⟨.hbm, 1208, rfl⟩
abbrev main_v914 : Ref sig .tc := ⟨.hbm, 1209, rfl⟩
abbrev main_v915 : Ref sig .tc := ⟨.hbm, 1210, rfl⟩
abbrev main_v916 : Ref sig .tc := ⟨.hbm, 1211, rfl⟩
abbrev main_c_231 : Ref sig .tc := ⟨.hbm, 1212, rfl⟩
abbrev main_v917 : Ref sig .tc := ⟨.hbm, 1213, rfl⟩
abbrev main_v918 : Ref sig .tc := ⟨.hbm, 1214, rfl⟩
abbrev main_c_232 : Ref sig .tc := ⟨.hbm, 1215, rfl⟩
abbrev main_v919 : Ref sig .tc := ⟨.hbm, 1216, rfl⟩
abbrev main_v920 : Ref sig .tc := ⟨.hbm, 1217, rfl⟩
abbrev main_v921 : Ref sig .tc := ⟨.hbm, 1218, rfl⟩
abbrev main_v922 : Ref sig .tc := ⟨.hbm, 1219, rfl⟩
abbrev main_v923 : Ref sig .tc := ⟨.hbm, 1220, rfl⟩
abbrev main_v924 : Ref sig .tc := ⟨.hbm, 1221, rfl⟩
abbrev main_v925 : Ref sig .tc := ⟨.hbm, 1222, rfl⟩
abbrev main_cst_233 : Ref sig .tc := ⟨.hbm, 1223, rfl⟩
abbrev main_v926 : Ref sig .tc := ⟨.hbm, 1224, rfl⟩
abbrev main_v927 : Ref sig .tc := ⟨.hbm, 1225, rfl⟩
abbrev main_cst_234 : Ref sig .tc := ⟨.hbm, 1226, rfl⟩
abbrev main_call25_v0 : Ref sig .tc := ⟨.hbm, 1227, rfl⟩
abbrev main_call25_v1 : Ref sig .tc := ⟨.hbm, 1228, rfl⟩
abbrev main_v928 : Ref sig .tc := ⟨.hbm, 1229, rfl⟩
abbrev main_v929 : Ref sig .tc := ⟨.hbm, 1230, rfl⟩
abbrev main_v930 : Ref sig .tc := ⟨.hbm, 1231, rfl⟩
abbrev main_v931 : Ref sig .tc := ⟨.hbm, 1232, rfl⟩
abbrev main_v932 : Ref sig .tc := ⟨.hbm, 1233, rfl⟩
abbrev main_v933 : Ref sig .tc := ⟨.hbm, 1234, rfl⟩
abbrev main_v934 : Ref sig .tc := ⟨.hbm, 1235, rfl⟩

abbrev nD : Nat := 1
abbrev τ : Topo := Topo.v7x

variable {F : FTy → Type} [FloatOps F]
-- ==== Proof.ScatterSum.lean ====
/-
  A host scatter-add over the extended reals, read at one element: the operand's element plus the sum over all updates,
  each counted when it lands there.
-/
module

public import Idealize.ShloMosaic.Lib.Pointwise

@[expose] public section

noncomputable section

namespace Cert.Proof

open Idealize.ShloMosaic

theorem scatterAdd_at {s si su : Shape} {w : Nat} (d : ScatterDims s si su) (x : FVec Ideal s .f32) (idx : IVec si w)
    (upd : FVec Ideal su .f32) (i : s.Idx) :
    Host.scatterAdd d x idx upd i = (x i + ∑ j : su.Idx, if d.resultIdx? j idx = some i then upd j else 0 : EReal) := by
  unfold Host.scatterAdd
  rw [Ideal.hostScatterAdd_def]
  unfold Ideal.hostScatterAdd
  rw [Finset.sum_filter]

end Cert.Proof

end
-- ==== Proof.KernelScatter.lean ====
/-
  The kernel's host scatters and gather, read at one element: what a scatter-add of rows (or of ones) puts at a row of
  the table, which row a gather takes, and what the fused weight matrix holds.
-/
module

public import proofs.«01_k».proof.Proof.Gen.KernelIdeal
public import Idealize.ShloMosaic.Lib.Pointwise
public import proofs.«01_k».proof.Proof.ScatterSum
public import Idealize.ShloMosaic.Lib.Routing.OpsPair
public import Idealize.ShloMosaic.Lib.Routing.OpsSet

@[expose] public section

set_option maxRecDepth 16384

noncomputable section

namespace Cert.Proof.Ker

open Idealize.ShloMosaic Cert.KernelIdeal Cert.KernelIdeal.Gen

/-- Row `m` of the updates lands in row `r` of the table exactly when index word `m` is `r`, column by column. -/
theorem lands_rows (idx : IVec S400000x1 32) (m : Fin 400000) (c' : Fin 32) (r : Fin 49152) (c : Fin 32) :
    scatter_S49152x32_S400000x1_S400000x32_1_0_0_1.resultIdx? (ix2 m c') idx = some (ix2 r c)
      ↔ (idx (ix2 m 0)).toInt = (r.val : Int) ∧ c' = c := by
  have h0 : scatter_S49152x32_S400000x1_S400000x32_1_0_0_1.start (ix2 m c') idx 0 = (idx (ix2 m 0)).toInt := by
    unfold ScatterDims.start
    rw [dif_pos (by decide)]
    congr 2
    funext b
    match b with
    | ⟨0, _⟩ => rfl
    | ⟨1, _⟩ => rfl
  have h1 : scatter_S49152x32_S400000x1_S400000x32_1_0_0_1.start (ix2 m c') idx 1 = 0 := by
    unfold ScatterDims.start
    rw [dif_neg (by decide)]
  have w0 : scatter_S49152x32_S400000x1_S400000x32_1_0_0_1.window (ix2 m c') 0 = 0 := by
    unfold ScatterDims.window
    rw [dif_neg (by decide)]
  have w1 : scatter_S49152x32_S400000x1_S400000x32_1_0_0_1.window (ix2 m c') 1 = c'.val := by
    unfold ScatterDims.window
    rw [dif_pos (by decide)]
    rfl
  rw [Routing.resultIdx?_eq_some, Fin.ext_iff]
  constructor
  · intro h
    have a0 := h 0
    have a1 := h 1
    rw [h0, w0] at a0
    rw [h1, w1] at a1
    change _ = (r.val : Int) at a0
    change _ = (c.val : Int) at a1
    omega
  · rintro ⟨e0, e1⟩ a
    match a with
    | ⟨0, _⟩ =>
      change ScatterDims.start _ _ _ 0 + (ScatterDims.window _ _ 0 : Int) = (r.val : Int)
      rw [h0, w0]; omega
    | ⟨1, _⟩ =>
      change ScatterDims.start _ _ _ 1 + (ScatterDims.window _ _ 1 : Int) = (c.val : Int)
      rw [h1, w1]; omega

/-- Update `m` lands at entry `r` of the count exactly when index word `m` is `r`. -/
theorem lands_ones (idx : IVec S400000x1 32) (m : Fin 400000) (r : Fin 49152) :
    scatter_S49152_S400000x1_S400000_n_0_0_1.resultIdx? (ix1 m) idx = some (ix1 r)
      ↔ (idx (ix2 m 0)).toInt = (r.val : Int) := by
  have h0 : scatter_S49152_S400000x1_S400000_n_0_0_1.start (ix1 m) idx 0 = (idx (ix2 m 0)).toInt := by
    unfold ScatterDims.start
    rw [dif_pos (by decide)]
    congr 2
    funext b
    match b with
    | ⟨0, _⟩ => rfl
    | ⟨1, _⟩ => rfl
  have w0 : scatter_S49152_S400000x1_S400000_n_0_0_1.window (ix1 m) 0 = 0 := by
    unfold ScatterDims.window
    rw [dif_neg (by decide)]
  rw [Routing.resultIdx?_eq_some]
  constructor
  · intro h
    have a0 := h 0
    rw [h0, w0] at a0
    change _ = (r.val : Int) at a0
    omega
  · intro e0 a
    match a with
    | ⟨0, _⟩ =>
      change ScatterDims.start _ _ _ 0 + (ScatterDims.window _ _ 0 : Int) = (r.val : Int)
      rw [h0, w0]; omega

/-- The scatter-add of rows at one element: the table's element plus the rows whose index word is this row. -/
theorem scatterRows_apply (x : FVec Ideal S49152x32 .f32) (idx : IVec S400000x1 32) (upd : FVec Ideal S400000x32 .f32)
    (r : Fin 49152) (c : Fin 32) :
    Host.scatterAdd scatter_S49152x32_S400000x1_S400000x32_1_0_0_1 x idx upd (ix2 r c)
      = (x (ix2 r c) + ∑ m : Fin 400000, if (idx (ix2 m 0)).toInt = (r.val : Int) then upd (ix2 m c) else 0 : EReal) := by
  rw [scatterAdd_at, sum_idx2]
  refine congrArg (x (ix2 r c) + · : EReal → EReal) ?_
  refine Finset.sum_congr rfl fun m _ => ?_
  simp only [lands_rows]
  rw [Finset.sum_eq_single c]
  · simp
  · intro b _ hb
    rw [if_neg fun h => hb h.2]
  · intro h; exact absurd (Finset.mem_univ _) h

/-- The scatter-add of a vector at one entry: the entry plus the updates whose index word is this entry. -/
theorem scatterOnes_apply (x : FVec Ideal S49152 .f32) (idx : IVec S400000x1 32) (upd : FVec Ideal S400000 .f32)
    (r : Fin 49152) :
    Host.scatterAdd scatter_S49152_S400000x1_S400000_n_0_0_1 x idx upd (ix1 r)
      = (x (ix1 r) + ∑ m : Fin 400000, if (idx (ix2 m 0)).toInt = (r.val : Int) then upd (ix1 m) else 0 : EReal) := by
  rw [scatterAdd_at, sum_idx1]
  refine congrArg (x (ix1 r) + · : EReal → EReal) ?_
  refine Finset.sum_congr rfl fun m _ => ?_
  simp only [lands_ones]

/-- The gather of rows takes the row that the index word names, when it names one. -/
theorem gatherRows_apply (x : FVec Ideal S49152x32 .f32) (idx : IVec S400000x1 32) (m : Fin 400000) (c : Fin 32)
    (r : Fin 49152) (h : (idx (ix2 m 0)).toInt = (r.val : Int)) :
    Host.gather gather_S49152x32_S400000x1_S400000x32_1_0_n_n_0_1_132 x idx (ix2 m c) = x (ix2 r c) := by
  have h0 : gather_S49152x32_S400000x1_S400000x32_1_0_n_n_0_1_132.start (ix2 m c) idx 0 = r.val := by
    unfold GatherDims.start
    rw [dif_pos (by decide)]
    have hi : gather_S49152x32_S400000x1_S400000x32_1_0_n_n_0_1_132.siIdx (ix2 m c) ⟨0, by decide⟩ = ix2 m 0 := by
      funext b
      match b with
      | ⟨0, _⟩ => rfl
      | ⟨1, _⟩ => rfl
    change min (idx (gather_S49152x32_S400000x1_S400000x32_1_0_n_n_0_1_132.siIdx (ix2 m c) ⟨0, _⟩)).toInt.toNat (49152 - 1) = _
    rw [hi, h]
    have := r.isLt
    omega
  unfold Host.gather
  congr 1
  funext a
  apply Fin.ext
  match a with
  | ⟨0, _⟩ =>
    change GatherDims.start _ _ _ 0 + GatherDims.batchCoord _ _ 0 + GatherDims.offCoord _ _ 0 = r.val
    rw [h0, GatherDims.batchCoord_eq_zero _ _ _ (by decide), GatherDims.offCoord_eq_zero _ _ _ (by decide)]
    omega
  | ⟨1, _⟩ =>
    change GatherDims.start _ _ _ 1 + GatherDims.batchCoord _ _ 1 + GatherDims.offCoord _ _ 1 = c.val
    rw [GatherDims.batchCoord_eq_zero _ _ _ (by decide)]
    unfold GatherDims.start GatherDims.offCoord
    rw [dif_neg (by decide), dif_pos (by decide)]
    change 0 + 0 + c.val = c.val
    omega

/-- Element `(i, j)` of a block written at `(a, b)` of the fused weight matrix lands at `(a + i, b + j)`. -/
theorem lands_block (idx : IVec S2 32) (a b : Nat) (ha : (idx (ix1 0)).toInt = (a : Int)) (hb : (idx (ix1 1)).toInt = (b : Int))
    (i : Fin 64) (j : Fin 32) (r : Fin 128) (c : Fin 64) :
    scatter_S128x64_S2_S64x32_01_n_01_0.resultIdx? (ix2 i j) idx = some (ix2 r c)
      ↔ a + i.val = r.val ∧ b + j.val = c.val := by
  have h0 : scatter_S128x64_S2_S64x32_01_n_01_0.start (ix2 i j) idx 0 = (a : Int) := by
    unfold ScatterDims.start
    rw [dif_pos (by decide), ← ha]
    congr 2
    funext b
    match b with
    | ⟨0, _⟩ => rfl
  have h1 : scatter_S128x64_S2_S64x32_01_n_01_0.start (ix2 i j) idx 1 = (b : Int) := by
    unfold ScatterDims.start
    rw [dif_pos (by decide), ← hb]
    congr 2
    funext b
    match b with
    | ⟨0, _⟩ => rfl
  have w0 : scatter_S128x64_S2_S64x32_01_n_01_0.window (ix2 i j) 0 = i.val := by
    unfold ScatterDims.window
    rw [dif_pos (by decide)]
    rfl
  have w1 : scatter_S128x64_S2_S64x32_01_n_01_0.window (ix2 i j) 1 = j.val := by
    unfold ScatterDims.window
    rw [dif_pos (by decide)]
    rfl
  rw [Routing.resultIdx?_eq_some]
  constructor
  · intro h
    have a0 := h 0
    have a1 := h 1
    rw [h0, w0] at a0
    rw [h1, w1] at a1
    change _ = (r.val : Int) at a0
    change _ = (c.val : Int) at a1
    omega
  · rintro ⟨e0, e1⟩ k
    match k with
    | ⟨0, _⟩ =>
      change ScatterDims.start _ _ _ 0 + (ScatterDims.window _ _ 0 : Int) = (r.val : Int)
      rw [h0, w0]; omega
    | ⟨1, _⟩ =>
      change ScatterDims.start _ _ _ 1 + (ScatterDims.window _ _ 1 : Int) = (c.val : Int)
      rw [h1, w1]; omega

/-- A block written into the matrix, read inside the block. -/
theorem setBlock_hit (x : FVec Ideal S128x64 .f32) (idx : IVec S2 32) (upd : FVec Ideal S64x32 .f32) (a b : Nat)
    (ha : (idx (ix1 0)).toInt = (a : Int)) (hb : (idx (ix1 1)).toInt = (b : Int))
    (i : Fin 64) (j : Fin 32) (r : Fin 128) (c : Fin 64) (hr : a + i.val = r.val) (hc : b + j.val = c.val) :
    Host.scatter scatter_S128x64_S2_S64x32_01_n_01_0 (fun _ b => b) x idx upd (ix2 r c) = upd (ix2 i j) := by
  refine Routing.scatter_set_hit _ x idx upd _ _ (fun k hk => ?_) (ix2 i j) ((lands_block idx a b ha hb i j r c).2 ⟨hr, hc⟩)
  idx_vars k
  have := (lands_block idx a b ha hb k0 k1 r c).1 hk
  congr 1
  rw [ix2_inj]
  exact ⟨Fin.ext (by omega), Fin.ext (by omega)⟩

/-- A block written into the matrix, read outside the block. -/
theorem setBlock_miss (x : FVec Ideal S128x64 .f32) (idx : IVec S2 32) (upd : FVec Ideal S64x32 .f32) (a b : Nat)
    (ha : (idx (ix1 0)).toInt = (a : Int)) (hb : (idx (ix1 1)).toInt = (b : Int))
    (r : Fin 128) (c : Fin 64) (h : ∀ (i : Fin 64) (j : Fin 32), ¬(a + i.val = r.val ∧ b + j.val = c.val)) :
    Host.scatter scatter_S128x64_S2_S64x32_01_n_01_0 (fun _ b => b) x idx upd (ix2 r c) = x (ix2 r c) := by
  refine Routing.scatter_set_miss _ x idx upd _ fun k hk => ?_
  idx_vars k
  exact h k0 k1 ((lands_block idx a b ha hb k0 k1 r c).1 hk)

end Cert.Proof.Ker

end
-- ==== Proof.Spec.lean ====
/-
  The mathematics of both programs, written once over the extended reals and index words: the cell of a point on a
  plane, the mean of a plane's cell, the sum of the three means at a point, and one residual block on one row.
-/
module

public import Idealize.ShloMosaic.Lib.Pointwise

@[expose] public section

noncomputable section

namespace Cert.Proof

open Idealize.ShloMosaic

/-- The mean over the points of a batch whose cell word is `k` (an empty cell divides by one). -/
def meanAt (cell : Fin 100000 → BitVec 32) (f : Fin 100000 → Fin 32 → EReal) (k : Int) (c : Fin 32) : EReal :=
  Ideal.div (∑ n, if (cell n).toInt = k then f n c else 0) (max 1 (∑ n, if (cell n).toInt = k then 1 else 0))

/-- The sum, over the three planes, of the mean of a point's own cell. -/
def poolAt (cell : Fin 3 → Fin 100000 → BitVec 32) (f : Fin 100000 → Fin 32 → EReal) (n : Fin 100000) (c : Fin 32) : EReal :=
  meanAt (cell 0) f (cell 0 n).toInt c + meanAt (cell 1) f (cell 1 n).toInt c + meanAt (cell 2) f (cell 2 n).toInt c

/-- A residual block on one row, the row given as its two halves. -/
def blockRow (u v : Fin 32 → EReal) (W0 : Fin 64 → Fin 32 → EReal) (b0 : Fin 32 → EReal) (W1 : Fin 32 → Fin 32 → EReal)
    (b1 : Fin 32 → EReal) (Ws : Fin 64 → Fin 32 → EReal) (c : Fin 32) : EReal :=
  (∑ k : Fin 32, u k * Ws ⟨k, by omega⟩ c + ∑ k : Fin 32, v k * Ws ⟨32 + k, by omega⟩ c)
    + ((∑ j : Fin 32, max ((∑ k : Fin 32, max (u k) 0 * W0 ⟨k, by omega⟩ j + ∑ k : Fin 32, max (v k) 0 * W0 ⟨32 + k, by omega⟩ j)
        + b0 j) 0 * W1 j c) + b1 c)

/-- A grid coordinate's word: a coordinate scaled into the unit box, shifted, scaled to the grid, clipped and truncated. -/
def coordWord (x : EReal) : BitVec 32 :=
  Ideal.fptosi 32 (min 63 (max 0 ((x * ((2097152 / 2307077 : ℝ) : EReal) + 1) * Ideal.ofBits .f32 0x42000000#32)))

/-- The cell of a point on each of the three planes. -/
def cellWord (q : Fin 3 → EReal) : Fin 3 → BitVec 32
  | 0 => coordWord (q 0) + 64#32 * coordWord (q 1)
  | 1 => coordWord (q 0) + 64#32 * coordWord (q 2)
  | 2 => coordWord (q 1) + 64#32 * coordWord (q 2)

/-- The phase of a point's `c`-th random feature. -/
def phase (q : Fin 3 → EReal) (B : Fin 3 → Fin 32 → EReal) (c : Fin 32) : EReal :=
  Ideal.ofBits .f32 0x40C90FDB#32 * (q 0 * B 0 c + q 1 * B 1 c + q 2 * B 2 c)

/-- The closing linear layer on one row. -/
def closeRow (u : Fin 32 → EReal) (W : Fin 32 → Fin 32 → EReal) (b : Fin 32 → EReal) (c : Fin 32) : EReal :=
  (∑ k, u k * W k c) + b c

theorem coordWord_range (x : EReal) : 0 ≤ (coordWord x).toInt ∧ (coordWord x).toInt ≤ 63 := by
  unfold coordWord
  generalize (x * ((2097152 / 2307077 : ℝ) : EReal) + 1) * Ideal.ofBits .f32 0x42000000#32 = y
  have h0 : (0 : EReal) ≤ min 63 (max 0 y) := le_min (by norm_num) (le_max_left _ _)
  have h1 : min 63 (max 0 y) ≤ (63 : EReal) := min_le_left _ _
  generalize min 63 (max 0 y) = z at h0 h1
  induction z using EReal.rec with
  | bot => simp at h0
  | top => exact absurd h1 (by decide +revert)
  | coe r =>
    have r0 : 0 ≤ r := by exact_mod_cast h0
    have r1 : r ≤ 63 := EReal.coe_le_coe_iff.1 (h1.trans_eq (by rfl : (63 : EReal) = ((63 : ℝ) : EReal)))
    unfold Ideal.fptosi
    rw [Ideal.toIntClamped_coe, if_pos r0]
    have f0 : 0 ≤ ⌊r⌋ := Int.floor_nonneg.2 r0
    have f1 : ⌊r⌋ ≤ 63 := by
      have := Int.floor_le r
      exact_mod_cast (le_trans this r1)
    rw [BitVec.toInt_ofInt_eq_self (by decide) (by norm_num) (by norm_num)]
    norm_num
    omega

/-- A cell's word is between 0 and 4095. -/
theorem cellWord_range (q : Fin 3 → EReal) (p : Fin 3) : 0 ≤ (cellWord q p).toInt ∧ (cellWord q p).toInt < 4096 := by
  have key : ∀ a b : BitVec 32, (0 ≤ a.toInt ∧ a.toInt ≤ 63) → (0 ≤ b.toInt ∧ b.toInt ≤ 63) →
      0 ≤ (a + 64#32 * b).toInt ∧ (a + 64#32 * b).toInt < 4096 := by
    intro a b ha hb
    have e : (a + 64#32 * b).toInt = a.toInt + 64 * b.toInt := by
      rw [BitVec.toInt_add, BitVec.toInt_mul]
      have : (64#32).toInt = 64 := by decide
      rw [this]
      rw [Int.bmod_eq_of_le (n := 64 * b.toInt) (by omega) (by omega), Int.bmod_eq_of_le (by omega) (by omega)]
    omega
  fin_cases p <;> exact key _ _ (coordWord_range _) (coordWord_range _)

end Cert.Proof

end
-- ==== Proof.KerTerms.lean ====
/-
  The host terms between the kernel's blocks, named: the row-index columns, the fused means of the three planes, the
  pooled feature, the fused weight matrix; and what each holds at an index.
-/
module

public import proofs.«01_k».proof.Proof.KernelScatter
public import proofs.«01_k».proof.Proof.Spec
public import Idealize.ShloMosaic.Lib.Tactic.WordOmega

@[expose] public section

set_option maxRecDepth 16384

noncomputable section

namespace Cert.Proof

open Idealize.ShloMosaic

/-- The flat row of batch `b`'s point `n`. -/
def flat (b : Fin 4) (n : Fin 100000) : Fin 400000 := ⟨n.val + 100000 * b.val, by omega⟩

/-- The fused mean row of plane `p`, batch `b`, cell `k`. -/
def meanRow (p : Fin 3) (b : Fin 4) (k : Fin 4096) : Fin 49152 := ⟨(p.val * 4 + b.val) * 4096 + k.val, by omega⟩

/-- A sum over all rows is a sum over batches and points. -/
theorem sum_flat {M : Type} [AddCommMonoid M] (g : Fin 400000 → M) : ∑ m, g m = ∑ b, ∑ n, g (flat b n) := by
  rw [← Fintype.sum_prod_type' (fun b n => g (flat b n))]
  exact (Fintype.sum_equiv (finProdFinEquiv (m := 4) (n := 100000)) _ _ fun x => rfl).symm

/-- Summing the rows whose word is a fused mean row: only that plane's words reach it, and only its batch's. -/
theorem sum_meanRow (w : Fin 400000 → Int) (cell : Fin 4 → Fin 100000 → Int) (q : Fin 3)
    (hw : ∀ b n, w (flat b n) = cell b n + (q.val * 4 + b.val) * 4096) (hc : ∀ b n, 0 ≤ cell b n ∧ cell b n < 4096)
    (g : Fin 400000 → EReal) (p : Fin 3) (b : Fin 4) (k : Fin 4096) :
    (∑ m, if w m = ((meanRow p b k).val : Int) then g m else 0)
      = if q = p then ∑ n, if cell b n = (k.val : Int) then g (flat b n) else 0 else 0 := by
  have e : ∀ b' n, (w (flat b' n) = ((meanRow p b k).val : Int)) ↔ (q = p ∧ b' = b ∧ cell b n = (k.val : Int)) := by
    intro b' n
    have h1 := hc b' n
    have h2 : ((meanRow p b k).val : Int) = (p.val * 4 + b.val) * 4096 + k.val := by simp [meanRow]
    rw [hw, h2]
    constructor
    · intro h
      have : q.val = p.val ∧ b'.val = b.val := by omega
      have hq := Fin.ext this.1
      have hb := Fin.ext this.2
      subst hq hb
      exact ⟨rfl, rfl, by omega⟩
    · rintro ⟨rfl, rfl, h⟩
      omega
  rw [sum_flat]
  simp only [e]
  by_cases hq : q = p
  · simp only [hq, true_and, if_true]
    rw [Finset.sum_eq_single b]
    · simp
    · intro b' _ hb
      simp [hb]
    · simp
  · simp [hq]

end Cert.Proof

namespace Cert.Proof.Ker

open Idealize.ShloMosaic Cert.KernelIdeal Cert.KernelIdeal.Gen

/-- A column of row words (each wrapped when negative), as the scatters and gathers take it. -/
def rowIdx (col : IVec S400000x1 32) : IVec S400000x1 32 :=
  broadcastInDim S400000x1 ![0] bcast_S400000_S400000x1_0 (select (cmpi .slt (shapeCast S400000 col shapeCasts_S400000x1_S400000) (broadcastInDim S400000 ![] bcast_S_S400000 (constantI S_ 32 0#32))) (addi (shapeCast S400000 col shapeCasts_S400000x1_S400000) (broadcastInDim S400000 ![] bcast_S_S400000 (constantI S_ 32 49152#32))) (shapeCast S400000 col shapeCasts_S400000x1_S400000))

/-- Each plane's column of row words. -/
def rows0 (w : IVec S400000x3 32) : IVec S400000x1 32 := rowIdx (extractStridedSlice S400000x1 ![0, 0] w slices_S400000x3_S400000x1_0_0)
def rows1 (w : IVec S400000x3 32) : IVec S400000x1 32 := rowIdx (extractStridedSlice S400000x1 ![0, 1] w slices_S400000x3_S400000x1_0_1)
def rows2 (w : IVec S400000x3 32) : IVec S400000x1 32 := rowIdx (extractStridedSlice S400000x1 ![0, 2] w slices_S400000x3_S400000x1_0_2)

/-- The fused sums, one row per plane, batch and cell. -/
def sums (w : IVec S400000x3 32) (f : FVec Ideal S400000x32 .f32) : FVec Ideal S49152x32 .f32 :=
  Host.scatterAdd scatter_S49152x32_S400000x1_S400000x32_1_0_0_1 (Host.scatterAdd scatter_S49152x32_S400000x1_S400000x32_1_0_0_1 (Host.scatterAdd scatter_S49152x32_S400000x1_S400000x32_1_0_0_1 (broadcastInDim S49152x32 ![] bcast_S_S49152x32 (constant S_ .f32 0x00000000#32)) (rows0 w) f) (rows1 w) f) (rows2 w) f

/-- One at every point. -/
def ones : FVec Ideal S400000 .f32 := broadcastInDim S400000 ![] bcast_S_S400000 (constant S_ .f32 0x3F800000#32)

/-- The fused counts. -/
def counts (w : IVec S400000x3 32) : FVec Ideal S49152 .f32 :=
  Host.scatterAdd scatter_S49152_S400000x1_S400000_n_0_0_1 (Host.scatterAdd scatter_S49152_S400000x1_S400000_n_0_0_1 (Host.scatterAdd scatter_S49152_S400000x1_S400000_n_0_0_1 (broadcastInDim S49152 ![] bcast_S_S49152 (constant S_ .f32 0x00000000#32)) (rows0 w) ones) (rows1 w) ones) (rows2 w) ones

/-- The fused means from the sums and the counts. -/
def quot (s : FVec Ideal S49152x32 .f32) (n : FVec Ideal S49152 .f32) : FVec Ideal S49152x32 .f32 :=
  Host.divf s (broadcastInDim S49152x32 ![0, 1] bcast_S49152x1_S49152x32_0_1 (broadcastInDim S49152x1 ![0] bcast_S49152_S49152x1_0 n))

/-- Counts, at least one. -/
def clip (one : FVec Ideal S_ .f32) (n : FVec Ideal S49152 .f32) : FVec Ideal S49152 .f32 :=
  maximumf (broadcastInDim S49152 ![] bcast_S_S49152 (id one)) n

/-- The fused means. -/
def means (w : IVec S400000x3 32) (f : FVec Ideal S400000x32 .f32) : FVec Ideal S49152x32 .f32 :=
  quot (sums w f) (clip (constant S_ .f32 0x3F800000#32) (counts w))

/-- The three planes' means taken back to the points and summed. -/
def take (w : IVec S400000x3 32) (g : FVec Ideal S49152x32 .f32) : FVec Ideal S400000x32 .f32 :=
  addf (addf (Host.gather gather_S49152x32_S400000x1_S400000x32_1_0_n_n_0_1_132 g (rows0 w)) (Host.gather gather_S49152x32_S400000x1_S400000x32_1_0_n_n_0_1_132 g (rows1 w))) (Host.gather gather_S49152x32_S400000x1_S400000x32_1_0_n_n_0_1_132 g (rows2 w))

/-- A weight matrix placed in the fused one at the place two words give. -/
def place (a b : BitVec 32) (x : FVec Ideal S128x64 .f32) (W : FVec Ideal S64x32 .f32) : FVec Ideal S128x64 .f32 :=
  Host.scatter scatter_S128x64_S2_S64x32_01_n_01_0 (fun _ b => b) x (concatenate S2 0 [⟨S1, broadcastInDim S1 ![] bcast_S_S1 (constantI S_ 32 a)⟩, ⟨S1, broadcastInDim S1 ![] bcast_S_S1 (constantI S_ 32 b)⟩] concatenates_S1_S1_S2_d0) W

/-- The fused weight matrix. -/
def fuse (W0 Ws : FVec Ideal S64x32 .f32) : FVec Ideal S128x64 .f32 :=
  place 64#32 32#32 (place 0#32 0#32 (broadcastInDim S128x64 ![] bcast_S_S128x64 (constant S_ .f32 0x00000000#32)) W0) Ws

/-! ### At an index -/

theorem rowIdx_apply (col : IVec S400000x1 32) (m : Fin 400000) (h : 0 ≤ (col (ix2 m 0)).toInt) : rowIdx col (ix2 m 0) = col (ix2 m 0) := by
  unfold rowIdx
  pointwise
  word_omega

/-- The words name their plane's, batch's and cell's fused row. -/
def Names (w : IVec S400000x3 32) (cell : Fin 3 → Fin 4 → Fin 100000 → BitVec 32) : Prop :=
  (∀ p b n, 0 ≤ (cell p b n).toInt ∧ (cell p b n).toInt < 4096)
    ∧ ∀ p b n, (w (ix2 (flat b n) p)).toInt = (cell p b n).toInt + (p.val * 4 + b.val) * 4096

variable {w : IVec S400000x3 32} {cell : Fin 3 → Fin 4 → Fin 100000 → BitVec 32}

theorem rows0_toInt (h : Names w cell) (b : Fin 4) (n : Fin 100000) :
    (rows0 w (ix2 (flat b n) 0)).toInt = (cell 0 b n).toInt + ((0 : Fin 3).val * 4 + b.val) * 4096 := by
  have h1 := h.1 0 b n
  have e : extractStridedSlice S400000x1 ![0, 0] w slices_S400000x3_S400000x1_0_0 (ix2 (flat b n) 0) = w (ix2 (flat b n) 0) := by pointwise
  unfold rows0
  rw [rowIdx_apply _ _ (by rw [e, h.2]; omega), e, h.2]

theorem rows1_toInt (h : Names w cell) (b : Fin 4) (n : Fin 100000) :
    (rows1 w (ix2 (flat b n) 0)).toInt = (cell 1 b n).toInt + ((1 : Fin 3).val * 4 + b.val) * 4096 := by
  have h1 := h.1 1 b n
  have e : extractStridedSlice S400000x1 ![0, 1] w slices_S400000x3_S400000x1_0_1 (ix2 (flat b n) 0) = w (ix2 (flat b n) 1) := by pointwise
  unfold rows1
  rw [rowIdx_apply _ _ (by rw [e, h.2]; omega), e, h.2]

theorem rows2_toInt (h : Names w cell) (b : Fin 4) (n : Fin 100000) :
    (rows2 w (ix2 (flat b n) 0)).toInt = (cell 2 b n).toInt + ((2 : Fin 3).val * 4 + b.val) * 4096 := by
  have h1 := h.1 2 b n
  have e : extractStridedSlice S400000x1 ![0, 2] w slices_S400000x3_S400000x1_0_2 (ix2 (flat b n) 0) = w (ix2 (flat b n) 2) := by pointwise
  unfold rows2
  rw [rowIdx_apply _ _ (by rw [e, h.2]; omega), e, h.2]

/-- Adding up the three planes' contributions to a fused row leaves the row's own plane's. -/
theorem three_planes (h : Names w cell) (g : Fin 400000 → EReal) (p : Fin 3) (b : Fin 4) (k : Fin 4096) :
    ((0 + ∑ m, if (rows0 w (ix2 m 0)).toInt = ((meanRow p b k).val : Int) then g m else 0)
        + (∑ m, if (rows1 w (ix2 m 0)).toInt = ((meanRow p b k).val : Int) then g m else 0))
        + (∑ m, if (rows2 w (ix2 m 0)).toInt = ((meanRow p b k).val : Int) then g m else 0)
      = ∑ n, if (cell p b n).toInt = (k.val : Int) then g (flat b n) else 0 := by
  rw [sum_meanRow _ (fun b n => (cell 0 b n).toInt) 0 (rows0_toInt h) (h.1 0),
    sum_meanRow _ (fun b n => (cell 1 b n).toInt) 1 (rows1_toInt h) (h.1 1),
    sum_meanRow _ (fun b n => (cell 2 b n).toInt) 2 (rows2_toInt h) (h.1 2)]
  fin_cases p <;> simp

theorem sums_apply (h : Names w cell) (f : FVec Ideal S400000x32 .f32) (p : Fin 3) (b : Fin 4) (k : Fin 4096) (c : Fin 32) :
    sums w f (ix2 (meanRow p b k) c) = ∑ n, if (cell p b n).toInt = (k.val : Int) then f (ix2 (flat b n) c) else 0 := by
  rw [← three_planes h (fun m => f (ix2 m c)) p b k]
  unfold sums
  rw [scatterRows_apply, scatterRows_apply, scatterRows_apply]
  pointwise

theorem counts_apply (h : Names w cell) (p : Fin 3) (b : Fin 4) (k : Fin 4096) :
    counts w (ix1 (meanRow p b k)) = ∑ n, if (cell p b n).toInt = (k.val : Int) then 1 else 0 := by
  have e : ∀ m, ones (ix1 m) = 1 := fun m => by
    unfold ones
    pointwise
  rw [← three_planes h (fun _ => 1) p b k]
  unfold counts
  rw [scatterOnes_apply, scatterOnes_apply, scatterOnes_apply]
  simp only [e]
  pointwise

/-- A fused row's mean is its plane's, batch's and cell's. -/
theorem means_apply (h : Names w cell) (f : FVec Ideal S400000x32 .f32) (p : Fin 3) (b : Fin 4) (k : Fin 4096) (c : Fin 32) :
    means w f (ix2 (meanRow p b k) c) = meanAt (cell p b) (fun n c => f (ix2 (flat b n) c)) (k.val : Int) c := by
  unfold means meanAt quot clip
  rw [← sums_apply h, ← counts_apply h]
  simp only [id_eq]
  pointwise

theorem takeOne (h : Names w cell) (f : FVec Ideal S400000x32 .f32) (p : Fin 3) (r : IVec S400000x1 32)
    (hr : ∀ b n, (r (ix2 (flat b n) 0)).toInt = (cell p b n).toInt + (p.val * 4 + b.val) * 4096) (b : Fin 4) (n : Fin 100000) (c : Fin 32) :
    Host.gather gather_S49152x32_S400000x1_S400000x32_1_0_n_n_0_1_132 (means w f) r (ix2 (flat b n) c)
      = meanAt (cell p b) (fun n c => f (ix2 (flat b n) c)) (cell p b n).toInt c := by
  have hk := h.1 p b n
  have e : ((⟨(cell p b n).toInt.toNat, by omega⟩ : Fin 4096).val : Int) = (cell p b n).toInt := by
    change (((cell p b n).toInt.toNat : Nat) : Int) = _
    omega
  rw [gatherRows_apply _ _ _ _ (meanRow p b ⟨(cell p b n).toInt.toNat, by omega⟩) (by
    rw [hr]
    simp only [meanRow]
    omega), means_apply h, e]

/-- The pooled feature at a point. -/
theorem take_apply (h : Names w cell) (f : FVec Ideal S400000x32 .f32) (b : Fin 4) (n : Fin 100000) (c : Fin 32) :
    take w (means w f) (ix2 (flat b n) c) = poolAt (fun p => cell p b) (fun n c => f (ix2 (flat b n) c)) n c := by
  unfold take poolAt
  rw [← takeOne h f 0 _ (rows0_toInt h), ← takeOne h f 1 _ (rows1_toInt h), ← takeOne h f 2 _ (rows2_toInt h)]
  pointwise

theorem place_words (a b : BitVec 32) :
    (concatenate S2 0 [⟨S1, broadcastInDim S1 ![] bcast_S_S1 (constantI S_ 32 a)⟩, ⟨S1, broadcastInDim S1 ![] bcast_S_S1 (constantI S_ 32 b)⟩] concatenates_S1_S1_S2_d0 : IVec S2 32) (ix1 0) = a
    ∧ (concatenate S2 0 [⟨S1, broadcastInDim S1 ![] bcast_S_S1 (constantI S_ 32 a)⟩, ⟨S1, broadcastInDim S1 ![] bcast_S_S1 (constantI S_ 32 b)⟩] concatenates_S1_S1_S2_d0 : IVec S2 32) (ix1 1) = b := by
  constructor <;> pointwise

/-- The fused matrix: `W0` in the upper left block, -/
theorem fuse_hidden (W0 Ws : FVec Ideal S64x32 .f32) (k : Fin 64) (j : Fin 32) :
    fuse W0 Ws (ix2 ⟨k.val, by omega⟩ ⟨j.val, by omega⟩) = W0 (ix2 k j) := by
  unfold fuse place
  rw [setBlock_miss _ _ _ 64 32 (by rw [(place_words _ _).1]; decide) (by rw [(place_words _ _).2]; decide) _ _
      (fun i j h => by simp at h; omega),
    setBlock_hit _ _ _ 0 0 (by rw [(place_words _ _).1]; decide) (by rw [(place_words _ _).2]; decide) k j _ _
      (by simp) (by simp)]

/-- `Ws` in the lower right, -/
theorem fuse_skip (W0 Ws : FVec Ideal S64x32 .f32) (k : Fin 64) (j : Fin 32) :
    fuse W0 Ws (ix2 ⟨64 + k.val, by omega⟩ ⟨32 + j.val, by omega⟩) = Ws (ix2 k j) := by
  unfold fuse place
  rw [setBlock_hit _ _ _ 64 32 (by rw [(place_words _ _).1]; decide) (by rw [(place_words _ _).2]; decide) k j _ _
      (by simp) (by simp)]

/-- zero in the lower left, -/
theorem fuse_lower (W0 Ws : FVec Ideal S64x32 .f32) (k : Fin 64) (j : Fin 32) :
    fuse W0 Ws (ix2 ⟨64 + k.val, by omega⟩ ⟨j.val, by omega⟩) = (0 : EReal) := by
  unfold fuse place
  rw [setBlock_miss _ _ _ 64 32 (by rw [(place_words _ _).1]; decide) (by rw [(place_words _ _).2]; decide) _ _
      (fun i j h => by simp at h; omega),
    setBlock_miss _ _ _ 0 0 (by rw [(place_words _ _).1]; decide) (by rw [(place_words _ _).2]; decide) _ _
      (fun i j h => by simp at h; omega)]
  pointwise

/-- and in the upper right. -/
theorem fuse_upper (W0 Ws : FVec Ideal S64x32 .f32) (k : Fin 64) (j : Fin 32) :
    fuse W0 Ws (ix2 ⟨k.val, by omega⟩ ⟨32 + j.val, by omega⟩) = (0 : EReal) := by
  unfold fuse place
  rw [setBlock_miss _ _ _ 64 32 (by rw [(place_words _ _).1]; decide) (by rw [(place_words _ _).2]; decide) _ _
      (fun i j h => by simp at h; omega),
    setBlock_miss _ _ _ 0 0 (by rw [(place_words _ _).1]; decide) (by rw [(place_words _ _).2]; decide) _ _
      (fun i j h => by simp at h; omega)]
  pointwise

end Cert.Proof.Ker

end
-- ==== Proof.Payloads.lean ====
/-
  What the kernel's bodies compute for one row: the fused product of a row with the fused weight matrix, and that it is
  the residual block; the closing layer; the three cell words.
-/
module

public import proofs.«01_k».proof.Proof.KerTerms
public import proofs.«01_k».proof.Proof.Gen.KernelIdeal.Skeleton

@[expose] public section

set_option maxRecDepth 16384

noncomputable section

namespace Cert.Proof.Ker

open Idealize.ShloMosaic Cert.KernelIdeal Cert.KernelIdeal.Gen

/-- Lane `x` of a row's rectified halves beside the halves themselves. -/
def lane (u v : Fin 32 → EReal) (x : Fin 128) : EReal :=
  if h : x.val < 64 then max (if h' : x.val < 32 then u ⟨x.val, h'⟩ else v ⟨x.val - 32, by omega⟩) 0
  else if h' : x.val - 64 < 32 then u ⟨x.val - 64, h'⟩ else v ⟨x.val - 64 - 32, by omega⟩

/-- The fused block on one row: column `32 + c` of the fused product plus the small layer over columns `c`. -/
def fusedRow (u v : Fin 32 → EReal) (Wz : Fin 128 → Fin 64 → EReal) (b0 : Fin 32 → EReal) (W1 : Fin 32 → Fin 32 → EReal)
    (b1 : Fin 32 → EReal) (c : Fin 32) : EReal :=
  ∑ x, lane u v x * Wz x ⟨32 + c.val, by omega⟩
    + (∑ j : Fin 32, max (∑ x, lane u v x * Wz x ⟨j.val, by omega⟩ + b0 j) 0 * W1 j c + b1 c)

/-- A sum over 128 lanes by quarters. -/
theorem sum128 (F : Fin 128 → EReal) :
    ∑ x, F x = (∑ k : Fin 32, F ⟨k.val, by omega⟩ + ∑ k : Fin 32, F ⟨32 + k.val, by omega⟩)
      + (∑ k : Fin 32, F ⟨64 + k.val, by omega⟩ + ∑ k : Fin 32, F ⟨64 + (32 + k.val), by omega⟩) := by
  rw [show (∑ x, F x) = ∑ x : Fin (64 + 64), F x from rfl, Fin.sum_univ_add]
  congr 1
  · rw [show (∑ k : Fin 64, F (Fin.castAdd 64 k)) = ∑ k : Fin (32 + 32), F (Fin.castAdd 64 k) from rfl, Fin.sum_univ_add]
    rfl
  · rw [show (∑ k : Fin 64, F (Fin.natAdd 64 k)) = ∑ k : Fin (32 + 32), F (Fin.natAdd 64 k) from rfl, Fin.sum_univ_add]
    rfl

theorem lane_q0 (u v : Fin 32 → EReal) (k : Fin 32) : lane u v ⟨k.val, by omega⟩ = max (u k) 0 := by
  unfold lane
  rw [dif_pos (by simp; omega), dif_pos (by simp)]

theorem lane_q1 (u v : Fin 32 → EReal) (k : Fin 32) : lane u v ⟨32 + k.val, by omega⟩ = max (v k) 0 := by
  unfold lane
  rw [dif_pos (by simp; omega), dif_neg (by simp)]
  simp

theorem lane_q2 (u v : Fin 32 → EReal) (k : Fin 32) : lane u v ⟨64 + k.val, by omega⟩ = u k := by
  unfold lane
  rw [dif_neg (by simp), dif_pos (by simp)]
  simp

theorem lane_q3 (u v : Fin 32 → EReal) (k : Fin 32) : lane u v ⟨64 + (32 + k.val), by omega⟩ = v k := by
  unfold lane
  rw [dif_neg (by simp), dif_neg (by simp)]
  simp

/-- With the fused matrix, the fused row is the residual block: the zero blocks drop out of every sum. -/
theorem fusedRow_fuse (u v : Fin 32 → EReal) (W0 Ws : FVec Ideal S64x32 .f32) (b0 : Fin 32 → EReal) (W1 : Fin 32 → Fin 32 → EReal)
    (b1 : Fin 32 → EReal) (c : Fin 32) :
    fusedRow u v (fun k j => fuse W0 Ws (ix2 k j)) b0 W1 b1 c
      = blockRow u v (fun k j => W0 (ix2 k j)) b0 W1 b1 (fun k j => Ws (ix2 k j)) c := by
  have s : ∀ j : Fin 32, (∑ x, lane u v x * fuse W0 Ws (ix2 x ⟨32 + j.val, by omega⟩))
      = ∑ k : Fin 32, u k * Ws (ix2 ⟨k.val, by omega⟩ j) + ∑ k : Fin 32, v k * Ws (ix2 ⟨32 + k.val, by omega⟩ j) := by
    intro j
    rw [sum128]
    simp only [lane_q0, lane_q1, lane_q2, lane_q3]
    have z0 : ∀ k : Fin 32, fuse W0 Ws (ix2 ⟨k.val, by omega⟩ ⟨32 + j.val, by omega⟩) = (0 : EReal) := fun k =>
      fuse_upper W0 Ws ⟨k.val, by omega⟩ j
    have z1 : ∀ k : Fin 32, fuse W0 Ws (ix2 ⟨32 + k.val, by omega⟩ ⟨32 + j.val, by omega⟩) = (0 : EReal) := fun k =>
      fuse_upper W0 Ws ⟨32 + k.val, by omega⟩ j
    have h0 : ∀ k : Fin 32, fuse W0 Ws (ix2 ⟨64 + k.val, by omega⟩ ⟨32 + j.val, by omega⟩) = Ws (ix2 ⟨k.val, by omega⟩ j) := fun k =>
      fuse_skip W0 Ws ⟨k.val, by omega⟩ j
    have h1 : ∀ k : Fin 32, fuse W0 Ws (ix2 ⟨64 + (32 + k.val), by omega⟩ ⟨32 + j.val, by omega⟩) = Ws (ix2 ⟨32 + k.val, by omega⟩ j) := fun k =>
      fuse_skip W0 Ws ⟨32 + k.val, by omega⟩ j
    simp only [z0, z1, h0, h1, mul_zero, Finset.sum_const_zero, zero_add, add_zero]
  have n : ∀ j : Fin 32, (∑ x, lane u v x * fuse W0 Ws (ix2 x ⟨j.val, by omega⟩))
      = ∑ k : Fin 32, max (u k) 0 * W0 (ix2 ⟨k.val, by omega⟩ j) + ∑ k : Fin 32, max (v k) 0 * W0 (ix2 ⟨32 + k.val, by omega⟩ j) := by
    intro j
    rw [sum128]
    simp only [lane_q0, lane_q1, lane_q2, lane_q3]
    have z0 : ∀ k : Fin 32, fuse W0 Ws (ix2 ⟨64 + k.val, by omega⟩ ⟨j.val, by omega⟩) = (0 : EReal) := fun k =>
      fuse_lower W0 Ws ⟨k.val, by omega⟩ j
    have z1 : ∀ k : Fin 32, fuse W0 Ws (ix2 ⟨64 + (32 + k.val), by omega⟩ ⟨j.val, by omega⟩) = (0 : EReal) := fun k =>
      fuse_lower W0 Ws ⟨32 + k.val, by omega⟩ j
    have h0 : ∀ k : Fin 32, fuse W0 Ws (ix2 ⟨k.val, by omega⟩ ⟨j.val, by omega⟩) = W0 (ix2 ⟨k.val, by omega⟩ j) := fun k =>
      fuse_hidden W0 Ws ⟨k.val, by omega⟩ j
    have h1 : ∀ k : Fin 32, fuse W0 Ws (ix2 ⟨32 + k.val, by omega⟩ ⟨j.val, by omega⟩) = W0 (ix2 ⟨32 + k.val, by omega⟩ j) := fun k =>
      fuse_hidden W0 Ws ⟨32 + k.val, by omega⟩ j
    simp only [z0, z1, h0, h1, mul_zero, Finset.sum_const_zero, add_zero]
  unfold fusedRow blockRow
  simp only [s, n]

/-! ### The bodies at a row -/

theorem round_pay (f g : Vec Ideal S2000x32 .f32) (Wz : Vec Ideal S128x64 .f32) (b0 b1 : Vec Ideal S32 .f32) (W1 : Vec Ideal S32x32 .f32)
    (r : Fin 2000) (c : Fin 32) :
    k1_pay1 f g Wz b0 W1 b1 (ix2 r c) = fusedRow (fun k => f (ix2 r k)) (fun k => g (ix2 r k)) (fun x j => Wz (ix2 x j))
      (fun j => b0 (ix1 j)) (fun j c => W1 (ix2 j c)) (fun c => b1 (ix1 c)) c := by
  unfold k1_pay1 fusedRow lane
  pointwise

theorem final_pay (f g : Vec Ideal S2000x32 .f32) (Wz : Vec Ideal S128x64 .f32) (b0 b1 : Vec Ideal S32 .f32) (W1 : Vec Ideal S32x32 .f32)
    (Wp : Vec Ideal S32x32 .f32) (bp : Vec Ideal S32 .f32) (r : Fin 2000) (c : Fin 32) :
    k4_pay1 f g Wz b0 W1 b1 Wp bp (ix2 r c) = closeRow (fusedRow (fun k => f (ix2 r k)) (fun k => g (ix2 r k)) (fun x j => Wz (ix2 x j))
      (fun j => b0 (ix1 j)) (fun j c => W1 (ix2 j c)) (fun c => b1 (ix1 c))) (fun k c => Wp (ix2 k c)) (fun c => bp (ix1 c)) c := by
  unfold k4_pay1 closeRow fusedRow lane
  pointwise

theorem embed_pay (x : Vec Ideal S2000x3 .f32) (B : Vec Ideal S3x32 .f32) (Wz : Vec Ideal S128x64 .f32) (b0 b1 : Vec Ideal S32 .f32)
    (W1 : Vec Ideal S32x32 .f32) (r : Fin 2000) (c : Fin 32) :
    k0_pay6 (k0_pay3 b1) (k0_pay4 x B Wz) (k0_pay5 x B Wz b0 W1) (ix2 r c)
      = fusedRow (fun k => Ideal.sin (phase (fun p => x (ix2 r p)) (fun p k => B (ix2 p k)) k))
          (fun k => Ideal.cos (phase (fun p => x (ix2 r p)) (fun p k => B (ix2 p k)) k)) (fun x j => Wz (ix2 x j))
          (fun j => b0 (ix1 j)) (fun j c => W1 (ix2 j c)) (fun c => b1 (ix1 c)) c := by
  unfold k0_pay6 k0_pay5 k0_pay4 k0_pay3 k0_pay2 fusedRow lane phase
  pointwise

theorem named_inv : (Named.named Cert.KernelIdeal.κ "inv_norm" 0x3F68B4C4#32 : Ideal .f32) = (((2097152 / 2307077 : ℝ)) : EReal) := by
  rfl

theorem ofBits_63 : Ideal.ofBits .f32 0x427C0000#32 = (63 : EReal) := by
  have : Ideal.ofBits .f32 0x427C0000#32 = ((63 : ℝ) : EReal) := by
    simp [Ideal.ofBits, Ideal.ieee, -EReal.coe_mul]; norm_num
  exact this

theorem coord_pay (x : Vec Ideal S2000x3 .f32) (r : Fin 2000) (p : Fin 3) :
    k0_pay7 (k0_pay2 x) (ix2 r p) = coordWord (x (ix2 r p)) := by
  unfold k0_pay7 k0_pay2 coordWord
  pointwise
  rw [named_inv, ofBits_63]
  rfl

/-- The batch number's word at a grid point, from the point's word. -/
def batchWord (z : BitVec 32) : BitVec 32 :=
  Scalar.select (Scalar.andi (Scalar.cmpi .ne (Scalar.subi (Scalar.extui (Scalar.cmpi .sgt z 0#32)) (Scalar.extui (Scalar.cmpi .slt z 0#32))) (Scalar.subi (Scalar.extui (Scalar.cmpi .sgt 50#32 0#32)) (Scalar.extui (Scalar.cmpi .slt 50#32 0#32)))) (Scalar.cmpi .ne (Scalar.remsi z 50#32) 0#32)) (Scalar.subi (Scalar.divsi z 50#32) 1#32) (Scalar.divsi z 50#32)

theorem batchWord_eq : ∀ i : Fin 200, batchWord (BitVec.ofNat 32 i.val) = BitVec.ofNat 32 (i.val / 50) := by
  decide +kernel

theorem cells_pay (x : Vec Ideal S2000x3 .f32) (i : Fin 200) (r : Fin 2000) (p : Fin 3) :
    k0_pay1 (k0_pay8 (k0_pay2 x)) (k0_pay9 (k0_pay2 x)) (k0_pay10 (k0_pay2 x)) (batchWord (BitVec.ofNat 32 i.val)) (k0_pay11 (k0_pay2 x))
        (Scalar.muli (Scalar.addi 0#32 (batchWord (BitVec.ofNat 32 i.val))) 4096#32) (ix2 r p)
      = cellWord (fun p => x (ix2 r p)) p + BitVec.ofNat 32 ((p.val * 4 + i.val / 50) * 4096) := by
  rw [batchWord_eq]
  have hi : i.val / 50 < 4 := by omega
  generalize i.val / 50 = b at hi
  unfold k0_pay1 k0_pay8 k0_pay9 k0_pay10 k0_pay11
  have e0 : Scalar.muli (Scalar.addi 0#32 (BitVec.ofNat 32 b)) 4096#32 = BitVec.ofNat 32 ((0 * 4 + b) * 4096) := by
    interval_cases b <;> rfl
  have e1 : Scalar.muli (Scalar.addi 4#32 (BitVec.ofNat 32 b)) 4096#32 = BitVec.ofNat 32 ((1 * 4 + b) * 4096) := by
    interval_cases b <;> rfl
  have e2 : Scalar.muli (Scalar.addi 8#32 (BitVec.ofNat 32 b)) 4096#32 = BitVec.ofNat 32 ((2 * 4 + b) * 4096) := by
    interval_cases b <;> rfl
  rw [e0]
  fin_cases p
  · pointwise
    unfold k0_pay8 k0_pay9
    pointwise
    rw [coord_pay, coord_pay]
    rfl
  · pointwise
    rw [coord_pay, coord_pay, e1]
    rfl
  · pointwise
    rw [coord_pay, coord_pay, e2]
    rfl

end Cert.Proof.Ker

end
-- ==== Proof.RegionDefs.lean ====
/-
  The arrays that the blocks of kernel work leave, row by row, and the row a block's row is.
-/
module

public import proofs.«01_k».proof.Proof.Payloads
public import proofs.«01_k».proof.Proof.Gen.KernelIdeal.Frame
public import Idealize.ShloMosaic.Lib.Pipeline.ValueKit

@[expose] public section

set_option maxRecDepth 16384

noncomputable section

namespace Cert.Proof.Ker

open Idealize.ShloMosaic TcCoe Cert.KernelIdeal Cert.KernelIdeal.Gen

/-- The fused block over a whole array of rows. -/
def fusedArr (f g : FVec Ideal S400000x32 .f32) (Wz : FVec Ideal S128x64 .f32) (b0 : FVec Ideal S32 .f32) (W1 : FVec Ideal S32x32 .f32)
    (b1 : FVec Ideal S32 .f32) : FVec Ideal S400000x32 .f32 := fun i =>
  fusedRow (fun k => f (ix2 (i 0) k)) (fun k => g (ix2 (i 0) k)) (fun x j => Wz (ix2 x j)) (fun j => b0 (ix1 j))
    (fun j c => W1 (ix2 j c)) (fun c => b1 (ix1 c)) (i 1)

/-- The row of the array at which a point's block has its row `r`. -/
def row (i : Fin 200) (r : Fin 2000) : Fin 400000 := ⟨i.val * 2000 + r.val, by omega⟩

/-- The closing layer over a whole array of rows. -/
def closeArr (f : FVec Ideal S400000x32 .f32) (W : FVec Ideal S32x32 .f32) (b : FVec Ideal S32 .f32) : FVec Ideal S400000x32 .f32 := fun i =>
  closeRow (fun k => f (ix2 (i 0) k)) (fun k c => W (ix2 k c)) (fun c => b (ix1 c)) (i 1)

/-- The point embedding, a sine or a cosine of the phase, over a whole array of rows. -/
def embArr (g : EReal → EReal) (x : FVec Ideal S400000x3 .f32) (B : FVec Ideal S3x32 .f32) : FVec Ideal S400000x32 .f32 := fun i =>
  g (phase (fun p => x (ix2 (i 0) p)) (fun p k => B (ix2 p k)) (i 1))

/-- The three row words of every point. -/
def cellArr (x : FVec Ideal S400000x3 .f32) : IVec S400000x3 32 := fun i =>
  cellWord (fun p => x (ix2 (i 0) p)) (i 1) + BitVec.ofNat 32 (((i 1).val * 4 + (i 0).val / 100000) * 4096)

end Cert.Proof.Ker

end
-- ==== Proof.Region0.lean ====
/-
  What the embedding leaves in its two output arrays.
-/
module

public import proofs.«01_k».proof.Proof.RegionDefs

@[expose] public section

set_option maxRecDepth 16384

noncomputable section

namespace Cert.Proof.Ker

open Idealize.ShloMosaic TcCoe Cert.KernelIdeal Cert.KernelIdeal.Gen

variable (V : (c : Dev nD) → (b : Ref sig .tc) → Buf (Elt Ideal) ((c : Thread nD τ).loc b))

theorem idx0 : ∀ t : Fin cfg0.N, win0_0.index t = ![(grid0.coords t 0).val, 0] ∧ win0_1.index t = ![0, 0]
    ∧ win0_2.index t = ![0, 0] ∧ win0_3.index t = ![0] ∧ win0_4.index t = ![0, 0] ∧ win0_5.index t = ![0]
    ∧ win0_6.index t = ![(grid0.coords t 0).val, 0] ∧ win0_7.index t = ![(grid0.coords t 0).val, 0] := by
  decide +kernel

set_option maxHeartbeats 1000000 in
/-- What a point's blocks hold, and where its output blocks lie. -/
theorem in0 (c : Dev nD) (t : Fin cfg0.N) :
    (∀ (r : Fin 2000) (k : Fin 3), iblk0 V c 0 t (ix2 r k) = V c (Pipeline.arrRef spec0 0) (ix2 (row (grid0.coords t 0) r) k))
    ∧ (∀ (r : Fin 3) (k : Fin 32), iblk0 V c 1 t (ix2 r k) = V c (Pipeline.arrRef spec0 1) (ix2 r k))
    ∧ (∀ (x : Fin 128) (k : Fin 64), iblk0 V c 2 t (ix2 x k) = V c (Pipeline.arrRef spec0 2) (ix2 x k))
    ∧ (∀ (k : Fin 32), iblk0 V c 3 t (ix1 k) = V c (Pipeline.arrRef spec0 3) (ix1 k))
    ∧ (∀ (x k : Fin 32), iblk0 V c 4 t (ix2 x k) = V c (Pipeline.arrRef spec0 4) (ix2 x k))
    ∧ (∀ (k : Fin 32), iblk0 V c 5 t (ix1 k) = V c (Pipeline.arrRef spec0 5) (ix1 k))
    ∧ (∀ (r : Fin 2000) (k : Fin 32), ((View.whole main_v20_0).slice (win0_6.rect t)).emb (ix2 r k) = (ix2 (row (grid0.coords t 0) r) k : S400000x32.Idx))
    ∧ ∀ (r : Fin 2000) (k : Fin 3), ((View.whole main_v20_1).slice (win0_7.rect t)).emb (ix2 r k) = (ix2 (row (grid0.coords t 0) r) k : S400000x3.Idx) := by
  refine ⟨fun r k => ?_, fun r k => ?_, fun x k => ?_, fun k => ?_, fun x k => ?_, fun k => ?_, fun r k => ?_, fun r k => ?_⟩
  · have e := (idx0 t).1
    blk_ext [iblk0, e, row]
  · have e := (idx0 t).2.1
    blk_ext [iblk0, e]
  · have e := (idx0 t).2.2.1
    blk_ext [iblk0, e]
  · have e := (idx0 t).2.2.2.1
    blk_ext [iblk0, e]
  · have e := (idx0 t).2.2.2.2.1
    blk_ext [iblk0, e]
  · have e := (idx0 t).2.2.2.2.2.1
    blk_ext [iblk0, e]
  · have e := (idx0 t).2.2.2.2.2.2.1
    blk_ext [e, row]
  · have e := (idx0 t).2.2.2.2.2.2.2
    blk_ext [e, row]

theorem region0 (c : Dev nD) : (dat0 V c).arrAt 6 cfg0.N
    = fusedArr (embArr Ideal.sin (V c (Pipeline.arrRef spec0 0)) (V c (Pipeline.arrRef spec0 1)))
        (embArr Ideal.cos (V c (Pipeline.arrRef spec0 0)) (V c (Pipeline.arrRef spec0 1))) (V c (Pipeline.arrRef spec0 2))
        (V c (Pipeline.arrRef spec0 3)) (V c (Pipeline.arrRef spec0 4)) (V c (Pipeline.arrRef spec0 5)) := by
  refine (dat0 V c).arrAt_eq_of_covers 6 _ (by decide +kernel) fun t hf y => ?_
  blk_simp
  rw [after0_6]
  frame_out
  idx_vars y
  obtain ⟨h0, h1, h2, h3, h4, h5, h6, h7⟩ := in0 V c t
  rw [embed_pay, h6]
  simp only [h0, h1, h2, h3, h4, h5]
  rfl

theorem region0_cells (c : Dev nD) : (dat0 V c).arrAt 7 cfg0.N = cellArr (V c (Pipeline.arrRef spec0 0)) := by
  refine (dat0 V c).arrAt_eq_of_covers 7 _ (by decide +kernel) fun t hf y => ?_
  blk_simp
  rw [after0_7]
  unfold_out out0_7
  frame_out
  idx_vars y
  obtain ⟨h0, h1, h2, h3, h4, h5, h6, h7⟩ := in0 V c t
  have e := cells_pay (iblk0 V c 0 t) (grid0.coords t 0) y0 y1
  refine Eq.trans e ?_
  rw [h7]
  simp only [h0]
  have d : (row (grid0.coords t 0) y0).val / 100000 = (grid0.coords t 0).val / 50 := by
    have : (grid0.coords t 0).val < 200 := (grid0.coords t 0).isLt
    simp only [row]
    omega
  unfold cellArr
  rw [← d]
  rfl

end Cert.Proof.Ker

end
-- ==== Proof.Region1.lean ====
/-
  What round one of kernel work leaves in its output array.
-/
module

public import proofs.«01_k».proof.Proof.RegionDefs

@[expose] public section

set_option maxRecDepth 16384

noncomputable section

namespace Cert.Proof.Ker

open Idealize.ShloMosaic TcCoe Cert.KernelIdeal Cert.KernelIdeal.Gen

variable (V : (c : Dev nD) → (b : Ref sig .tc) → Buf (Elt Ideal) ((c : Thread nD τ).loc b))

theorem idx1 : ∀ t : Fin cfg1.N, win1_0.index t = ![(grid1.coords t 0).val, 0] ∧ win1_1.index t = ![(grid1.coords t 0).val, 0]
    ∧ win1_2.index t = ![0, 0] ∧ win1_3.index t = ![0] ∧ win1_4.index t = ![0, 0] ∧ win1_5.index t = ![0]
    ∧ win1_6.index t = ![(grid1.coords t 0).val, 0] := by
  decide +kernel

set_option maxHeartbeats 1000000 in
/-- What a point's blocks hold, and where its output block lies. -/
theorem in1 (c : Dev nD) (t : Fin cfg1.N) :
    (∀ (r : Fin 2000) (k : Fin 32), iblk1 V c 0 t (ix2 r k) = V c (Pipeline.arrRef spec1 0) (ix2 (row (grid1.coords t 0) r) k))
    ∧ (∀ (r : Fin 2000) (k : Fin 32), iblk1 V c 1 t (ix2 r k) = V c (Pipeline.arrRef spec1 1) (ix2 (row (grid1.coords t 0) r) k))
    ∧ (∀ (x : Fin 128) (k : Fin 64), iblk1 V c 2 t (ix2 x k) = V c (Pipeline.arrRef spec1 2) (ix2 x k))
    ∧ (∀ (k : Fin 32), iblk1 V c 3 t (ix1 k) = V c (Pipeline.arrRef spec1 3) (ix1 k))
    ∧ (∀ (x k : Fin 32), iblk1 V c 4 t (ix2 x k) = V c (Pipeline.arrRef spec1 4) (ix2 x k))
    ∧ (∀ (k : Fin 32), iblk1 V c 5 t (ix1 k) = V c (Pipeline.arrRef spec1 5) (ix1 k))
    ∧ ∀ (r : Fin 2000) (k : Fin 32), ((View.whole main_v132).slice (win1_6.rect t)).emb (ix2 r k) = (ix2 (row (grid1.coords t 0) r) k : S400000x32.Idx) := by
  refine ⟨fun r k => ?_, fun r k => ?_, fun x k => ?_, fun k => ?_, fun x k => ?_, fun k => ?_, fun r k => ?_⟩
  · have e := (idx1 t).1
    blk_ext [iblk1, e, row]
  · have e := (idx1 t).2.1
    blk_ext [iblk1, e, row]
  · have e := (idx1 t).2.2.1
    blk_ext [iblk1, e]
  · have e := (idx1 t).2.2.2.1
    blk_ext [iblk1, e]
  · have e := (idx1 t).2.2.2.2.1
    blk_ext [iblk1, e]
  · have e := (idx1 t).2.2.2.2.2.1
    blk_ext [iblk1, e]
  · have e := (idx1 t).2.2.2.2.2.2
    blk_ext [e, row]

theorem region1 (c : Dev nD) : (dat1 V c).arrAt 6 cfg1.N
    = fusedArr (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5)) := by
  refine (dat1 V c).arrAt_eq_of_covers 6 _ (by decide +kernel) fun t hf y => ?_
  blk_simp
  rw [after1_6]
  frame_out
  idx_vars y
  obtain ⟨h0, h1, h2, h3, h4, h5, h6⟩ := in1 V c t
  rw [round_pay, h6]
  simp only [h0, h1, h2, h3, h4, h5]
  rfl

end Cert.Proof.Ker

end
-- ==== Proof.Region2.lean ====
/-
  What round two of kernel work leaves in its output array.
-/
module

public import proofs.«01_k».proof.Proof.RegionDefs

@[expose] public section

set_option maxRecDepth 16384

noncomputable section

namespace Cert.Proof.Ker

open Idealize.ShloMosaic TcCoe Cert.KernelIdeal Cert.KernelIdeal.Gen

variable (V : (c : Dev nD) → (b : Ref sig .tc) → Buf (Elt Ideal) ((c : Thread nD τ).loc b))

theorem idx2 : ∀ t : Fin cfg2.N, win2_0.index t = ![(grid2.coords t 0).val, 0] ∧ win2_1.index t = ![(grid2.coords t 0).val, 0]
    ∧ win2_2.index t = ![0, 0] ∧ win2_3.index t = ![0] ∧ win2_4.index t = ![0, 0] ∧ win2_5.index t = ![0]
    ∧ win2_6.index t = ![(grid2.coords t 0).val, 0] := by
  decide +kernel

set_option maxHeartbeats 1000000 in
/-- What a point's blocks hold, and where its output block lies. -/
theorem in2 (c : Dev nD) (t : Fin cfg2.N) :
    (∀ (r : Fin 2000) (k : Fin 32), iblk2 V c 0 t (ix2 r k) = V c (Pipeline.arrRef spec2 0) (ix2 (row (grid2.coords t 0) r) k))
    ∧ (∀ (r : Fin 2000) (k : Fin 32), iblk2 V c 1 t (ix2 r k) = V c (Pipeline.arrRef spec2 1) (ix2 (row (grid2.coords t 0) r) k))
    ∧ (∀ (x : Fin 128) (k : Fin 64), iblk2 V c 2 t (ix2 x k) = V c (Pipeline.arrRef spec2 2) (ix2 x k))
    ∧ (∀ (k : Fin 32), iblk2 V c 3 t (ix1 k) = V c (Pipeline.arrRef spec2 3) (ix1 k))
    ∧ (∀ (x k : Fin 32), iblk2 V c 4 t (ix2 x k) = V c (Pipeline.arrRef spec2 4) (ix2 x k))
    ∧ (∀ (k : Fin 32), iblk2 V c 5 t (ix1 k) = V c (Pipeline.arrRef spec2 5) (ix1 k))
    ∧ ∀ (r : Fin 2000) (k : Fin 32), ((View.whole main_v244).slice (win2_6.rect t)).emb (ix2 r k) = (ix2 (row (grid2.coords t 0) r) k : S400000x32.Idx) := by
  refine ⟨fun r k => ?_, fun r k => ?_, fun x k => ?_, fun k => ?_, fun x k => ?_, fun k => ?_, fun r k => ?_⟩
  · have e := (idx2 t).1
    blk_ext [iblk2, e, row]
  · have e := (idx2 t).2.1
    blk_ext [iblk2, e, row]
  · have e := (idx2 t).2.2.1
    blk_ext [iblk2, e]
  · have e := (idx2 t).2.2.2.1
    blk_ext [iblk2, e]
  · have e := (idx2 t).2.2.2.2.1
    blk_ext [iblk2, e]
  · have e := (idx2 t).2.2.2.2.2.1
    blk_ext [iblk2, e]
  · have e := (idx2 t).2.2.2.2.2.2
    blk_ext [e, row]

set_option maxHeartbeats 1000000 in
theorem region2 (c : Dev nD) : (dat2 V c).arrAt 6 cfg2.N
    = fusedArr (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)) := by
  refine (dat2 V c).arrAt_eq_of_covers 6 _ (by decide +kernel) fun t hf y => ?_
  blk_simp
  rw [after2_6]
  frame_out
  idx_vars y
  obtain ⟨h0, h1, h2, h3, h4, h5, h6⟩ := in2 V c t
  change k1_pay1 _ _ _ _ _ _ (ix2 y0 y1) = _
  rw [round_pay, h6]
  simp only [h0, h1, h2, h3, h4, h5]
  rfl

end Cert.Proof.Ker

end
-- ==== Proof.Region3.lean ====
/-
  What round three of kernel work leaves in its output array.
-/
module

public import proofs.«01_k».proof.Proof.RegionDefs

@[expose] public section

set_option maxRecDepth 16384

noncomputable section

namespace Cert.Proof.Ker

open Idealize.ShloMosaic TcCoe Cert.KernelIdeal Cert.KernelIdeal.Gen

variable (V : (c : Dev nD) → (b : Ref sig .tc) → Buf (Elt Ideal) ((c : Thread nD τ).loc b))

theorem idx3 : ∀ t : Fin cfg3.N, win3_0.index t = ![(grid3.coords t 0).val, 0] ∧ win3_1.index t = ![(grid3.coords t 0).val, 0]
    ∧ win3_2.index t = ![0, 0] ∧ win3_3.index t = ![0] ∧ win3_4.index t = ![0, 0] ∧ win3_5.index t = ![0]
    ∧ win3_6.index t = ![(grid3.coords t 0).val, 0] := by
  decide +kernel

set_option maxHeartbeats 1000000 in
/-- What a point's blocks hold, and where its output block lies. -/
theorem in3 (c : Dev nD) (t : Fin cfg3.N) :
    (∀ (r : Fin 2000) (k : Fin 32), iblk3 V c 0 t (ix2 r k) = V c (Pipeline.arrRef spec3 0) (ix2 (row (grid3.coords t 0) r) k))
    ∧ (∀ (r : Fin 2000) (k : Fin 32), iblk3 V c 1 t (ix2 r k) = V c (Pipeline.arrRef spec3 1) (ix2 (row (grid3.coords t 0) r) k))
    ∧ (∀ (x : Fin 128) (k : Fin 64), iblk3 V c 2 t (ix2 x k) = V c (Pipeline.arrRef spec3 2) (ix2 x k))
    ∧ (∀ (k : Fin 32), iblk3 V c 3 t (ix1 k) = V c (Pipeline.arrRef spec3 3) (ix1 k))
    ∧ (∀ (x k : Fin 32), iblk3 V c 4 t (ix2 x k) = V c (Pipeline.arrRef spec3 4) (ix2 x k))
    ∧ (∀ (k : Fin 32), iblk3 V c 5 t (ix1 k) = V c (Pipeline.arrRef spec3 5) (ix1 k))
    ∧ ∀ (r : Fin 2000) (k : Fin 32), ((View.whole main_v356).slice (win3_6.rect t)).emb (ix2 r k) = (ix2 (row (grid3.coords t 0) r) k : S400000x32.Idx) := by
  refine ⟨fun r k => ?_, fun r k => ?_, fun x k => ?_, fun k => ?_, fun x k => ?_, fun k => ?_, fun r k => ?_⟩
  · have e := (idx3 t).1
    blk_ext [iblk3, e, row]
  · have e := (idx3 t).2.1
    blk_ext [iblk3, e, row]
  · have e := (idx3 t).2.2.1
    blk_ext [iblk3, e]
  · have e := (idx3 t).2.2.2.1
    blk_ext [iblk3, e]
  · have e := (idx3 t).2.2.2.2.1
    blk_ext [iblk3, e]
  · have e := (idx3 t).2.2.2.2.2.1
    blk_ext [iblk3, e]
  · have e := (idx3 t).2.2.2.2.2.2
    blk_ext [e, row]

set_option maxHeartbeats 1000000 in
theorem region3 (c : Dev nD) : (dat3 V c).arrAt 6 cfg3.N
    = fusedArr (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5)) := by
  refine (dat3 V c).arrAt_eq_of_covers 6 _ (by decide +kernel) fun t hf y => ?_
  blk_simp
  rw [after3_6]
  frame_out
  idx_vars y
  obtain ⟨h0, h1, h2, h3, h4, h5, h6⟩ := in3 V c t
  change k1_pay1 _ _ _ _ _ _ (ix2 y0 y1) = _
  rw [round_pay, h6]
  simp only [h0, h1, h2, h3, h4, h5]
  rfl

end Cert.Proof.Ker

end
-- ==== Proof.Region4.lean ====
/-
  What round four, with the closing layer, of kernel work leaves in its output array.
-/
module

public import proofs.«01_k».proof.Proof.RegionDefs

@[expose] public section

set_option maxRecDepth 16384

noncomputable section

namespace Cert.Proof.Ker

open Idealize.ShloMosaic TcCoe Cert.KernelIdeal Cert.KernelIdeal.Gen

variable (V : (c : Dev nD) → (b : Ref sig .tc) → Buf (Elt Ideal) ((c : Thread nD τ).loc b))

theorem idx4 : ∀ t : Fin cfg4.N, win4_0.index t = ![(grid4.coords t 0).val, 0] ∧ win4_1.index t = ![(grid4.coords t 0).val, 0]
    ∧ win4_2.index t = ![0, 0] ∧ win4_3.index t = ![0] ∧ win4_4.index t = ![0, 0] ∧ win4_5.index t = ![0]
    ∧ win4_6.index t = ![0, 0] ∧ win4_7.index t = ![0] ∧ win4_8.index t = ![(grid4.coords t 0).val, 0] := by
  decide +kernel

set_option maxHeartbeats 1000000 in
/-- What a point's blocks hold, and where its output block lies. -/
theorem in4 (c : Dev nD) (t : Fin cfg4.N) :
    (∀ (r : Fin 2000) (k : Fin 32), iblk4 V c 0 t (ix2 r k) = V c (Pipeline.arrRef spec4 0) (ix2 (row (grid4.coords t 0) r) k))
    ∧ (∀ (r : Fin 2000) (k : Fin 32), iblk4 V c 1 t (ix2 r k) = V c (Pipeline.arrRef spec4 1) (ix2 (row (grid4.coords t 0) r) k))
    ∧ (∀ (x : Fin 128) (k : Fin 64), iblk4 V c 2 t (ix2 x k) = V c (Pipeline.arrRef spec4 2) (ix2 x k))
    ∧ (∀ (k : Fin 32), iblk4 V c 3 t (ix1 k) = V c (Pipeline.arrRef spec4 3) (ix1 k))
    ∧ (∀ (x k : Fin 32), iblk4 V c 4 t (ix2 x k) = V c (Pipeline.arrRef spec4 4) (ix2 x k))
    ∧ (∀ (k : Fin 32), iblk4 V c 5 t (ix1 k) = V c (Pipeline.arrRef spec4 5) (ix1 k))
    ∧ (∀ (x k : Fin 32), iblk4 V c 6 t (ix2 x k) = V c (Pipeline.arrRef spec4 6) (ix2 x k))
    ∧ (∀ (k : Fin 32), iblk4 V c 7 t (ix1 k) = V c (Pipeline.arrRef spec4 7) (ix1 k))
    ∧ ∀ (r : Fin 2000) (k : Fin 32), ((View.whole main_v468).slice (win4_8.rect t)).emb (ix2 r k) = (ix2 (row (grid4.coords t 0) r) k : S400000x32.Idx) := by
  refine ⟨fun r k => ?_, fun r k => ?_, fun x k => ?_, fun k => ?_, fun x k => ?_, fun k => ?_, fun x k => ?_, fun k => ?_, fun r k => ?_⟩
  · have e := (idx4 t).1
    blk_ext [iblk4, e, row]
  · have e := (idx4 t).2.1
    blk_ext [iblk4, e, row]
  · have e := (idx4 t).2.2.1
    blk_ext [iblk4, e]
  · have e := (idx4 t).2.2.2.1
    blk_ext [iblk4, e]
  · have e := (idx4 t).2.2.2.2.1
    blk_ext [iblk4, e]
  · have e := (idx4 t).2.2.2.2.2.1
    blk_ext [iblk4, e]
  · have e := (idx4 t).2.2.2.2.2.2.1
    blk_ext [iblk4, e]
  · have e := (idx4 t).2.2.2.2.2.2.2.1
    blk_ext [iblk4, e]
  · have e := (idx4 t).2.2.2.2.2.2.2.2
    blk_ext [e, row]

set_option maxHeartbeats 1000000 in
theorem region4 (c : Dev nD) : (dat4 V c).arrAt 8 cfg4.N
    = closeArr (fusedArr (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5)))
        (V c (Pipeline.arrRef spec4 6)) (V c (Pipeline.arrRef spec4 7)) := by
  refine (dat4 V c).arrAt_eq_of_covers 8 _ (by decide +kernel) fun t hf y => ?_
  blk_simp
  rw [after4_8]
  frame_out
  idx_vars y
  obtain ⟨h0, h1, h2, h3, h4, h5, h6, h7, h8⟩ := in4 V c t
  rw [final_pay, h8]
  simp only [h0, h1, h2, h3, h4, h5, h6, h7]
  rfl

end Cert.Proof.Ker

end
-- ==== Proof.HostDefs.lean ====
/-
  Slices of the stacked weights, named by what they hold.
-/
module

public import proofs.«01_k».proof.Proof.KerTerms

@[expose] public section

set_option maxRecDepth 16384

noncomputable section

namespace Cert.Proof

open Idealize.ShloMosaic

/-- Layer `i` of a stack of 64 by 32 matrices. -/
def mat64 (i : Fin 5) (W : FVec Ideal ⟨3, ![5, 64, 32]⟩ .f32) : FVec Ideal ⟨2, ![64, 32]⟩ .f32 := fun x => W (ix3 i (x 0) (x 1))
/-- Layer `i` of a stack of 32 by 32 matrices. -/
def mat32 (i : Fin 5) (W : FVec Ideal ⟨3, ![5, 32, 32]⟩ .f32) : FVec Ideal ⟨2, ![32, 32]⟩ .f32 := fun x => W (ix3 i (x 0) (x 1))
/-- Layer `i` of a stack of vectors. -/
def vec32 (i : Fin 5) (W : FVec Ideal ⟨2, ![5, 32]⟩ .f32) : FVec Ideal ⟨1, ![32]⟩ .f32 := fun x => W (ix2 i (x 0))

theorem slice64 (i : Fin 5) (W : FVec Ideal ⟨3, ![5, 64, 32]⟩ .f32)
    (h : Shape.Slices ⟨3, ![5, 64, 32]⟩ ![i.val, 0, 0] ⟨3, ![1, 64, 32]⟩) (h' : Shape.ShapeCasts ⟨3, ![1, 64, 32]⟩ ⟨2, ![64, 32]⟩) :
    shapeCast ⟨2, ![64, 32]⟩ (extractStridedSlice ⟨3, ![1, 64, 32]⟩ ![i.val, 0, 0] W h) h' = mat64 i W := by
  funext x
  idx_vars x
  unfold mat64
  pointwise

theorem slice32 (i : Fin 5) (W : FVec Ideal ⟨3, ![5, 32, 32]⟩ .f32)
    (h : Shape.Slices ⟨3, ![5, 32, 32]⟩ ![i.val, 0, 0] ⟨3, ![1, 32, 32]⟩) (h' : Shape.ShapeCasts ⟨3, ![1, 32, 32]⟩ ⟨2, ![32, 32]⟩) :
    shapeCast ⟨2, ![32, 32]⟩ (extractStridedSlice ⟨3, ![1, 32, 32]⟩ ![i.val, 0, 0] W h) h' = mat32 i W := by
  funext x
  idx_vars x
  unfold mat32
  pointwise

theorem sliceVec (i : Fin 5) (W : FVec Ideal ⟨2, ![5, 32]⟩ .f32)
    (h : Shape.Slices ⟨2, ![5, 32]⟩ ![i.val, 0] ⟨2, ![1, 32]⟩) (h' : Shape.ShapeCasts ⟨2, ![1, 32]⟩ ⟨1, ![32]⟩) :
    shapeCast ⟨1, ![32]⟩ (extractStridedSlice ⟨2, ![1, 32]⟩ ![i.val, 0] W h) h' = vec32 i W := by
  funext x
  idx_vars x
  unfold vec32
  pointwise

end Cert.Proof

end
-- ==== Proof.Host0.lean ====
/-
  What the host operations before the embedding leave: the points in rows, the fused weight matrix, the small weights.
-/
module

public import proofs.«01_k».proof.Proof.HostDefs
public import proofs.«01_k».proof.Proof.Gen.KernelIdeal.Launch.Ops01
public import Idealize.ShloMosaic.Lib.StableHlo.RunRead

@[expose] public section

set_option maxRecDepth 16384
set_option maxHeartbeats 4000000

noncomputable section

namespace Cert.Proof.Ker

open Idealize.ShloMosaic Idealize.ShloMosaic.StableHlo TcCoe Cert.KernelIdeal Cert.KernelIdeal.Gen

variable (V : Valuation τ sig (Elt Ideal))

/-- The contents after the operations before the embedding. -/
def stretch0 : Valuation τ sig (Elt Ideal) := after hostOps0 V

theorem points0 : stretch0 V (Proc.devRef .tc main_v0) = (shapeCast S400000x3 (V (Proc.devRef .tc main_arg0) : FVec Ideal S4x100000x3 .f32) shapeCasts_S4x100000x3_S400000x3 : FVec Ideal S400000x3 .f32) := by
  unfold stretch0
  after_reads_simp
  rfl

theorem fuse0 : stretch0 V (Proc.devRef .tc main_v13) = fuse (mat64 0 (V (Proc.devRef .tc main_arg2))) (mat64 0 (V (Proc.devRef .tc main_arg6))) := by
  rw [← slice64 0 _ slices_S5x64x32_S1x64x32_0_0_0 shapeCasts_S1x64x32_S64x32, ← slice64 0 _ slices_S5x64x32_S1x64x32_0_0_0 shapeCasts_S1x64x32_S64x32]
  unfold stretch0
  after_reads_simp
  rfl

theorem hidden0 : stretch0 V (Proc.devRef .tc main_v15) = vec32 0 (V (Proc.devRef .tc main_arg3)) := by
  rw [← sliceVec 0 _ slices_S5x32_S1x32_0_0 shapeCasts_S1x32_S32]
  unfold stretch0
  after_reads_simp
  rfl

theorem inner0 : stretch0 V (Proc.devRef .tc main_v17) = mat32 0 (V (Proc.devRef .tc main_arg4)) := by
  rw [← slice32 0 _ slices_S5x32x32_S1x32x32_0_0_0 shapeCasts_S1x32x32_S32x32]
  unfold stretch0
  after_reads_simp
  rfl

theorem outer0 : stretch0 V (Proc.devRef .tc main_v19) = vec32 0 (V (Proc.devRef .tc main_arg5)) := by
  rw [← sliceVec 0 _ slices_S5x32_S1x32_0_0 shapeCasts_S1x32_S32]
  unfold stretch0
  after_reads_simp
  rfl

end Cert.Proof.Ker

end
-- ==== Proof.Host1.lean ====
/-
  What the host operations before round one leave: the pooled feature, the fused weight matrix, the small weights.
-/
module

public import proofs.«01_k».proof.Proof.HostDefs
public import proofs.«01_k».proof.Proof.Gen.KernelIdeal.Launch.Ops01
public import Idealize.ShloMosaic.Lib.StableHlo.RunRead

@[expose] public section

set_option maxRecDepth 16384
set_option maxHeartbeats 4000000

noncomputable section

namespace Cert.Proof.Ker

open Idealize.ShloMosaic Idealize.ShloMosaic.StableHlo TcCoe Cert.KernelIdeal Cert.KernelIdeal.Gen

variable (V : Valuation τ sig (Elt Ideal))

/-- The contents after the operations before round one. -/
def stretch1 : Valuation τ sig (Elt Ideal) := after hostOps1_2 (after hostOps1_1 (after hostOps1 V))

theorem pool1 : stretch1 V (Proc.devRef .tc main_v112)
    = take (V (Proc.devRef .tc main_v20_1)) (means (V (Proc.devRef .tc main_v20_1)) (V (Proc.devRef .tc main_v20_0))) := by
  unfold stretch1
  after_reads_simp
  rfl

theorem fuse1 : stretch1 V (Proc.devRef .tc main_v125) = fuse (mat64 1 (V (Proc.devRef .tc main_arg2))) (mat64 1 (V (Proc.devRef .tc main_arg6))) := by
  rw [← slice64 1 _ slices_S5x64x32_S1x64x32_1_0_0 shapeCasts_S1x64x32_S64x32, ← slice64 1 _ slices_S5x64x32_S1x64x32_1_0_0 shapeCasts_S1x64x32_S64x32]
  unfold stretch1
  after_reads_simp
  rfl

theorem hidden1 : stretch1 V (Proc.devRef .tc main_v127) = vec32 1 (V (Proc.devRef .tc main_arg3)) := by
  rw [← sliceVec 1 _ slices_S5x32_S1x32_1_0 shapeCasts_S1x32_S32]
  unfold stretch1
  after_reads_simp
  rfl

theorem inner1 : stretch1 V (Proc.devRef .tc main_v129) = mat32 1 (V (Proc.devRef .tc main_arg4)) := by
  rw [← slice32 1 _ slices_S5x32x32_S1x32x32_1_0_0 shapeCasts_S1x32x32_S32x32]
  unfold stretch1
  after_reads_simp
  rfl

theorem outer1 : stretch1 V (Proc.devRef .tc main_v131) = vec32 1 (V (Proc.devRef .tc main_arg5)) := by
  rw [← sliceVec 1 _ slices_S5x32_S1x32_1_0 shapeCasts_S1x32_S32]
  unfold stretch1
  after_reads_simp
  rfl

theorem feat1 : stretch1 V (Proc.devRef .tc main_v20_0) = V (Proc.devRef .tc main_v20_0) := by
  unfold stretch1
  after_reads_simp

theorem cells1 : stretch1 V (Proc.devRef .tc main_v20_1) = V (Proc.devRef .tc main_v20_1) := by
  unfold stretch1
  after_reads_simp

end Cert.Proof.Ker

end
-- ==== Proof.Host2.lean ====
/-
  What the host operations before round two leave: the pooled feature, the fused weight matrix, the small weights.
-/
module

public import proofs.«01_k».proof.Proof.HostDefs
public import proofs.«01_k».proof.Proof.Gen.KernelIdeal.Launch.Ops01
public import Idealize.ShloMosaic.Lib.StableHlo.RunRead

@[expose] public section

set_option maxRecDepth 16384
set_option maxHeartbeats 4000000

noncomputable section

namespace Cert.Proof.Ker

open Idealize.ShloMosaic Idealize.ShloMosaic.StableHlo TcCoe Cert.KernelIdeal Cert.KernelIdeal.Gen

variable (V : Valuation τ sig (Elt Ideal))

/-- The contents after the operations before round two. -/
def stretch2 : Valuation τ sig (Elt Ideal) := after hostOps2_2 (after hostOps2_1 (after hostOps2 V))

theorem pool2 : stretch2 V (Proc.devRef .tc main_v224)
    = take (V (Proc.devRef .tc main_v20_1)) (means (V (Proc.devRef .tc main_v20_1)) (V (Proc.devRef .tc main_v132))) := by
  unfold stretch2
  after_reads_simp
  rfl

theorem fuse2 : stretch2 V (Proc.devRef .tc main_v237) = fuse (mat64 2 (V (Proc.devRef .tc main_arg2))) (mat64 2 (V (Proc.devRef .tc main_arg6))) := by
  rw [← slice64 2 _ slices_S5x64x32_S1x64x32_2_0_0 shapeCasts_S1x64x32_S64x32, ← slice64 2 _ slices_S5x64x32_S1x64x32_2_0_0 shapeCasts_S1x64x32_S64x32]
  unfold stretch2
  after_reads_simp
  rfl

theorem hidden2 : stretch2 V (Proc.devRef .tc main_v239) = vec32 2 (V (Proc.devRef .tc main_arg3)) := by
  rw [← sliceVec 2 _ slices_S5x32_S1x32_2_0 shapeCasts_S1x32_S32]
  unfold stretch2
  after_reads_simp
  rfl

theorem inner2 : stretch2 V (Proc.devRef .tc main_v241) = mat32 2 (V (Proc.devRef .tc main_arg4)) := by
  rw [← slice32 2 _ slices_S5x32x32_S1x32x32_2_0_0 shapeCasts_S1x32x32_S32x32]
  unfold stretch2
  after_reads_simp
  rfl

theorem outer2 : stretch2 V (Proc.devRef .tc main_v243) = vec32 2 (V (Proc.devRef .tc main_arg5)) := by
  rw [← sliceVec 2 _ slices_S5x32_S1x32_2_0 shapeCasts_S1x32_S32]
  unfold stretch2
  after_reads_simp
  rfl

theorem feat2 : stretch2 V (Proc.devRef .tc main_v132) = V (Proc.devRef .tc main_v132) := by
  unfold stretch2
  after_reads_simp

theorem cells2 : stretch2 V (Proc.devRef .tc main_v20_1) = V (Proc.devRef .tc main_v20_1) := by
  unfold stretch2
  after_reads_simp

end Cert.Proof.Ker

end
-- ==== Proof.Host3.lean ====
/-
  What the host operations before round three leave: the pooled feature, the fused weight matrix, the small weights.
-/
module

public import proofs.«01_k».proof.Proof.HostDefs
public import proofs.«01_k».proof.Proof.Gen.KernelIdeal.Launch.Ops01
public import Idealize.ShloMosaic.Lib.StableHlo.RunRead

@[expose] public section

set_option maxRecDepth 16384
set_option maxHeartbeats 4000000

noncomputable section

namespace Cert.Proof.Ker

open Idealize.ShloMosaic Idealize.ShloMosaic.StableHlo TcCoe Cert.KernelIdeal Cert.KernelIdeal.Gen

variable (V : Valuation τ sig (Elt Ideal))

/-- The contents after the operations before round three. -/
def stretch3 : Valuation τ sig (Elt Ideal) := after hostOps3_2 (after hostOps3_1 (after hostOps3 V))

theorem pool3 : stretch3 V (Proc.devRef .tc main_v336)
    = take (V (Proc.devRef .tc main_v20_1)) (means (V (Proc.devRef .tc main_v20_1)) (V (Proc.devRef .tc main_v244))) := by
  unfold stretch3
  after_reads_simp
  rfl

theorem fuse3 : stretch3 V (Proc.devRef .tc main_v349) = fuse (mat64 3 (V (Proc.devRef .tc main_arg2))) (mat64 3 (V (Proc.devRef .tc main_arg6))) := by
  rw [← slice64 3 _ slices_S5x64x32_S1x64x32_3_0_0 shapeCasts_S1x64x32_S64x32, ← slice64 3 _ slices_S5x64x32_S1x64x32_3_0_0 shapeCasts_S1x64x32_S64x32]
  unfold stretch3
  after_reads_simp
  rfl

theorem hidden3 : stretch3 V (Proc.devRef .tc main_v351) = vec32 3 (V (Proc.devRef .tc main_arg3)) := by
  rw [← sliceVec 3 _ slices_S5x32_S1x32_3_0 shapeCasts_S1x32_S32]
  unfold stretch3
  after_reads_simp
  rfl

theorem inner3 : stretch3 V (Proc.devRef .tc main_v353) = mat32 3 (V (Proc.devRef .tc main_arg4)) := by
  rw [← slice32 3 _ slices_S5x32x32_S1x32x32_3_0_0 shapeCasts_S1x32x32_S32x32]
  unfold stretch3
  after_reads_simp
  rfl

theorem outer3 : stretch3 V (Proc.devRef .tc main_v355) = vec32 3 (V (Proc.devRef .tc main_arg5)) := by
  rw [← sliceVec 3 _ slices_S5x32_S1x32_3_0 shapeCasts_S1x32_S32]
  unfold stretch3
  after_reads_simp
  rfl

theorem feat3 : stretch3 V (Proc.devRef .tc main_v244) = V (Proc.devRef .tc main_v244) := by
  unfold stretch3
  after_reads_simp

theorem cells3 : stretch3 V (Proc.devRef .tc main_v20_1) = V (Proc.devRef .tc main_v20_1) := by
  unfold stretch3
  after_reads_simp

end Cert.Proof.Ker

end
-- ==== Proof.Host4.lean ====
/-
  What the host operations before round four leave: the pooled feature, the fused weight matrix, the small weights.
-/
module

public import proofs.«01_k».proof.Proof.HostDefs
public import proofs.«01_k».proof.Proof.Gen.KernelIdeal.Launch.Ops02
public import Idealize.ShloMosaic.Lib.StableHlo.RunRead

@[expose] public section

set_option maxRecDepth 16384
set_option maxHeartbeats 4000000

noncomputable section

namespace Cert.Proof.Ker

open Idealize.ShloMosaic Idealize.ShloMosaic.StableHlo TcCoe Cert.KernelIdeal Cert.KernelIdeal.Gen

variable (V : Valuation τ sig (Elt Ideal))

/-- The contents after the operations before round four. -/
def stretch4 : Valuation τ sig (Elt Ideal) := after hostOps4_2 (after hostOps4_1 (after hostOps4 V))

theorem pool4 : stretch4 V (Proc.devRef .tc main_v448)
    = take (V (Proc.devRef .tc main_v20_1)) (means (V (Proc.devRef .tc main_v20_1)) (V (Proc.devRef .tc main_v356))) := by
  unfold stretch4
  after_reads_simp
  rfl

theorem fuse4 : stretch4 V (Proc.devRef .tc main_v461) = fuse (mat64 4 (V (Proc.devRef .tc main_arg2))) (mat64 4 (V (Proc.devRef .tc main_arg6))) := by
  rw [← slice64 4 _ slices_S5x64x32_S1x64x32_4_0_0 shapeCasts_S1x64x32_S64x32, ← slice64 4 _ slices_S5x64x32_S1x64x32_4_0_0 shapeCasts_S1x64x32_S64x32]
  unfold stretch4
  after_reads_simp
  rfl

theorem hidden4 : stretch4 V (Proc.devRef .tc main_v463) = vec32 4 (V (Proc.devRef .tc main_arg3)) := by
  rw [← sliceVec 4 _ slices_S5x32_S1x32_4_0 shapeCasts_S1x32_S32]
  unfold stretch4
  after_reads_simp
  rfl

theorem inner4 : stretch4 V (Proc.devRef .tc main_v465) = mat32 4 (V (Proc.devRef .tc main_arg4)) := by
  rw [← slice32 4 _ slices_S5x32x32_S1x32x32_4_0_0 shapeCasts_S1x32x32_S32x32]
  unfold stretch4
  after_reads_simp
  rfl

theorem outer4 : stretch4 V (Proc.devRef .tc main_v467) = vec32 4 (V (Proc.devRef .tc main_arg5)) := by
  rw [← sliceVec 4 _ slices_S5x32_S1x32_4_0 shapeCasts_S1x32_S32]
  unfold stretch4
  after_reads_simp
  rfl

theorem feat4 : stretch4 V (Proc.devRef .tc main_v356) = V (Proc.devRef .tc main_v356) := by
  unfold stretch4
  after_reads_simp

theorem cells4 : stretch4 V (Proc.devRef .tc main_v20_1) = V (Proc.devRef .tc main_v20_1) := by
  unfold stretch4
  after_reads_simp

end Cert.Proof.Ker

end
-- ==== Proof.Host5.lean ====
/-
  What the host operations after the last round leave: the two results.
-/
module

public import proofs.«01_k».proof.Proof.HostDefs
public import proofs.«01_k».proof.Proof.Gen.KernelIdeal.Launch.Ops02
public import Idealize.ShloMosaic.Lib.StableHlo.RunRead

@[expose] public section

set_option maxRecDepth 16384
set_option maxHeartbeats 4000000

noncomputable section

namespace Cert.Proof.Ker

open Idealize.ShloMosaic Idealize.ShloMosaic.StableHlo TcCoe Cert.KernelIdeal Cert.KernelIdeal.Gen

variable (V : Valuation τ sig (Elt Ideal))

/-- The contents after the operations after the last round. -/
def stretch5 : Valuation τ sig (Elt Ideal) := after hostOps5_2 (after hostOps5_1 (after hostOps5 V))

/-- The fused means as images. -/
def images (g : FVec Ideal S49152x32 .f32) : FVec Ideal S12x32x64x64 .f32 :=
  shapeCast S12x32x64x64 (transpose S12x32x4096 [0, 2, 1] (shapeCast S12x4096x32 g shapeCasts_S49152x32_S12x4096x32) transposes_S12x4096x32_S12x32x4096_0_2_1) shapeCasts_S12x32x4096_S12x32x64x64

theorem images5 : stretch5 V (Proc.devRef .tc main_v534)
    = images (means (V (Proc.devRef .tc main_v20_1)) (V (Proc.devRef .tc main_v468))) := by
  unfold stretch5
  after_reads_simp
  rfl

theorem feature5 : stretch5 V (Proc.devRef .tc main_v535)
    = (shapeCast S4x100000x32 (V (Proc.devRef .tc main_v468) : FVec Ideal S400000x32 .f32) shapeCasts_S400000x32_S4x100000x32 : FVec Ideal S4x100000x32 .f32) := by
  unfold stretch5
  after_reads_simp
  rfl

/-- An image's pixel is its plane's, batch's and cell's mean. -/
theorem images_apply (g : FVec Ideal S49152x32 .f32) (p : Fin 3) (b : Fin 4) (c : Fin 32) (y x : Fin 64) :
    images g (ix4 ⟨p.val * 4 + b.val, by omega⟩ c y x) = g (ix2 (meanRow p b ⟨64 * y.val + x.val, by omega⟩) c) := by
  unfold images meanRow
  pointwise
  congr 2
  exact Fin.ext (by simp; omega)

end Cert.Proof.Ker

end
-- ==== Proof.KernelValue.lean ====
/-
  What the kernel's arrays hold, from the embedding to the two results, as functions of the arguments.
-/
module

public import proofs.«01_k».proof.Proof.Region0
public import proofs.«01_k».proof.Proof.Region1
public import proofs.«01_k».proof.Proof.Region2
public import proofs.«01_k».proof.Proof.Region3
public import proofs.«01_k».proof.Proof.Region4
public import proofs.«01_k».proof.Proof.Host0
public import proofs.«01_k».proof.Proof.Host1
public import proofs.«01_k».proof.Proof.Host2
public import proofs.«01_k».proof.Proof.Host3
public import proofs.«01_k».proof.Proof.Host4
public import proofs.«01_k».proof.Proof.Host5

@[expose] public section

set_option maxRecDepth 16384

noncomputable section

namespace Cert.Proof.Ker

open Idealize.ShloMosaic Idealize.ShloMosaic.StableHlo TcCoe Cert.KernelIdeal Cert.KernelIdeal.Gen

/-- The arguments' contents. -/
structure Args where
  a0 : FVec Ideal S4x100000x3 .f32
  a1 : FVec Ideal S3x32 .f32
  a2 : FVec Ideal S5x64x32 .f32
  a3 : FVec Ideal S5x32 .f32
  a4 : FVec Ideal S5x32x32 .f32
  a5 : FVec Ideal S5x32 .f32
  a6 : FVec Ideal S5x64x32 .f32
  a7 : FVec Ideal S32x32 .f32
  a8 : FVec Ideal S32 .f32

/-- The points in rows. -/
def pts (A : Args) : FVec Ideal S400000x3 .f32 := shapeCast S400000x3 A.a0 shapeCasts_S4x100000x3_S400000x3

/-- The row words. -/
def cid (A : Args) : IVec S400000x3 32 := cellArr (pts A)

/-- Layer `i`'s fused block. -/
def layer (A : Args) (i : Fin 5) (f g : FVec Ideal S400000x32 .f32) : FVec Ideal S400000x32 .f32 :=
  fusedArr f g (fuse (mat64 i A.a2) (mat64 i A.a6)) (vec32 i A.a3) (mat32 i A.a4) (vec32 i A.a5)

/-- Layer `i`'s fused block of a feature beside its pooled feature. -/
def round (A : Args) (i : Fin 5) (f : FVec Ideal S400000x32 .f32) : FVec Ideal S400000x32 .f32 :=
  layer A i f (take (cid A) (means (cid A) f))

def feature0 (A : Args) : FVec Ideal S400000x32 .f32 := layer A 0 (embArr Ideal.sin (pts A) A.a1) (embArr Ideal.cos (pts A) A.a1)
def feature1 (A : Args) : FVec Ideal S400000x32 .f32 := round A 1 (feature0 A)
def feature2 (A : Args) : FVec Ideal S400000x32 .f32 := round A 2 (feature1 A)
def feature3 (A : Args) : FVec Ideal S400000x32 .f32 := round A 3 (feature2 A)
def feature (A : Args) : FVec Ideal S400000x32 .f32 := closeArr (round A 4 (feature3 A)) A.a7 A.a8

variable (m : (ℓ : Loc nD τ sig) → Buf (Elt Ideal) ℓ) (ρ : Dev nD → PrngReg) (c : Dev nD)

/-- The arguments a device finds. -/
def args : Args where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)
  a8 := m ((c : Thread nD τ).loc main_arg8)

theorem fusedArr_congr {f f' g g' : FVec Ideal S400000x32 .f32} {W W' : FVec Ideal S128x64 .f32} {b0 b0' b1 b1' : FVec Ideal S32 .f32}
    {W1 W1' : FVec Ideal S32x32 .f32} (hf : f = f') (hg : g = g') (hW : W = W') (h0 : b0 = b0') (hw : W1 = W1') (h1 : b1 = b1') :
    fusedArr f g W b0 W1 b1 = fusedArr f' g' W' b0' W1' b1' := by
  rw [hf, hg, hW, h0, hw, h1]

theorem fuse_congr {W W' U U' : FVec Ideal S5x64x32 .f32} (i : Fin 5) (h : W = W') (g : U = U') :
    fuse (mat64 i W) (mat64 i U) = fuse (mat64 i W') (mat64 i U') := by
  rw [h, g]

theorem take_congr {w w' : IVec S400000x3 32} {f f' : FVec Ideal S400000x32 .f32} (hw : w = w') (hf : f = f') :
    take w (means w f) = take w' (means w' f') := by
  rw [hw, hf]

theorem w2_cells : W2 m ρ c (Proc.devRef .tc main_v20_1) = cid (args m c) :=
  (W2_arr m ρ c 7).trans ((region0_cells (V1 m ρ) c).trans (congrArg cellArr (points0 (W0 m ρ c))))

theorem w2_feat : W2 m ρ c (Proc.devRef .tc main_v20_0) = feature0 (args m c) :=
  (W2_arr m ρ c 6).trans ((region0 (V1 m ρ) c).trans (fusedArr_congr
    (congrArg₂ (embArr Ideal.sin) (points0 (W0 m ρ c)) (W1_args m ρ c main_arg1 (by decide)))
    (congrArg₂ (embArr Ideal.cos) (points0 (W0 m ρ c)) (W1_args m ρ c main_arg1 (by decide)))
    (fuse0 (W0 m ρ c)) (hidden0 (W0 m ρ c)) (inner0 (W0 m ρ c)) (outer0 (W0 m ρ c))))

theorem w6_feat : W6 m ρ c (Proc.devRef .tc main_v132) = feature1 (args m c) :=
  (W6_arr m ρ c 6).trans ((region1 (V5 m ρ) c).trans (fusedArr_congr
    ((feat1 (W2 m ρ c)).trans (w2_feat m ρ c))
    ((pool1 (W2 m ρ c)).trans (take_congr (w2_cells m ρ c) (w2_feat m ρ c)))
    ((fuse1 (W2 m ρ c)).trans (fuse_congr 1 (W2_args m ρ c main_arg2 (by decide)) (W2_args m ρ c main_arg6 (by decide))))
    ((hidden1 (W2 m ρ c)).trans (congrArg (vec32 1) (W2_args m ρ c main_arg3 (by decide))))
    ((inner1 (W2 m ρ c)).trans (congrArg (mat32 1) (W2_args m ρ c main_arg4 (by decide))))
    ((outer1 (W2 m ρ c)).trans (congrArg (vec32 1) (W2_args m ρ c main_arg5 (by decide))))))

theorem w6_cells : W6 m ρ c (Proc.devRef .tc main_v20_1) = cid (args m c) :=
  (W6_of m ρ c main_v20_1 (by decide +kernel)).trans ((cells1 (W2 m ρ c)).trans (w2_cells m ρ c))

theorem w10_feat : W10 m ρ c (Proc.devRef .tc main_v244) = feature2 (args m c) :=
  (W10_arr m ρ c 6).trans ((region2 (V9 m ρ) c).trans (fusedArr_congr
    ((feat2 (W6 m ρ c)).trans (w6_feat m ρ c))
    ((pool2 (W6 m ρ c)).trans (take_congr (w6_cells m ρ c) (w6_feat m ρ c)))
    ((fuse2 (W6 m ρ c)).trans (fuse_congr 2 (W6_args m ρ c main_arg2 (by decide)) (W6_args m ρ c main_arg6 (by decide))))
    ((hidden2 (W6 m ρ c)).trans (congrArg (vec32 2) (W6_args m ρ c main_arg3 (by decide))))
    ((inner2 (W6 m ρ c)).trans (congrArg (mat32 2) (W6_args m ρ c main_arg4 (by decide))))
    ((outer2 (W6 m ρ c)).trans (congrArg (vec32 2) (W6_args m ρ c main_arg5 (by decide))))))

theorem w10_cells : W10 m ρ c (Proc.devRef .tc main_v20_1) = cid (args m c) :=
  (W10_of m ρ c main_v20_1 (by decide +kernel)).trans ((cells2 (W6 m ρ c)).trans (w6_cells m ρ c))

theorem w14_feat : W14 m ρ c (Proc.devRef .tc main_v356) = feature3 (args m c) :=
  (W14_arr m ρ c 6).trans ((region3 (V13 m ρ) c).trans (fusedArr_congr
    ((feat3 (W10 m ρ c)).trans (w10_feat m ρ c))
    ((pool3 (W10 m ρ c)).trans (take_congr (w10_cells m ρ c) (w10_feat m ρ c)))
    ((fuse3 (W10 m ρ c)).trans (fuse_congr 3 (W10_args m ρ c main_arg2 (by decide)) (W10_args m ρ c main_arg6 (by decide))))
    ((hidden3 (W10 m ρ c)).trans (congrArg (vec32 3) (W10_args m ρ c main_arg3 (by decide))))
    ((inner3 (W10 m ρ c)).trans (congrArg (mat32 3) (W10_args m ρ c main_arg4 (by decide))))
    ((outer3 (W10 m ρ c)).trans (congrArg (vec32 3) (W10_args m ρ c main_arg5 (by decide))))))

theorem w14_cells : W14 m ρ c (Proc.devRef .tc main_v20_1) = cid (args m c) :=
  (W14_of m ρ c main_v20_1 (by decide +kernel)).trans ((cells3 (W10 m ρ c)).trans (w10_cells m ρ c))

theorem closeArr_congr {f f' : FVec Ideal S400000x32 .f32} {W W' : FVec Ideal S32x32 .f32} {b b' : FVec Ideal S32 .f32}
    (hf : f = f') (hW : W = W') (hb : b = b') : closeArr f W b = closeArr f' W' b' := by
  rw [hf, hW, hb]

theorem w18_feat : W18 m ρ c (Proc.devRef .tc main_v468) = feature (args m c) :=
  (W18_arr m ρ c 8).trans ((region4 (V17 m ρ) c).trans (closeArr_congr (fusedArr_congr
    ((feat4 (W14 m ρ c)).trans (w14_feat m ρ c))
    ((pool4 (W14 m ρ c)).trans (take_congr (w14_cells m ρ c) (w14_feat m ρ c)))
    ((fuse4 (W14 m ρ c)).trans (fuse_congr 4 (W14_args m ρ c main_arg2 (by decide)) (W14_args m ρ c main_arg6 (by decide))))
    ((hidden4 (W14 m ρ c)).trans (congrArg (vec32 4) (W14_args m ρ c main_arg3 (by decide))))
    ((inner4 (W14 m ρ c)).trans (congrArg (mat32 4) (W14_args m ρ c main_arg4 (by decide))))
    ((outer4 (W14 m ρ c)).trans (congrArg (vec32 4) (W14_args m ρ c main_arg5 (by decide)))))
    (W17_args m ρ c main_arg7 (by decide)) (W17_args m ρ c main_arg8 (by decide))))

theorem w18_cells : W18 m ρ c (Proc.devRef .tc main_v20_1) = cid (args m c) :=
  (W18_of m ρ c main_v20_1 (by decide +kernel)).trans ((cells4 (W14 m ρ c)).trans (w14_cells m ρ c))

/-- The first result: the means of the last feature as images. -/
theorem result_images : W21 m ρ c (Proc.devRef .tc main_v534) = images (means (cid (args m c)) (feature (args m c))) :=
  (images5 (W18 m ρ c)).trans (by rw [w18_cells, w18_feat])

/-- The second result: the last feature. -/
theorem result_feature : W21 m ρ c (Proc.devRef .tc main_v535)
    = (shapeCast S4x100000x32 (feature (args m c)) shapeCasts_S400000x32_S4x100000x32 : FVec Ideal S4x100000x32 .f32) :=
  (feature5 (W18 m ρ c)).trans (by rw [w18_feat])

end Cert.Proof.Ker

end
-- ==== Proof.RefScatter.lean ====
/-
  The reference's host scatters and gather, read at one element: each index is a pair of words, the batch and the cell.
-/
module

public import proofs.«01_k».proof.Proof.Gen.ReferenceIdeal
public import proofs.«01_k».proof.Proof.ScatterSum
public import Idealize.ShloMosaic.Lib.Routing.OpsPair

@[expose] public section

set_option maxRecDepth 16384

noncomputable section

namespace Cert.Proof.Ref

open Idealize.ShloMosaic Cert.ReferenceIdeal Cert.ReferenceIdeal.Gen

/-- Update `(b', n)` lands in cell `k` of batch `b` exactly when its two index words are `b` and `k`, column by column. -/
theorem lands_rows (idx : IVec S4x100000x2 32) (b' : Fin 4) (n : Fin 100000) (c' : Fin 32) (b : Fin 4) (k : Fin 4096) (c : Fin 32) :
    scatter_S4x4096x32_S4x100000x2_S4x100000x32_2_01_01_2.resultIdx? (ix3 b' n c') idx = some (ix3 b k c)
      ↔ ((idx (ix3 b' n 0)).toInt = (b.val : Int) ∧ (idx (ix3 b' n 1)).toInt = (k.val : Int)) ∧ c' = c := by
  have h0 : scatter_S4x4096x32_S4x100000x2_S4x100000x32_2_01_01_2.start (ix3 b' n c') idx 0 = (idx (ix3 b' n 0)).toInt := by
    unfold ScatterDims.start
    rw [dif_pos (by decide)]
    congr 2
    funext a
    match a with
    | ⟨0, _⟩ => rfl
    | ⟨1, _⟩ => rfl
    | ⟨2, _⟩ => rfl
  have h1 : scatter_S4x4096x32_S4x100000x2_S4x100000x32_2_01_01_2.start (ix3 b' n c') idx 1 = (idx (ix3 b' n 1)).toInt := by
    unfold ScatterDims.start
    rw [dif_pos (by decide)]
    congr 2
    funext a
    match a with
    | ⟨0, _⟩ => rfl
    | ⟨1, _⟩ => rfl
    | ⟨2, _⟩ => rfl
  have h2 : scatter_S4x4096x32_S4x100000x2_S4x100000x32_2_01_01_2.start (ix3 b' n c') idx 2 = 0 := by
    unfold ScatterDims.start
    rw [dif_neg (by decide)]
  have w0 : scatter_S4x4096x32_S4x100000x2_S4x100000x32_2_01_01_2.window (ix3 b' n c') 0 = 0 := by
    unfold ScatterDims.window
    rw [dif_neg (by decide)]
  have w1 : scatter_S4x4096x32_S4x100000x2_S4x100000x32_2_01_01_2.window (ix3 b' n c') 1 = 0 := by
    unfold ScatterDims.window
    rw [dif_neg (by decide)]
  have w2 : scatter_S4x4096x32_S4x100000x2_S4x100000x32_2_01_01_2.window (ix3 b' n c') 2 = c'.val := by
    unfold ScatterDims.window
    rw [dif_pos (by decide)]
    rfl
  rw [Routing.resultIdx?_eq_some, Fin.ext_iff]
  constructor
  · intro h
    have a0 := h 0
    have a1 := h 1
    have a2 := h 2
    rw [h0, w0] at a0
    rw [h1, w1] at a1
    rw [h2, w2] at a2
    change _ = (b.val : Int) at a0
    change _ = (k.val : Int) at a1
    change _ = (c.val : Int) at a2
    omega
  · rintro ⟨⟨e0, e1⟩, e2⟩ a
    match a with
    | ⟨0, _⟩ =>
      change ScatterDims.start _ _ _ 0 + (ScatterDims.window _ _ 0 : Int) = (b.val : Int)
      rw [h0, w0]; omega
    | ⟨1, _⟩ =>
      change ScatterDims.start _ _ _ 1 + (ScatterDims.window _ _ 1 : Int) = (k.val : Int)
      rw [h1, w1]; omega
    | ⟨2, _⟩ =>
      change ScatterDims.start _ _ _ 2 + (ScatterDims.window _ _ 2 : Int) = (c.val : Int)
      rw [h2, w2]; omega

/-- Update `(b', n)` of the count lands at cell `k` of batch `b` exactly when its two index words are `b` and `k`. -/
theorem lands_ones (idx : IVec S4x100000x2 32) (b' : Fin 4) (n : Fin 100000) (b : Fin 4) (k : Fin 4096) :
    scatter_S4x4096_S4x100000x2_S4x100000_n_01_01_2.resultIdx? (ix2 b' n) idx = some (ix2 b k)
      ↔ (idx (ix3 b' n 0)).toInt = (b.val : Int) ∧ (idx (ix3 b' n 1)).toInt = (k.val : Int) := by
  have h0 : scatter_S4x4096_S4x100000x2_S4x100000_n_01_01_2.start (ix2 b' n) idx 0 = (idx (ix3 b' n 0)).toInt := by
    unfold ScatterDims.start
    rw [dif_pos (by decide)]
    congr 2
    funext a
    match a with
    | ⟨0, _⟩ => rfl
    | ⟨1, _⟩ => rfl
    | ⟨2, _⟩ => rfl
  have h1 : scatter_S4x4096_S4x100000x2_S4x100000_n_01_01_2.start (ix2 b' n) idx 1 = (idx (ix3 b' n 1)).toInt := by
    unfold ScatterDims.start
    rw [dif_pos (by decide)]
    congr 2
    funext a
    match a with
    | ⟨0, _⟩ => rfl
    | ⟨1, _⟩ => rfl
    | ⟨2, _⟩ => rfl
  have w0 : scatter_S4x4096_S4x100000x2_S4x100000_n_01_01_2.window (ix2 b' n) 0 = 0 := by
    unfold ScatterDims.window
    rw [dif_neg (by decide)]
  have w1 : scatter_S4x4096_S4x100000x2_S4x100000_n_01_01_2.window (ix2 b' n) 1 = 0 := by
    unfold ScatterDims.window
    rw [dif_neg (by decide)]
  rw [Routing.resultIdx?_eq_some]
  constructor
  · intro h
    have a0 := h 0
    have a1 := h 1
    rw [h0, w0] at a0
    rw [h1, w1] at a1
    change _ = (b.val : Int) at a0
    change _ = (k.val : Int) at a1
    omega
  · rintro ⟨e0, e1⟩ a
    match a with
    | ⟨0, _⟩ =>
      change ScatterDims.start _ _ _ 0 + (ScatterDims.window _ _ 0 : Int) = (b.val : Int)
      rw [h0, w0]; omega
    | ⟨1, _⟩ =>
      change ScatterDims.start _ _ _ 1 + (ScatterDims.window _ _ 1 : Int) = (k.val : Int)
      rw [h1, w1]; omega

/-- The scatter-add of rows at one element, when the first index word is the update's own batch. -/
theorem scatterRows_apply (x : FVec Ideal S4x4096x32 .f32) (idx : IVec S4x100000x2 32) (upd : FVec Ideal S4x100000x32 .f32)
    (hb : ∀ (b : Fin 4) (n : Fin 100000), (idx (ix3 b n 0)).toInt = (b.val : Int)) (b : Fin 4) (k : Fin 4096) (c : Fin 32) :
    Host.scatterAdd scatter_S4x4096x32_S4x100000x2_S4x100000x32_2_01_01_2 x idx upd (ix3 b k c)
      = (x (ix3 b k c) + ∑ n : Fin 100000, if (idx (ix3 b n 1)).toInt = (k.val : Int) then upd (ix3 b n c) else 0 : EReal) := by
  rw [scatterAdd_at, sum_idx3]
  refine congrArg (x (ix3 b k c) + · : EReal → EReal) ?_
  rw [Finset.sum_eq_single b]
  · refine Finset.sum_congr rfl fun n _ => ?_
    simp only [lands_rows, hb]
    rw [Finset.sum_eq_single c]
    · simp
    · intro c' _ hc
      rw [if_neg fun h => hc h.2]
    · intro h; exact absurd (Finset.mem_univ _) h
  · intro b' _ hne
    refine Finset.sum_eq_zero fun n _ => Finset.sum_eq_zero fun c' _ => ?_
    refine if_neg fun h => hne (Fin.ext ?_)
    rw [lands_rows, hb] at h
    omega
  · intro h; exact absurd (Finset.mem_univ _) h

/-- The scatter-add of a count at one entry, when the first index word is the update's own batch. -/
theorem scatterOnes_apply (x : FVec Ideal S4x4096 .f32) (idx : IVec S4x100000x2 32) (upd : FVec Ideal S4x100000 .f32)
    (hb : ∀ (b : Fin 4) (n : Fin 100000), (idx (ix3 b n 0)).toInt = (b.val : Int)) (b : Fin 4) (k : Fin 4096) :
    Host.scatterAdd scatter_S4x4096_S4x100000x2_S4x100000_n_01_01_2 x idx upd (ix2 b k)
      = (x (ix2 b k) + ∑ n : Fin 100000, if (idx (ix3 b n 1)).toInt = (k.val : Int) then upd (ix2 b n) else 0 : EReal) := by
  rw [scatterAdd_at, sum_idx2]
  refine congrArg (x (ix2 b k) + · : EReal → EReal) ?_
  rw [Finset.sum_eq_single b]
  · refine Finset.sum_congr rfl fun n _ => ?_
    simp only [lands_ones, hb, true_and]
  · intro b' _ hne
    refine Finset.sum_eq_zero fun n _ => ?_
    refine if_neg fun h => hne (Fin.ext ?_)
    rw [lands_ones, hb] at h
    omega
  · intro h; exact absurd (Finset.mem_univ _) h

/-- The gather takes the row that the two index words name, when they name one. -/
theorem gatherRows_apply (x : FVec Ideal S4x4096x32 .f32) (idx : IVec S4x100000x2 32) (b : Fin 4) (n : Fin 100000) (c : Fin 32)
    (k : Fin 4096) (hb : (idx (ix3 b n 0)).toInt = (b.val : Int)) (hk : (idx (ix3 b n 1)).toInt = (k.val : Int)) :
    Host.gather gather_S4x4096x32_S4x100000x2_S4x100000x32_2_01_n_n_01_2_1132 x idx (ix3 b n c) = x (ix3 b k c) := by
  have h0 : gather_S4x4096x32_S4x100000x2_S4x100000x32_2_01_n_n_01_2_1132.start (ix3 b n c) idx 0 = b.val := by
    unfold GatherDims.start
    rw [dif_pos (by decide)]
    have hi : gather_S4x4096x32_S4x100000x2_S4x100000x32_2_01_n_n_01_2_1132.siIdx (ix3 b n c) ⟨0, by decide⟩ = ix3 b n 0 := by
      funext a
      match a with
      | ⟨0, _⟩ => rfl
      | ⟨1, _⟩ => rfl
      | ⟨2, _⟩ => rfl
    change min (idx (gather_S4x4096x32_S4x100000x2_S4x100000x32_2_01_n_n_01_2_1132.siIdx (ix3 b n c) ⟨0, _⟩)).toInt.toNat (4 - 1) = _
    rw [hi, hb]
    have := b.isLt
    omega
  have h1 : gather_S4x4096x32_S4x100000x2_S4x100000x32_2_01_n_n_01_2_1132.start (ix3 b n c) idx 1 = k.val := by
    unfold GatherDims.start
    rw [dif_pos (by decide)]
    have hi : gather_S4x4096x32_S4x100000x2_S4x100000x32_2_01_n_n_01_2_1132.siIdx (ix3 b n c) ⟨1, by decide⟩ = ix3 b n 1 := by
      funext a
      match a with
      | ⟨0, _⟩ => rfl
      | ⟨1, _⟩ => rfl
      | ⟨2, _⟩ => rfl
    change min (idx (gather_S4x4096x32_S4x100000x2_S4x100000x32_2_01_n_n_01_2_1132.siIdx (ix3 b n c) ⟨1, _⟩)).toInt.toNat (4096 - 1) = _
    rw [hi, hk]
    have := k.isLt
    omega
  unfold Host.gather
  congr 1
  funext a
  apply Fin.ext
  match a with
  | ⟨0, _⟩ =>
    change GatherDims.start _ _ _ 0 + GatherDims.batchCoord _ _ 0 + GatherDims.offCoord _ _ 0 = b.val
    rw [h0, GatherDims.batchCoord_eq_zero _ _ _ (by decide), GatherDims.offCoord_eq_zero _ _ _ (by decide)]
    omega
  | ⟨1, _⟩ =>
    change GatherDims.start _ _ _ 1 + GatherDims.batchCoord _ _ 1 + GatherDims.offCoord _ _ 1 = k.val
    rw [h1, GatherDims.batchCoord_eq_zero _ _ _ (by decide), GatherDims.offCoord_eq_zero _ _ _ (by decide)]
    omega
  | ⟨2, _⟩ =>
    change GatherDims.start _ _ _ 2 + GatherDims.batchCoord _ _ 2 + GatherDims.offCoord _ _ 2 = c.val
    rw [GatherDims.batchCoord_eq_zero _ _ _ (by decide)]
    unfold GatherDims.start GatherDims.offCoord
    rw [dif_neg (by decide), dif_pos (by decide)]
    change 0 + 0 + c.val = c.val
    omega

end Cert.Proof.Ref

end
-- ==== Proof.RefTerms.lean ====
/-
  The reference's composed terms, named: the index pairs, a plane's means, the pooled feature, a residual block; and
  what each holds at an index.
-/
module

public import proofs.«01_k».proof.Proof.RefScatter
public import proofs.«01_k».proof.Proof.Spec
public import Idealize.ShloMosaic.Lib.Tactic.WordOmega

@[expose] public section

set_option maxRecDepth 16384

noncomputable section

namespace Cert.Proof.Ref

open Idealize.ShloMosaic Cert.ReferenceIdeal Cert.ReferenceIdeal.Gen

/-- The batch numbers, one per batch. -/
def batchCol : IVec S4x1 32 := broadcastInDim S4x1 ![0] bcast_S4_S4x1_0 (iotaInDim S4 32 0)

/-- The pairs of index words: the batch beside the cell (each wrapped when negative). -/
def pairIdx (w : IVec S4x100000 32) : IVec S4x100000x2 32 :=
  concatenate S4x100000x2 2 [⟨S4x100000x1, (broadcastInDim S4x100000x1 ![0, 1] bcast_S4x100000_S4x100000x1_0_1 (broadcastInDim S4x100000 ![0, 1] bcast_S4x1_S4x100000_0_1 (select (cmpi .slt batchCol (broadcastInDim S4x1 ![] bcast_S_S4x1 (constantI S_ 32 0#32))) (addi batchCol (broadcastInDim S4x1 ![] bcast_S_S4x1 (constantI S_ 32 4#32))) batchCol)))⟩, ⟨S4x100000x1, (broadcastInDim S4x100000x1 ![0, 1] bcast_S4x100000_S4x100000x1_0_1 (select (cmpi .slt w (broadcastInDim S4x100000 ![] bcast_S_S4x100000 (constantI S_ 32 0#32))) (addi w (broadcastInDim S4x100000 ![] bcast_S_S4x100000 (constantI S_ 32 4096#32))) w))⟩] concatenates_S4x100000x1_S4x100000x1_S4x100000x2_d2

/-- A plane's means. -/
def planeMean (w : IVec S4x100000 32) (f : FVec Ideal S4x100000x32 .f32) : FVec Ideal S4x4096x32 .f32 :=
  Host.divf (Host.scatterAdd scatter_S4x4096x32_S4x100000x2_S4x100000x32_2_01_01_2 (broadcastInDim S4x4096x32 ![] bcast_S_S4x4096x32 (constant S_ .f32 0x00000000#32)) (pairIdx w) f) (broadcastInDim S4x4096x32 ![0, 1, 2] bcast_S4x4096x1_S4x4096x32_0_1_2 (broadcastInDim S4x4096x1 ![0, 1] bcast_S4x4096_S4x4096x1_0_1 (maximumf (broadcastInDim S4x4096 ![] bcast_S_S4x4096 (id (constant S_ .f32 0x3F800000#32))) (Host.scatterAdd scatter_S4x4096_S4x100000x2_S4x100000_n_01_01_2 (broadcastInDim S4x4096 ![] bcast_S_S4x4096 (constant S_ .f32 0x00000000#32)) (pairIdx w) (broadcastInDim S4x100000 ![] bcast_S_S4x100000 (constant S_ .f32 0x3F800000#32))))))

/-- A plane's means taken back to the points. -/
def planeTake (w : IVec S4x100000 32) (f : FVec Ideal S4x100000x32 .f32) : FVec Ideal S4x100000x32 .f32 :=
  Host.gather gather_S4x4096x32_S4x100000x2_S4x100000x32_2_01_n_n_01_2_1132 (planeMean w f) (pairIdx w)

/-- The sum of the three planes' means at each point. -/
def pooled (w0 w1 w2 : IVec S4x100000 32) (f : FVec Ideal S4x100000x32 .f32) : FVec Ideal S4x100000x32 .f32 :=
  addf (addf (planeTake w0 f) (planeTake w1 f)) (planeTake w2 f)

/-- Two features side by side. -/
def join (f g : FVec Ideal S4x100000x32 .f32) : FVec Ideal S4x100000x64 .f32 :=
  concatenate S4x100000x64 2 [⟨S4x100000x32, f⟩, ⟨S4x100000x32, g⟩] concatenates_S4x100000x32_S4x100000x32_S4x100000x64_d2

/-- A bias under every point. -/
def bias (b : FVec Ideal S32 .f32) : FVec Ideal S4x100000x32 .f32 :=
  broadcastInDim S4x100000x32 ![0, 1, 2] bcast_S1x1x32_S4x100000x32_0_1_2 (broadcastInDim S1x1x32 ![2] bcast_S32_S1x1x32_2 b)

/-- The residual block. -/
def block (x : FVec Ideal S4x100000x64 .f32) (W0 : FVec Ideal S64x32 .f32) (b0 : FVec Ideal S32 .f32) (W1 : FVec Ideal S32x32 .f32)
    (b1 : FVec Ideal S32 .f32) (Ws : FVec Ideal S64x32 .f32) : FVec Ideal S4x100000x32 .f32 :=
  addf (Host.dotGeneral dot_S4x100000x64_S64x32_S4x100000x32_2_0_01_1_n_n none x Ws) (addf (Host.dotGeneral dot_S4x100000x32_S32x32_S4x100000x32_2_0_01_1_n_n none (maximumf (addf (Host.dotGeneral dot_S4x100000x64_S64x32_S4x100000x32_2_0_01_1_n_n none (maximumf x (broadcastInDim S4x100000x64 ![] bcast_S_S4x100000x64 (constant S_ .f32 0x00000000#32))) W0) (bias b0)) (broadcastInDim S4x100000x32 ![] bcast_S_S4x100000x32 (constant S_ .f32 0x00000000#32))) W1) (bias b1))

/-- The closing linear layer. -/
def close (x : FVec Ideal S4x100000x32 .f32) (W : FVec Ideal S32x32 .f32) (b : FVec Ideal S32 .f32) : FVec Ideal S4x100000x32 .f32 :=
  addf (Host.dotGeneral dot_S4x100000x32_S32x32_S4x100000x32_2_0_01_1_n_n none x W) (bias b)

/-- A plane's means as an image. -/
def image (g : FVec Ideal S4x4096x32 .f32) : FVec Ideal S4x32x64x64 .f32 :=
  shapeCast _ (transpose S4x32x4096 [0, 2, 1] g transposes_S4x4096x32_S4x32x4096_0_2_1) shapeCasts_S4x32x4096_S4x32x64x64

/-! ### At an index -/

theorem pairIdx_batch (w : IVec S4x100000 32) (b : Fin 4) (n : Fin 100000) : (pairIdx w (ix3 b n 0)).toInt = (b.val : Int) := by
  unfold pairIdx batchCol
  pointwise
  revert b
  decide

theorem pairIdx_cell (w : IVec S4x100000 32) (b : Fin 4) (n : Fin 100000) (h : 0 ≤ (w (ix2 b n)).toInt) :
    pairIdx w (ix3 b n 1) = w (ix2 b n) := by
  unfold pairIdx
  pointwise
  word_omega

theorem planeMean_apply (w : IVec S4x100000 32) (f : FVec Ideal S4x100000x32 .f32) (hw : ∀ b n, 0 ≤ (w (ix2 b n)).toInt)
    (b : Fin 4) (k : Fin 4096) (c : Fin 32) :
    planeMean w f (ix3 b k c) = meanAt (fun n => w (ix2 b n)) (fun n c => f (ix3 b n c)) (k.val : Int) c := by
  unfold planeMean meanAt
  pointwise
  rw [scatterRows_apply _ _ _ (pairIdx_batch w), scatterOnes_apply _ _ _ (pairIdx_batch w)]
  simp only [pairIdx_cell w _ _ (hw _ _), id_eq]
  pointwise

theorem planeTake_apply (w : IVec S4x100000 32) (f : FVec Ideal S4x100000x32 .f32)
    (hw : ∀ b n, 0 ≤ (w (ix2 b n)).toInt ∧ (w (ix2 b n)).toInt < 4096) (b : Fin 4) (n : Fin 100000) (c : Fin 32) :
    planeTake w f (ix3 b n c) = meanAt (fun n => w (ix2 b n)) (fun n c => f (ix3 b n c)) (w (ix2 b n)).toInt c := by
  have hk := hw b n
  have e : ((⟨(w (ix2 b n)).toInt.toNat, by omega⟩ : Fin 4096).val : Int) = (w (ix2 b n)).toInt := by
    change (((w (ix2 b n)).toInt.toNat : Nat) : Int) = _
    omega
  unfold planeTake
  rw [gatherRows_apply _ _ b n c ⟨(w (ix2 b n)).toInt.toNat, by omega⟩ (pairIdx_batch w b n)
    (by rw [pairIdx_cell w b n hk.1]; exact e.symm), planeMean_apply w f (fun b n => (hw b n).1), e]

/-- The pooled feature at a point. -/
theorem pooled_apply (w : Fin 3 → IVec S4x100000 32) (f : FVec Ideal S4x100000x32 .f32)
    (hw : ∀ p b n, 0 ≤ (w p (ix2 b n)).toInt ∧ (w p (ix2 b n)).toInt < 4096) (b : Fin 4) (n : Fin 100000) (c : Fin 32) :
    pooled (w 0) (w 1) (w 2) f (ix3 b n c) = poolAt (fun p n => w p (ix2 b n)) (fun n c => f (ix3 b n c)) n c := by
  unfold pooled poolAt
  rw [← planeTake_apply (w 0) f (hw 0), ← planeTake_apply (w 1) f (hw 1), ← planeTake_apply (w 2) f (hw 2)]
  pointwise

/-- The residual block at a point. -/
theorem block_apply (f g : FVec Ideal S4x100000x32 .f32) (W0 : FVec Ideal S64x32 .f32) (b0 : FVec Ideal S32 .f32)
    (W1 : FVec Ideal S32x32 .f32) (b1 : FVec Ideal S32 .f32) (Ws : FVec Ideal S64x32 .f32) (b : Fin 4) (n : Fin 100000) (c : Fin 32) :
    block (join f g) W0 b0 W1 b1 Ws (ix3 b n c)
      = blockRow (fun k => f (ix3 b n k)) (fun k => g (ix3 b n k)) (fun k j => W0 (ix2 k j)) (fun j => b0 (ix1 j))
          (fun j c => W1 (ix2 j c)) (fun c => b1 (ix1 c)) (fun k j => Ws (ix2 k j)) c := by
  unfold block join bias blockRow
  pointwise

/-- The closing layer at a point. -/
theorem close_apply (x : FVec Ideal S4x100000x32 .f32) (W : FVec Ideal S32x32 .f32) (v : FVec Ideal S32 .f32) (b : Fin 4)
    (n : Fin 100000) (c : Fin 32) :
    close x W v (ix3 b n c) = closeRow (fun k => x (ix3 b n k)) (fun k c => W (ix2 k c)) (fun c => v (ix1 c)) c := by
  unfold close bias closeRow
  pointwise

/-- An image's pixel is its cell's mean. -/
theorem image_apply (g : FVec Ideal S4x4096x32 .f32) (b : Fin 4) (c : Fin 32) (y x : Fin 64) :
    image g (ix4 b c y x) = g (ix3 b ⟨64 * y.val + x.val, by omega⟩ c) := by
  unfold image
  pointwise
  congr 2
  exact Fin.ext (by simp; omega)

end Cert.Proof.Ref

end
-- ==== Proof.RefValue.lean ====
/-
  The reference's results in terms of the named pieces: its cells, its embedding, its five layers, its images.
-/
module

public import proofs.«01_k».proof.Proof.RefTerms
public import proofs.«01_k».proof.Proof.HostDefs
public import Idealize.ShloMosaic.Lib.Tactic.CleanTypes
public import proofs.«01_k».proof.Proof.Gen.ReferenceIdeal.Run

@[expose] public section

set_option maxRecDepth 16384
set_option maxHeartbeats 2000000

noncomputable section

namespace Cert.Proof.Ref

open Idealize.ShloMosaic Idealize.ShloMosaic.StableHlo TcCoe Cert.ReferenceIdeal Cert.ReferenceIdeal.Gen Cert.ReferenceIdeal.Value

variable (V : Valuation τ sig (Elt Ideal))

/-- Layer `i`'s residual block. -/
def layer (i : Fin 5) (x : FVec Ideal S4x100000x64 .f32) : FVec Ideal S4x100000x32 .f32 :=
  block x (mat64 i (V (Proc.devRef .tc main_arg2))) (vec32 i (V (Proc.devRef .tc main_arg3))) (mat32 i (V (Proc.devRef .tc main_arg4)))
    (vec32 i (V (Proc.devRef .tc main_arg5))) (mat64 i (V (Proc.devRef .tc main_arg6)))

/-- A feature beside its pooled feature. -/
def beside (f : FVec Ideal S4x100000x32 .f32) : FVec Ideal S4x100000x64 .f32 :=
  join f (pooled (res_main_v14 V) (res_main_v21 V) (res_main_v28 V) f)

theorem embedding : res_main_v34 V = join (Host.sin (res_main_v31 V : FVec Ideal S4x100000x32 .f32)) (Host.cos (res_main_v31 V : FVec Ideal S4x100000x32 .f32)) := rfl

theorem layer0 : res_main_v56 V = layer V 0 (res_main_v34 V) := by
  unfold layer
  rw [← slice64 0 _ slices_S5x64x32_S1x64x32_0_0_0 shapeCasts_S1x64x32_S64x32, ← slice64 0 _ slices_S5x64x32_S1x64x32_0_0_0 shapeCasts_S1x64x32_S64x32,
    ← sliceVec 0 _ slices_S5x32_S1x32_0_0 shapeCasts_S1x32_S32, ← sliceVec 0 _ slices_S5x32_S1x32_0_0 shapeCasts_S1x32_S32,
    ← slice32 0 _ slices_S5x32x32_S1x32x32_0_0_0 shapeCasts_S1x32x32_S32x32]
  rfl

theorem beside1 : res_main_v223 V = beside V (res_main_v56 V) := by
  unfold res_main_v223 res_main_v167
  rfl

theorem layer1 : res_main_v245 V = layer V 1 (res_main_v223 V) := by
  unfold layer
  rw [← slice64 1 _ slices_S5x64x32_S1x64x32_1_0_0 shapeCasts_S1x64x32_S64x32, ← slice64 1 _ slices_S5x64x32_S1x64x32_1_0_0 shapeCasts_S1x64x32_S64x32,
    ← sliceVec 1 _ slices_S5x32_S1x32_1_0 shapeCasts_S1x32_S32, ← sliceVec 1 _ slices_S5x32_S1x32_1_0 shapeCasts_S1x32_S32,
    ← slice32 1 _ slices_S5x32x32_S1x32x32_1_0_0 shapeCasts_S1x32x32_S32x32]
  rfl

theorem beside2 : res_main_v410 V = beside V (res_main_v245 V) := by
  unfold res_main_v410 res_main_v354
  rfl

theorem layer2 : res_main_v432 V = layer V 2 (res_main_v410 V) := by
  unfold layer
  rw [← slice64 2 _ slices_S5x64x32_S1x64x32_2_0_0 shapeCasts_S1x64x32_S64x32, ← slice64 2 _ slices_S5x64x32_S1x64x32_2_0_0 shapeCasts_S1x64x32_S64x32,
    ← sliceVec 2 _ slices_S5x32_S1x32_2_0 shapeCasts_S1x32_S32, ← sliceVec 2 _ slices_S5x32_S1x32_2_0 shapeCasts_S1x32_S32,
    ← slice32 2 _ slices_S5x32x32_S1x32x32_2_0_0 shapeCasts_S1x32x32_S32x32]
  rfl

theorem beside3 : res_main_v597 V = beside V (res_main_v432 V) := by
  unfold res_main_v597 res_main_v541
  rfl

theorem layer3 : res_main_v619 V = layer V 3 (res_main_v597 V) := by
  unfold layer
  rw [← slice64 3 _ slices_S5x64x32_S1x64x32_3_0_0 shapeCasts_S1x64x32_S64x32, ← slice64 3 _ slices_S5x64x32_S1x64x32_3_0_0 shapeCasts_S1x64x32_S64x32,
    ← sliceVec 3 _ slices_S5x32_S1x32_3_0 shapeCasts_S1x32_S32, ← sliceVec 3 _ slices_S5x32_S1x32_3_0 shapeCasts_S1x32_S32,
    ← slice32 3 _ slices_S5x32x32_S1x32x32_3_0_0 shapeCasts_S1x32x32_S32x32]
  rfl

theorem beside4 : res_main_v784 V = beside V (res_main_v619 V) := by
  unfold res_main_v784 res_main_v728
  rfl

theorem layer4 : res_main_v810 V = close (layer V 4 (res_main_v784 V)) (V (Proc.devRef .tc main_arg7)) (V (Proc.devRef .tc main_arg8)) := by
  unfold layer
  rw [← slice64 4 _ slices_S5x64x32_S1x64x32_4_0_0 shapeCasts_S1x64x32_S64x32, ← slice64 4 _ slices_S5x64x32_S1x64x32_4_0_0 shapeCasts_S1x64x32_S64x32,
    ← sliceVec 4 _ slices_S5x32_S1x32_4_0 shapeCasts_S1x32_S32, ← sliceVec 4 _ slices_S5x32_S1x32_4_0 shapeCasts_S1x32_S32,
    ← slice32 4 _ slices_S5x32x32_S1x32x32_4_0_0 shapeCasts_S1x32x32_S32x32]
  rfl

/-- Three planes' images stacked. -/
def stack (a b c : FVec Ideal S4x32x64x64 .f32) : FVec Ideal S12x32x64x64 .f32 :=
  concatenate S12x32x64x64 0 [⟨S4x32x64x64, a⟩, ⟨S4x32x64x64, b⟩, ⟨S4x32x64x64, c⟩] concatenates_S4x32x64x64_S4x32x64x64_S4x32x64x64_S12x32x64x64_d0

theorem stacked : res_main_v934 V = stack (image (planeMean (res_main_v14 V) (res_main_v810 V)))
    (image (planeMean (res_main_v21 V) (res_main_v810 V))) (image (planeMean (res_main_v28 V) (res_main_v810 V))) := by
  unfold res_main_v934
  rfl

theorem stack_apply (g : Fin 3 → FVec Ideal S4x32x64x64 .f32) (p : Fin 3) (b : Fin 4) (c : Fin 32) (y x : Fin 64) :
    stack (g 0) (g 1) (g 2) (ix4 ⟨p.val * 4 + b.val, by omega⟩ c y x) = g p (ix4 b c y x) := by
  unfold stack
  fin_cases p
  · pointwise
  · pointwise
  · pointwise
    rw [dif_neg (by omega), dif_neg (by omega)]
    congr 2
    exact Fin.ext (by simp only []; omega)

/-! ### The cells -/

theorem ofBits_divisor : Ideal.ofBits .f32 0x3F8CD014#32 = ((2307077 / 2097152 : ℝ) : EReal) := by
  simp [Ideal.ofBits, Ideal.ieee, -EReal.coe_mul]; norm_num

theorem div_divisor (x : EReal) : Ideal.div x (Ideal.ofBits .f32 0x3F8CD014#32) = x * ((2097152 / 2307077 : ℝ) : EReal) := by
  rw [ofBits_divisor, Ideal.div_coe (by norm_num)]
  norm_num

theorem sitofp_63 : FloatOps.sitofp (F := Ideal) .f32 63#32 = (63 : EReal) := by
  show (((63#32 : BitVec 32).toInt : ℝ) : EReal) = (63 : EReal)
  norm_num
  rfl

/-- The reference's words: coordinate by coordinate. -/
theorem coord_apply (b : Fin 4) (n : Fin 100000) (p : Fin 3) :
    res_main_v7 V (ix3 b n p) = coordWord ((V (Proc.devRef .tc main_arg0) : FVec Ideal S4x100000x3 .f32) (ix3 b n p)) := by
  unfold res_main_v7 coordWord
  clean_types
  pointwise
  simp only [id_eq]
  rw [sitofp_63, div_divisor]
  pointwise
  rfl

theorem cell0_apply (b : Fin 4) (n : Fin 100000) :
    res_main_v14 V (ix2 b n) = cellWord (fun p => (V (Proc.devRef .tc main_arg0) : FVec Ideal S4x100000x3 .f32) (ix3 b n p)) 0 := by
  unfold res_main_v14 cellWord
  clean_types
  pointwise
  rw [coord_apply, coord_apply]
  rfl

theorem cell1_apply (b : Fin 4) (n : Fin 100000) :
    res_main_v21 V (ix2 b n) = cellWord (fun p => (V (Proc.devRef .tc main_arg0) : FVec Ideal S4x100000x3 .f32) (ix3 b n p)) 1 := by
  unfold res_main_v21 cellWord
  clean_types
  pointwise
  rw [coord_apply, coord_apply]
  rfl

theorem cell2_apply (b : Fin 4) (n : Fin 100000) :
    res_main_v28 V (ix2 b n) = cellWord (fun p => (V (Proc.devRef .tc main_arg0) : FVec Ideal S4x100000x3 .f32) (ix3 b n p)) 2 := by
  unfold res_main_v28 cellWord
  clean_types
  pointwise
  rw [coord_apply, coord_apply]
  rfl

/-- The phase of a point's feature. -/
theorem phase_apply (b : Fin 4) (n : Fin 100000) (c : Fin 32) :
    res_main_v31 V (ix3 b n c) = phase (fun p => (V (Proc.devRef .tc main_arg0) : FVec Ideal S4x100000x3 .f32) (ix3 b n p))
      (fun p k => (V (Proc.devRef .tc main_arg1) : FVec Ideal S3x32 .f32) (ix2 p k)) c := by
  unfold res_main_v31 phase
  clean_types
  pointwise
  rw [Fin.sum_univ_three]

end Cert.Proof.Ref

end
-- ==== Proof.Equation.lean ====
/-
  The equation: run from the same arguments, the kernel's two results are the reference's.
-/
module

public import proofs.«01_k».proof.Proof.KernelValue
public import proofs.«01_k».proof.Proof.RefValue

@[expose] public section

set_option maxRecDepth 16384

noncomputable section

namespace Cert.Proof

open Idealize.ShloMosaic Idealize.ShloMosaic.StableHlo TcCoe

/-- A feature in rows is a feature by batch. -/
def Flat (f : FVec Ideal Cert.KernelIdeal.S400000x32 .f32) (g : FVec Ideal Cert.KernelIdeal.S4x100000x32 .f32) : Prop :=
  ∀ b n c, f (ix2 (flat b n) c) = g (ix3 b n c)

/-- The reference's arguments are the kernel's. -/
structure Agree (A : Ker.Args) (V : Valuation Cert.ReferenceIdeal.τ Cert.ReferenceIdeal.sig (Elt Ideal)) : Prop where
  a0 : V (Proc.devRef .tc Cert.ReferenceIdeal.main_arg0) = A.a0
  a1 : V (Proc.devRef .tc Cert.ReferenceIdeal.main_arg1) = A.a1
  a2 : V (Proc.devRef .tc Cert.ReferenceIdeal.main_arg2) = A.a2
  a3 : V (Proc.devRef .tc Cert.ReferenceIdeal.main_arg3) = A.a3
  a4 : V (Proc.devRef .tc Cert.ReferenceIdeal.main_arg4) = A.a4
  a5 : V (Proc.devRef .tc Cert.ReferenceIdeal.main_arg5) = A.a5
  a6 : V (Proc.devRef .tc Cert.ReferenceIdeal.main_arg6) = A.a6
  a7 : V (Proc.devRef .tc Cert.ReferenceIdeal.main_arg7) = A.a7
  a8 : V (Proc.devRef .tc Cert.ReferenceIdeal.main_arg8) = A.a8

/-- A point's cells. -/
def cells (A : Ker.Args) : Fin 3 → Fin 4 → Fin 100000 → BitVec 32 := fun p b n => cellWord (fun q => A.a0 (ix3 b n q)) p

theorem pts_flat (A : Ker.Args) (b : Fin 4) (n : Fin 100000) (p : Fin 3) : Ker.pts A (ix2 (flat b n) p) = A.a0 (ix3 b n p) := by
  unfold Ker.pts flat
  pointwise

theorem batch_apply (f : FVec Ideal Cert.KernelIdeal.S400000x32 .f32) (b : Fin 4) (n : Fin 100000) (c : Fin 32) :
    shapeCast Cert.KernelIdeal.S4x100000x32 f Cert.KernelIdeal.Gen.shapeCasts_S400000x32_S4x100000x32 (ix3 b n c) = f (ix2 (flat b n) c) := by
  unfold flat
  pointwise
  exact congrArg (fun r => f (ix2 r c)) (Fin.ext (by simp only []; omega))

theorem layer_apply (A : Ker.Args) (i : Fin 5) (f g : FVec Ideal Cert.KernelIdeal.S400000x32 .f32) (r : Fin 400000) (c : Fin 32) :
    Ker.layer A i f g (ix2 r c) = blockRow (fun k => f (ix2 r k)) (fun k => g (ix2 r k)) (fun k j => mat64 i A.a2 (ix2 k j))
      (fun j => vec32 i A.a3 (ix1 j)) (fun j c => mat32 i A.a4 (ix2 j c)) (fun c => vec32 i A.a5 (ix1 c)) (fun k j => mat64 i A.a6 (ix2 k j)) c := by
  rw [← Ker.fusedRow_fuse]
  unfold Ker.layer Ker.fusedArr
  rfl

theorem feature_apply (A : Ker.Args) (r : Fin 400000) (c : Fin 32) :
    Ker.feature A (ix2 r c) = closeRow (fun k => Ker.round A 4 (Ker.feature3 A) (ix2 r k)) (fun k c => A.a7 (ix2 k c)) (fun c => A.a8 (ix1 c)) c := by
  unfold Ker.feature Ker.closeArr
  rfl

theorem names (A : Ker.Args) : Ker.Names (Ker.cid A) (cells A) := by
  refine ⟨fun p b n => cellWord_range _ p, fun p b n => ?_⟩
  have e : Ker.cid A (ix2 (flat b n) p) = cells A p b n + BitVec.ofNat 32 ((p.val * 4 + b.val) * 4096) := by
    have hd : (flat b n).val / 100000 = b.val := by unfold flat; simp only []; omega
    show cellWord (fun q => Ker.pts A (ix2 (flat b n) q)) p + BitVec.ofNat 32 ((p.val * 4 + (flat b n).val / 100000) * 4096) = _
    rw [hd]
    simp only [pts_flat]
    rfl
  rw [e]
  have r : 0 ≤ (cells A p b n).toInt ∧ (cells A p b n).toInt < 4096 := cellWord_range _ p
  have t : (BitVec.ofNat 32 ((p.val * 4 + b.val) * 4096)).toInt = ((p.val : Int) * 4 + b.val) * 4096 := by
    rw [BitVec.toInt_ofNat', Int.bmod_eq_of_le (by push_cast; omega) (by push_cast; omega)]
    push_cast; ring
  rw [BitVec.toInt_add, t, Int.bmod_eq_of_le (by omega) (by omega)]

section

variable {A : Ker.Args} {V : Valuation Cert.ReferenceIdeal.τ Cert.ReferenceIdeal.sig (Elt Ideal)} (h : Agree A V)
include h

/-- The reference's three cell arrays. -/
def refCells (V : Valuation Cert.ReferenceIdeal.τ Cert.ReferenceIdeal.sig (Elt Ideal)) : Fin 3 → IVec Cert.ReferenceIdeal.S4x100000 32
  | 0 => Cert.ReferenceIdeal.Value.res_main_v14 V
  | 1 => Cert.ReferenceIdeal.Value.res_main_v21 V
  | 2 => Cert.ReferenceIdeal.Value.res_main_v28 V

theorem refCells_apply (p : Fin 3) (b : Fin 4) (n : Fin 100000) : refCells V p (ix2 b n) = cells A p b n := by
  unfold cells
  rw [← h.a0]
  match p with
  | 0 => exact Ref.cell0_apply V b n
  | 1 => exact Ref.cell1_apply V b n
  | 2 => exact Ref.cell2_apply V b n

/-- One layer, on halves that agree. -/
theorem flat_layer (i : Fin 5) {f g : FVec Ideal Cert.KernelIdeal.S400000x32 .f32} {f' g' : FVec Ideal Cert.KernelIdeal.S4x100000x32 .f32}
    (hf : Flat f f') (hg : Flat g g') : Flat (Ker.layer A i f g) (Ref.layer V i (Ref.join f' g')) := by
  intro b n c
  unfold Ref.layer
  rw [layer_apply, Ref.block_apply, h.a2, h.a3, h.a4, h.a5, h.a6]
  rw [show (fun k => f (ix2 (flat b n) k)) = fun k => f' (ix3 b n k) from funext (hf b n),
    show (fun k => g (ix2 (flat b n) k)) = fun k => g' (ix3 b n k) from funext (hg b n)]

/-- The pooled feature of a feature that agrees. -/
theorem flat_pooled {f : FVec Ideal Cert.KernelIdeal.S400000x32 .f32} {f' : FVec Ideal Cert.KernelIdeal.S4x100000x32 .f32} (hf : Flat f f') :
    Flat (Ker.take (Ker.cid A) (Ker.means (Ker.cid A) f)) (Ref.pooled (refCells V 0) (refCells V 1) (refCells V 2) f') := by
  intro b n c
  rw [Ker.take_apply (names A), Ref.pooled_apply (refCells V) f' (fun p b n => by rw [refCells_apply h]; exact cellWord_range _ p)]
  congr 1
  · funext p n
    exact (refCells_apply h p b n).symm
  · funext n c
    exact hf b n c

theorem flat_round (i : Fin 5) {f : FVec Ideal Cert.KernelIdeal.S400000x32 .f32} {f' : FVec Ideal Cert.KernelIdeal.S4x100000x32 .f32} (hf : Flat f f') :
    Flat (Ker.round A i f) (Ref.layer V i (Ref.beside V f')) :=
  flat_layer h i hf (flat_pooled h hf)

theorem flat_emb (g : EReal → EReal) (r : FVec Ideal Cert.KernelIdeal.S4x100000x32 .f32)
    (hr : ∀ i, r i = g (Cert.ReferenceIdeal.Value.res_main_v31 V i)) : Flat (Ker.embArr g (Ker.pts A) A.a1) r := by
  intro b n c
  rw [hr, Ref.phase_apply, h.a0, h.a1]
  show g (phase (fun p => Ker.pts A (ix2 (flat b n) p)) _ c) = _
  simp only [pts_flat]

theorem flat0 : Flat (Ker.feature0 A) (Cert.ReferenceIdeal.Value.res_main_v56 V) := by
  rw [Ref.layer0, Ref.embedding]
  exact flat_layer h 0 (flat_emb h _ _ fun _ => rfl) (flat_emb h _ _ fun _ => rfl)

theorem flat1 : Flat (Ker.feature1 A) (Cert.ReferenceIdeal.Value.res_main_v245 V) := by
  rw [Ref.layer1, Ref.beside1]
  exact flat_round h 1 (flat0 h)

theorem flat2 : Flat (Ker.feature2 A) (Cert.ReferenceIdeal.Value.res_main_v432 V) := by
  rw [Ref.layer2, Ref.beside2]
  exact flat_round h 2 (flat1 h)

theorem flat3 : Flat (Ker.feature3 A) (Cert.ReferenceIdeal.Value.res_main_v619 V) := by
  rw [Ref.layer3, Ref.beside3]
  exact flat_round h 3 (flat2 h)

theorem flat_feature : Flat (Ker.feature A) (Cert.ReferenceIdeal.Value.res_main_v810 V) := by
  intro b n c
  rw [Ref.layer4, Ref.beside4, Ref.close_apply, h.a7, h.a8, feature_apply]
  rw [show (fun k => Ker.round A 4 (Ker.feature3 A) (ix2 (flat b n) k)) = _ from funext (flat_round h 4 (flat3 h) b n)]

/-- The second result. -/
theorem equal_feature :
    shapeCast Cert.KernelIdeal.S4x100000x32 (Ker.feature A) Cert.KernelIdeal.Gen.shapeCasts_S400000x32_S4x100000x32
      = Cert.ReferenceIdeal.Value.res_main_v810 V := by
  funext i
  obtain ⟨b, n, c, rfl⟩ : ∃ b n c, i = ix3 b n c := ⟨i 0, i 1, i 2, by idx_vars i⟩
  refine Eq.trans ?_ (flat_feature h b n c)
  exact batch_apply _ b n c

theorem equal_at (p : Fin 3) (b : Fin 4) (c : Fin 32) (y x : Fin 64) :
    Ker.images (Ker.means (Ker.cid A) (Ker.feature A)) (ix4 ⟨p.val * 4 + b.val, by omega⟩ c y x)
      = Cert.ReferenceIdeal.Value.res_main_v934 V (ix4 ⟨p.val * 4 + b.val, by omega⟩ c y x) := by
  rw [Ker.images_apply, Ker.means_apply (names A), Ref.stacked]
  refine Eq.trans ?_ (Ref.stack_apply (fun p => Ref.image (Ref.planeMean (refCells V p) (Cert.ReferenceIdeal.Value.res_main_v810 V))) p b c y x).symm
  rw [Ref.image_apply, Ref.planeMean_apply _ _ (fun b n => by rw [refCells_apply h]; exact (cellWord_range _ p).1)]
  congr 1
  · funext n
    exact (refCells_apply h p b n).symm
  · funext n c
    exact flat_feature h b n c

/-- The first result. -/
theorem equal_images :
    Ker.images (Ker.means (Ker.cid A) (Ker.feature A)) = Cert.ReferenceIdeal.Value.res_main_v934 V := by
  funext i
  obtain ⟨p, b, c, y, x, rfl⟩ : ∃ (p : Fin 3) (b : Fin 4) (c : Fin 32) (y x : Fin 64), i = ix4 ⟨p.val * 4 + b.val, by omega⟩ c y x := by
    have hi : i = ix4 (i 0) (i 1) (i 2) (i 3) := by idx_vars i; rfl
    have l : (i 0).val < 12 := (i 0).isLt
    refine ⟨⟨(i 0).val / 4, by omega⟩, ⟨(i 0).val % 4, by omega⟩, i 1, i 2, i 3, hi.trans (congrArg (fun a => ix4 a (i 1) (i 2) (i 3)) (Fin.ext ?_))⟩
    exact (by omega : (i 0).val = (i 0).val / 4 * 4 + (i 0).val % 4)
  exact equal_at h p b c y x

end

end Cert.Proof

end
-- ==== Proof.KernelRun.lean ====
/-
  A run of the kernel's program: its two results and its arguments at the end.
-/
module

public import proofs.«01_k».proof.Proof.KernelValue
public import proofs.«01_k».proof.Proof.Gen.KernelIdeal.Frame

@[expose] public section

set_option maxRecDepth 16384

noncomputable section

namespace Cert.Proof.Ker

open Idealize.ShloMosaic Idealize.ShloMosaic.StableHlo Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run ends with the images, the feature, and the arguments as they were. -/
theorem run : θ_run defs (onTc (τ := τ) (main (F := Ideal))) ⟨m, fun _ => 0, ρ⟩ (fun r => ∀ c : Dev nD,
      r.2.mem ((c.tc : Thread nD τ).loc main_v534) = images (means (cid (args m c)) (feature (args m c)))
      ∧ r.2.mem ((c.tc : Thread nD τ).loc main_v535) = shapeCast S4x100000x32 (feature (args m c)) shapeCasts_S400000x32_S4x100000x32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h _ c =>
      ⟨(h c _ (mem_uc main_v534 (by decide))).trans (result_images m ρ c),
       (h c _ (mem_uc main_v535 (by decide))).trans (result_feature m ρ c),
       (h c _ (mem_uc main_arg0 (by decide))).trans (W21_main_arg0 m ρ c),
       (h c _ (mem_uc main_arg1 (by decide))).trans (W21_main_arg1 m ρ c),
       (h c _ (mem_uc main_arg2 (by decide))).trans (W21_main_arg2 m ρ c),
       (h c _ (mem_uc main_arg3 (by decide))).trans (W21_main_arg3 m ρ c),
       (h c _ (mem_uc main_arg4 (by decide))).trans (W21_main_arg4 m ρ c),
       (h c _ (mem_uc main_arg5 (by decide))).trans (W21_main_arg5 m ρ c),
       (h c _ (mem_uc main_arg6 (by decide))).trans (W21_main_arg6 m ρ c),
       (h c _ (mem_uc main_arg7 (by decide))).trans (W21_main_arg7 m ρ c),
       (h c _ (mem_uc main_arg8 (by decide))).trans (W21_main_arg8 m ρ c)⟩)

end Cert.Proof.Ker

end
-- ==== Proof.Claims.lean ====
/-
  The claims, each from the run it speaks of.
-/
module

public import proofs.«01_k».proof.Defs
public import proofs.«01_k».proof.Proof.Equation
public import proofs.«01_k».proof.Proof.KernelRun
public import proofs.«01_k».proof.Proof.Gen.Kernel
public import proofs.«01_k».proof.Proof.Gen.Kernel.Frame
public import proofs.«01_k».proof.Proof.Gen.KernelIdeal
public import proofs.«01_k».proof.Proof.Gen.ReferenceIdeal
public import Idealize.ShloMosaic.Adequacy
public import Idealize.ShloMosaic.Init

@[expose] public section

set_option maxRecDepth 16384

noncomputable section

namespace Cert.Proof

open Idealize.ShloMosaic Idealize.SL.Sem

theorem frame_kernel : Cert.quiescent_Kernel := fun m ρ _ => Cert.Kernel.Gen.frame m ρ

theorem frame_ideal : Cert.quiescent_KernelIdeal := fun m ρ _ => Cert.KernelIdeal.Gen.frame m ρ

theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The named reciprocal has the table's value. -/
theorem preserves : Cert.preserves_Kernel_KernelIdeal :=
  IdealRules.named_const.statement Cert.KernelIdeal.κ "inv_norm" .f32 0x3F68B4C4#32 ((2097152 / 2307077 : ℝ) : EReal) rfl

/-- Both programs run, and end with equal results. -/
theorem algebraic : Cert.algebraic_KernelIdeal_ReferenceIdeal := by
  intro m ρ m' ρ' _ hagree
  refine ⟨_, _, Ker.run m ρ, ?_⟩
  refine (θ_run Cert.ReferenceIdeal.defs _ _).mono (fun _ h c => ?_) (Cert.ReferenceIdeal.Value.run (F := Ideal) m' ρ')
  obtain ⟨h0, h1, h2, h3, h4, h5, h6, h7, h8⟩ := hagree c
  have a : Agree (Ker.args m c) (StableHlo.launchContents m' c) := ⟨h0, h1, h2, h3, h4, h5, h6, h7, h8⟩
  exact ⟨(h c).1.trans (equal_images a).symm, (h c).2.1.trans (equal_feature a).symm, (h c).2.2⟩

end Cert.Proof

end
-- ==== Proof.lean ====
module

public import proofs.«01_k».proof.Defs
public import proofs.«01_k».proof.Proof.Claims

@[expose] public section

noncomputable section

namespace Cert.Proof

theorem claim : Cert.Claim :=
  ⟨Cert.Kernel.Gen.facts, Cert.KernelIdeal.Gen.facts, Cert.ReferenceIdeal.Gen.facts,
    frame_kernel, frame_ideal, frame_reference, preserves, algebraic⟩

end Cert.Proof

end
